-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7))).2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v242) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v98) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v34_0)) (v1 : (c : Dev Cert.QkvIdeal.nD) → Buf (Elt Ideal) ((c.tc : Thread Cert.QkvIdeal.nD Cert.QkvIdeal.τ).loc Cert.QkvIdeal.main_v34_1)) (v2 : (c : Dev Cert.QkvIdeal.nD) → Buf (Elt Ideal) ((c.tc : Thread Cert.QkvIdeal.nD Cert.QkvIdeal.τ).loc Cert.QkvIdeal.main_v34_2)) (v3 : (c : Dev Cert.QkvIdeal.nD) → Buf (Elt Ideal) ((c.tc : Thread Cert.QkvIdeal.nD Cert.QkvIdeal.τ).loc Cert.QkvIdeal.main_v34_3)) (v4 : (c : Dev Cert.QkvIdeal.nD) → Buf (Elt Ideal) ((c.tc : Thread Cert.QkvIdeal.nD Cert.QkvIdeal.τ).loc Cert.QkvIdeal.main_v34_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v34_0) = v0 c
          ∧ r.2.mem ((c.tc : Thread Cert.QkvIdeal.nD Cert.QkvIdeal.τ).loc Cert.QkvIdeal.main_v34_1) = v1 c
          ∧ r.2.mem ((c.tc : Thread Cert.QkvIdeal.nD Cert.QkvIdeal.τ).loc Cert.QkvIdeal.main_v34_2) = v2 c
          ∧ r.2.mem ((c.tc : Thread Cert.QkvIdeal.nD Cert.QkvIdeal.τ).loc Cert.QkvIdeal.main_v34_3) = v3 c
          ∧ r.2.mem ((c.tc : Thread Cert.QkvIdeal.nD Cert.QkvIdeal.τ).loc Cert.QkvIdeal.main_v34_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v87) = v0 c
          ∧ r.2.mem ((c.tc : Thread Cert.QkvRefIdeal.nD Cert.QkvRefIdeal.τ).loc Cert.QkvRefIdeal.main_v89) = v1 c
          ∧ r.2.mem ((c.tc : Thread Cert.QkvRefIdeal.nD Cert.QkvRefIdeal.τ).loc Cert.QkvRefIdeal.main_v91) = v2 c
          ∧ r.2.mem ((c.tc : Thread Cert.QkvRefIdeal.nD Cert.QkvRefIdeal.τ).loc Cert.QkvRefIdeal.main_v92) = v3 c
          ∧ r.2.mem ((c.tc : Thread Cert.QkvRefIdeal.nD Cert.QkvRefIdeal.τ).loc Cert.QkvRefIdeal.main_v93) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v17) = v0 c
          ∧ r.2.mem ((c.tc : Thread Cert.CtxRefIdeal.nD Cert.CtxRefIdeal.τ).loc Cert.CtxRefIdeal.main_v20) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1_0)) (v1 : (c : Dev Cert.ModIdeal.nD) → Buf (Elt Ideal) ((c.tc : Thread Cert.ModIdeal.nD Cert.ModIdeal.τ).loc Cert.ModIdeal.main_v1_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1_0) = v0 c
          ∧ r.2.mem ((c.tc : Thread Cert.ModIdeal.nD Cert.ModIdeal.τ).loc Cert.ModIdeal.main_v1_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_v11) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hKernel : Cert.Kernel.Facts) (hKernelIdeal : Cert.KernelIdeal.Facts) (hReferenceIdeal : Cert.ReferenceIdeal.Facts) (hPool : Cert.Pool.Facts) (hPoolIdeal : Cert.PoolIdeal.Facts) (hPoolRefIdeal : Cert.PoolRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hCtx : Cert.Ctx.Facts) (hCtxIdeal : Cert.CtxIdeal.Facts) (hCtxRefIdeal : Cert.CtxRefIdeal.Facts) (hMod : Cert.Mod.Facts) (hModIdeal : Cert.ModIdeal.Facts) (hModRefIdeal : Cert.ModRefIdeal.Facts) (hPre_finite : Cert.Pre_finite.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Mod (hMod := hMod)
    ∧ quiescent_ModIdeal (hModIdeal := hModIdeal)
    ∧ quiescent_ModRefIdeal (hModRefIdeal := hModRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Ctx_CtxIdeal
    ∧ algebraic_CtxIdeal_CtxRefIdeal (hCtxIdeal := hCtxIdeal) (hCtxRefIdeal := hCtxRefIdeal)
    ∧ preserves_Mod_ModIdeal
    ∧ algebraic_ModIdeal_ModRefIdeal (hModIdeal := hModIdeal) (hModRefIdeal := hModRefIdeal)
-- ==== Pre_finite.lean ====
abbrev S16x2048x1024 : Shape := ⟨3, ![16, 2048, 1024]⟩
abbrev S16x256x1024 : Shape := ⟨3, ![16, 256, 1024]⟩
abbrev S16x1024x2048 : Shape := ⟨3, ![16, 1024, 2048]⟩
abbrev S16x1024x256 : Shape := ⟨3, ![16, 1024, 256]⟩
abbrev S1x4x64 : Shape := ⟨3, ![1, 4, 64]⟩
abbrev S1x128 : Shape := ⟨2, ![1, 128]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  bcast_S_S16x256x1024 : S_.BroadcastsInDim S16x256x1024 (![] : Fin 0 → Fin S16x256x1024.rank)
  bcast_S_S16x1024x2048 : S_.BroadcastsInDim S16x1024x2048 (![] : Fin 0 → Fin S16x1024x2048.rank)
  bcast_S_S16x1024x256 : S_.BroadcastsInDim S16x1024x256 (![] : Fin 0 → Fin S16x1024x256.rank)
  bcast_S_S1x4x64 : S_.BroadcastsInDim S1x4x64 (![] : Fin 0 → Fin S1x4x64.rank)

variable [Facts]

def fn_part1 {F : FTy → Type} [FloatOps F] (main_arg5 : FVec F S1x4x64 .f32) (main_v3 : IVec S16x2048x1024 1) (main_v7 : IVec S16x2048x1024 1) (main_v11 : IVec S16x256x1024 1) (main_v15 : IVec S16x1024x2048 1) (main_v17 : FVec F S16x1024x256 .f32) (main_v18 : FVec F S16x1024x256 .f32) : IVec S16x2048x1024 1 × IVec S16x2048x1024 1 × IVec S16x256x1024 1 × IVec S16x1024x2048 1 × IVec S16x1024x256 1 × IVec S1x4x64 1 :=
  let main_v19 : IVec S16x1024x256 1 := cmpf .olt main_v17 main_v18
  let main_v20 : FVec F S1x4x64 .f32 := Host.absf main_arg5
  let main_cst_4 : FVec F S_ .f32 := constant S_ .f32 0x7F800000#32
  let main_v21 : FVec F S1x4x64 .f32 := broadcastInDim S1x4x64 ![] bcast_S_S1x4x64 main_cst_4
  let main_v22 : IVec S1x4x64 1 := cmpf .olt main_v20 main_v21
  (main_v3, main_v7, main_v11, main_v15, main_v19, main_v22)

def fn {F : FTy → Type} [FloatOps F] (main_arg0 : FVec F S16x2048x1024 .bf16) (main_arg1 : FVec F S16x2048x1024 .bf16) (main_arg2 : FVec F S16x256x1024 .bf16) (main_arg3 : FVec F S16x1024x2048 .bf16) (main_arg4 : FVec F S16x1024x256 .bf16) (main_arg5 : FVec F S1x4x64 .f32) (main_arg6 : FVec F S1x128 .f32) : IVec S16x2048x1024 1 × IVec S16x2048x1024 1 × IVec S16x256x1024 1 × IVec S16x1024x2048 1 × IVec S16x1024x256 1 × IVec S1x4x64 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x1024 .f32 := (extf .f32 · bitsLt_bf16_f32) main_arg1
  let main_v5 : FVec F S16x2048x1024 .f32 := Host.absf main_v4
  let main_cst_0 : FVec F S_ .f32 := constant S_ .f32 0x7F800000#32
  let main_v6 : FVec F S16x2048x1024 .f32 := broadcastInDim S16x2048x1024 ![] bcast_S_S16x2048x1024 main_cst_0
  let main_v7 : IVec S16x2048x1024 1 := cmpf .olt main_v5 main_v6
  let main_v8 : FVec F S16x256x1024 .f32 := (extf .f32 · bitsLt_bf16_f32) main_arg2
  let main_v9 : FVec F S16x256x1024 .f32 := Host.absf main_v8
  let main_cst_1 : FVec F S_ .f32 := constant S_ .f32 0x7F800000#32
  let main_v10 : FVec F S16x256x1024 .f32 := broadcastInDim S16x256x1024 ![] bcast_S_S16x256x1024 main_cst_1
  let main_v11 : IVec S16x256x1024 1 := cmpf .olt main_v9 main_v10
  let main_v12 : FVec F S16x1024x2048 .f32 := (extf .f32 · bitsLt_bf16_f32) main_arg3
  let main_v13 : FVec F S16x1024x2048 .f32 := Host.absf main_v12
  let main_cst_2 : FVec F S_ .f32 := constant S_ .f32 0x7F800000#32
  let main_v14 : FVec F S16x1024x2048 .f32 := broadcastInDim S16x1024x2048 ![] bcast_S_S16x1024x2048 main_cst_2
  let main_v15 : IVec S16x1024x2048 1 := cmpf .olt main_v13 main_v14
  let main_v16 : FVec F S16x1024x256 .f32 := (extf .f32 · bitsLt_bf16_f32) main_arg4
  let main_v17 : FVec F S16x1024x256 .f32 := Host.absf main_v16
  let main_cst_3 : FVec F S_ .f32 := constant S_ .f32 0x7F800000#32
  let main_v18 : FVec F S16x1024x256 .f32 := broadcastInDim S16x1024x256 ![] bcast_S_S16x1024x256 main_cst_3
  fn_part1 (F := F) main_arg5 main_v3 main_v7 main_v11 main_v15 main_v17 main_v18
-- ==== Pre_finite_pool.lean ====
abbrev S16x2048x1024 : Shape := ⟨3, ![16, 2048, 1024]⟩
abbrev S1x4x256x256 : Shape := ⟨4, ![1, 4, 256, 256]⟩
abbrev S1x1024 : Shape := ⟨2, ![1, 1024]⟩
abbrev S2x24x1x6144 : Shape := ⟨4, ![2, 24, 1, 6144]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S_ : Shape := ⟨0, ![]⟩

class Facts : Prop where
  bcast_S_S16x2048x1024 : S_.BroadcastsInDim S16x2048x1024 (![] : Fin 0 → Fin S16x2048x1024.rank)
  bcast_S_S2x24x1x6144 : S_.BroadcastsInDim S2x24x1x6144 (![] : Fin 0 → Fin S2x24x1x6144.rank)

variable [Facts]

def fn {F : FTy → Type} [FloatOps F] (main_arg0 : FVec F S16x2048x1024 .f32) (main_arg1 : FVec F S1x4x256x256 .f32) (main_arg2 : FVec F S1x1024 .f32) (main_arg3 : FVec F S2x24x1x6144 .f32) (main_arg4 : FVec F S2x2x1024 .f32) (main_arg5 : FVec F S2x2x1024 .f32) (main_arg6 : FVec F S2x1024x5632 .bf16) (main_arg7 : FVec F S2x2816x1024 .bf16) : IVec S16x2048x1024 1 × IVec S2x24x1x6144 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S2x24x1x6144 .f32 := Host.absf main_arg3
  let main_cst_0 : FVec F S_ .f32 := constant S_ .f32 0x7F800000#32
  let main_v4 : FVec F S2x24x1x6144 .f32 := broadcastInDim S2x24x1x6144 ![] bcast_S_S2x24x1x6144 main_cst_0
  let main_v5 : IVec S2x24x1x6144 1 := cmpf .olt main_v3 main_v4
  (main_v2, main_v5)
-- ==== Kernel.lean ====
abbrev S16x2048x1024 : Shape := ⟨3, ![16, 2048, 1024]⟩
abbrev S16x256x1024 : Shape := ⟨3, ![16, 256, 1024]⟩
abbrev S16x1024x2048 : Shape := ⟨3, ![16, 1024, 2048]⟩
abbrev S16x1024x256 : Shape := ⟨3, ![16, 1024, 256]⟩
abbrev S1x4x64 : Shape := ⟨3, ![1, 4, 64]⟩
abbrev S1x128 : Shape := ⟨2, ![1, 128]⟩
abbrev S128x1 : Shape := ⟨2, ![128, 1]⟩
abbrev S1x2048x256 : Shape := ⟨3, ![1, 2048, 256]⟩
abbrev S1x256x256 : Shape := ⟨3, ![1, 256, 256]⟩
abbrev S1x256x2048 : Shape := ⟨3, ![1, 256, 2048]⟩
abbrev S2304x256 : Shape := ⟨2, ![2304, 256]⟩
abbrev S1x256 : Shape := ⟨2, ![1, 256]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S16x2304 : Shape := ⟨2, ![16, 2304]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S2304x128 : Shape := ⟨2, ![2304, 128]⟩
abbrev S1x128x2048 : Shape := ⟨3, ![1, 128, 2048]⟩
abbrev S128x2048 : Shape := ⟨2, ![128, 2048]⟩
abbrev S1x128x256 : Shape := ⟨3, ![1, 128, 256]⟩
abbrev S128x256 : Shape := ⟨2, ![128, 256]⟩
abbrev S128x2304 : Shape := ⟨2, ![128, 2304]⟩
abbrev S144x2304 : Shape := ⟨2, ![144, 2304]⟩
abbrev S1x128x128 : Shape := ⟨3, ![1, 128, 128]⟩
abbrev S128x128 : Shape := ⟨2, ![128, 128]⟩
abbrev S18x128x256 : Shape := ⟨3, ![18, 128, 256]⟩
abbrev S256 : Shape := ⟨1, ![256]⟩
abbrev S144x256 : Shape := ⟨2, ![144, 256]⟩
abbrev S128 : Shape := ⟨1, ![128]⟩

abbrev nBuf : Space → Nat
  | .hbm => 9
  | .vmem => 32
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x256x1024, .bf16⟩
  | .hbm, ⟨3, _⟩ => ⟨S16x1024x2048, .bf16⟩
  | .hbm, ⟨4, _⟩ => ⟨S16x1024x256, .bf16⟩
  | .hbm, ⟨5, _⟩ => ⟨S1x4x64, .f32⟩
  | .hbm, ⟨6, _⟩ => ⟨S1x128, .f32⟩
  | .hbm, ⟨7, _⟩ => ⟨S128x1, .f32⟩
  | .hbm, ⟨8, _⟩ => ⟨S16x2048x1024, .bf16⟩
  | .local _ .vmem, ⟨0, _⟩ => ⟨S1x4x64, .f32⟩
  | .local _ .vmem, ⟨1, _⟩ => ⟨S128x1, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x256, .bf16⟩
  | .local _ .vmem, ⟨11, _⟩ => ⟨S1x256x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S2304x256, .f32⟩
  | .local _ .vmem, ⟨15, _⟩ => ⟨S2304x256, .f32⟩
  | .local _ .vmem, ⟨16, _⟩ => ⟨S2304x256, .f32⟩
  | .local _ .vmem, ⟨17, _⟩ => ⟨S2304x256, .f32⟩
  | .local _ .vmem, ⟨18, _⟩ => ⟨S2304x256, .f32⟩
  | .local _ .vmem, ⟨19, _⟩ => ⟨S2304x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2304x256, .bf16⟩
  | .local _ .vmem, ⟨27, _⟩ => ⟨S2304x256, .bf16⟩
  | .local _ .vmem, ⟨28, _⟩ => ⟨S2304x256, .bf16⟩
  | .local _ .vmem, ⟨29, _⟩ => ⟨S2304x256, .bf16⟩
  | .local _ .vmem, ⟨30, _⟩ => ⟨S2304x256, .bf16⟩
  | .local _ .vmem, ⟨31, _⟩ => ⟨S2304x256, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_scratch13 : Ref sig .tc := ⟨.vmem, 27, rfl⟩
abbrev cc0_scratch14 : Ref sig .tc := ⟨.vmem, 28, rfl⟩
abbrev cc0_scratch15 : Ref sig .tc := ⟨.vmem, 29, rfl⟩
abbrev cc0_scratch16 : Ref sig .tc := ⟨.vmem, 30, rfl⟩
abbrev cc0_scratch17 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2048x1024 : Shape := ⟨3, ![16, 2048, 1024]⟩
abbrev S16x256x1024 : Shape := ⟨3, ![16, 256, 1024]⟩
abbrev S16x1024x2048 : Shape := ⟨3, ![16, 1024, 2048]⟩
abbrev S16x1024x256 : Shape := ⟨3, ![16, 1024, 256]⟩
abbrev S1x4x64 : Shape := ⟨3, ![1, 4, 64]⟩
abbrev S1x128 : Shape := ⟨2, ![1, 128]⟩
abbrev S16x2048x8x2x64 : Shape := ⟨5, ![16, 2048, 8, 2, 64]⟩
abbrev S16x2304x1024 : Shape := ⟨3, ![16, 2304, 1024]⟩
abbrev S16x2304x8x2x64 : Shape := ⟨5, ![16, 2304, 8, 2, 64]⟩
abbrev S16x1024x2304 : Shape := ⟨3, ![16, 1024, 2304]⟩
abbrev S16x8x128x2304 : Shape := ⟨4, ![16, 8, 128, 2304]⟩
abbrev S4x64 : Shape := ⟨2, ![4, 64]⟩
abbrev S1x64 : Shape := ⟨2, ![1, 64]⟩
abbrev S64 : Shape := ⟨1, ![64]⟩
abbrev S_ : Shape := ⟨0, ![]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x128x2048 : Shape := ⟨4, ![16, 8, 128, 2048]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x256x1024, .bf16⟩
  | .hbm, ⟨3, _⟩ => ⟨S16x1024x2048, .bf16⟩
  | .hbm, ⟨4, _⟩ => ⟨S16x1024x256, .bf16⟩
  | .hbm, ⟨5, _⟩ => ⟨S1x4x64, .f32⟩
  | .hbm, ⟨6, _⟩ => ⟨S1x128, .f32⟩
  | .hbm, ⟨7, _⟩ => ⟨S16x2048x1024, .f32⟩
  | .hbm, ⟨8, _⟩ => ⟨S16x2048x8x2x64, .f32⟩
  | .hbm, ⟨9, _⟩ => ⟨S16x2304x1024, .bf16⟩
  | .hbm, ⟨10, _⟩ => ⟨S16x2304x1024, .f32⟩
  | .hbm, ⟨11, _⟩ => ⟨S16x2304x8x2x64, .f32⟩
  | .hbm, ⟨12, _⟩ => ⟨S16x1024x2304, .bf16⟩
  | .hbm, ⟨13, _⟩ => ⟨S16x1024x2304, .f32⟩
  | .hbm, ⟨14, _⟩ => ⟨S16x8x128x2304, .f32⟩
  | .hbm, ⟨15, _⟩ => ⟨S4x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16x2048x8x2x64, .f32⟩
  | .hbm, ⟨38, _⟩ => ⟨S16x2048x8x2x64, .f32⟩
  | .hbm, ⟨39, _⟩ => ⟨S16x8x2x2048x2304, .f32⟩
  | .hbm, ⟨40, _⟩ => ⟨S_, .f32⟩
  | .hbm, ⟨41, _⟩ => ⟨S16x8x2x2048, .f32⟩
  | .hbm, ⟨42, _⟩ => ⟨S_, .f32⟩
  | .hbm, ⟨43, _⟩ => ⟨S16x8x2x2048, .f32⟩
  | .hbm, ⟨44, _⟩ => ⟨S16x8x2x2048, .f32⟩
  | .hbm, ⟨45, _⟩ => ⟨S16x8x2x2048x1, .f32⟩
  | .hbm, ⟨46, _⟩ => ⟨S16x8x2x2048x2304, .f32⟩
  | .hbm, ⟨47, _⟩ => ⟨S16x8x2x2048x2304, .f32⟩
  | .hbm, ⟨48, _⟩ => ⟨S16x8x2x2048x2304, .f32⟩
  | .hbm, ⟨49, _⟩ => ⟨S_, .f32⟩
  | .hbm, ⟨50, _⟩ => ⟨S16x8x2x2048, .f32⟩
  | .hbm, ⟨51, _⟩ => ⟨S16x8x2x2048x1, .f32⟩
  | .hbm, ⟨52, _⟩ => ⟨S16x8x2x2048x2304, .f32⟩
  | .hbm, ⟨53, _⟩ => ⟨S16x8x2x2048x2304, .f32⟩
  | .hbm, ⟨54, _⟩ => ⟨S16x8x1x2048x2304, .f32⟩
  | .hbm, ⟨55, _⟩ => ⟨S16x8x2048x2304, .f32⟩
  | .hbm, ⟨56, _⟩ => ⟨S16x8x1x2048x2304, .f32⟩
  | .hbm, ⟨57, _⟩ => ⟨S16x8x2048x2304, .f32⟩
  | .hbm, ⟨58, _⟩ => ⟨S16x8x2048x2304, .f32⟩
  | .hbm, ⟨59, _⟩ => ⟨S16x8x2048x2304, .f32⟩
  | .hbm, ⟨60, _⟩ => ⟨S16x8x2048x2304, .f32⟩
  | .hbm, ⟨61, _⟩ => ⟨S16x8x128x2048, .f32⟩
  | .hbm, ⟨62, _⟩ => ⟨S16x2048x8x128, .f32⟩
  | .hbm, ⟨63, _⟩ => ⟨S16x2048x8x128, .f32⟩
  | .hbm, ⟨64, _⟩ => ⟨S_, .f32⟩
  | .hbm, ⟨65, _⟩ => ⟨S16x2048x8, .f32⟩
  | .hbm, ⟨66, _⟩ => ⟨S16x2048x8x1, .f32⟩
  | .hbm, ⟨67, _⟩ => ⟨S_, .f32⟩
  | .hbm, ⟨68, _⟩ => ⟨S16x2048x8x1, .f32⟩
  | .hbm, ⟨69, _⟩ => ⟨S16x2048x8x1, .f32⟩
  | .hbm, ⟨70, _⟩ => ⟨S_, .f32⟩
  | .hbm, ⟨71, _⟩ => ⟨S16x2048x8x1, .f32⟩
  | .hbm, ⟨72, _⟩ => ⟨S16x2048x8x1, .f32⟩
  | .hbm, ⟨73, _⟩ => ⟨S16x2048x8x1, .f32⟩
  | .hbm, ⟨74, _⟩ => ⟨S16x2048x8x128, .f32⟩
  | .hbm, ⟨75, _⟩ => ⟨S16x2048x8x128, .f32⟩
  | .hbm, ⟨76, _⟩ => ⟨S128, .f32⟩
  | .hbm, ⟨77, _⟩ => ⟨S1x1x1x128, .f32⟩
  | .hbm, ⟨78, _⟩ => ⟨S16x2048x8x128, .f32⟩
  | .hbm, ⟨79, _⟩ => ⟨S16x2048x8x128, .f32⟩
  | .hbm, ⟨80, _⟩ => ⟨S_, .f32⟩
  | .hbm, ⟨81, _⟩ => ⟨S16x2048x8x128, .f32⟩
  | .hbm, ⟨82, _⟩ => ⟨S16x2048x8x128, .f32⟩
  | .hbm, ⟨83, _⟩ => ⟨S16x2048x8x128, .bf16⟩
  | .hbm, ⟨84, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Pool.lean ====
abbrev S16x2048x1024 : Shape := ⟨3, ![16, 2048, 1024]⟩
abbrev S1x4x256x256 : Shape := ⟨4, ![1, 4, 256, 256]⟩
abbrev S1x1024 : Shape := ⟨2, ![1, 1024]⟩
abbrev S2x24x1x6144 : Shape := ⟨4, ![2, 24, 1, 6144]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x1024x1024 : Shape := ⟨3, ![1, 1024, 1024]⟩
abbrev S1x8x1024 : Shape := ⟨3, ![1, 8, 1024]⟩
abbrev S1x1x1x1024 : Shape := ⟨4, ![1, 1, 1, 1024]⟩
abbrev S1x2x1024 : Shape := ⟨3, ![1, 2, 1024]⟩
abbrev S1x1024x5632 : Shape := ⟨3, ![1, 1024, 5632]⟩
abbrev S1x2816x1024 : Shape := ⟨3, ![1, 2816, 1024]⟩
abbrev S272x1024 : Shape := ⟨2, ![272, 1024]⟩
abbrev S8x1024 : Shape := ⟨2, ![8, 1024]⟩
abbrev S1x256x1024 : Shape := ⟨3, ![1, 256, 1024]⟩
abbrev S256x1024 : Shape := ⟨2, ![256, 1024]⟩
abbrev S256x1 : Shape := ⟨2, ![256, 1]⟩
abbrev S256x256 : Shape := ⟨2, ![256, 256]⟩
abbrev S1x1x256x256 : Shape := ⟨4, ![1, 1, 256, 256]⟩
abbrev S1x1x1024 : Shape := ⟨3, ![1, 1, 1024]⟩
abbrev S256 : Shape := ⟨1, ![256]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 10
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S1x4x256x256, .f32⟩
  | .hbm, ⟨2, _⟩ => ⟨S1x1024, .f32⟩
  | .hbm, ⟨3, _⟩ => ⟨S2x24x1x6144, .f32⟩
  | .hbm, ⟨4, _⟩ => ⟨S2x2x1024, .f32⟩
  | .hbm, ⟨5, _⟩ => ⟨S2x2x1024, .f32⟩
  | .hbm, ⟨6, _⟩ => ⟨S2x1024x5632, .bf16⟩
  | .hbm, ⟨7, _⟩ => ⟨S2x2816x1024, .bf16⟩
  | .hbm, ⟨8, _⟩ => ⟨S1x4x256x256, .bf16⟩
  | .hbm, ⟨9, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x4x256x256, .bf16⟩
  | .local _ .vmem, ⟨11, _⟩ => ⟨S1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x2x1024, .f32⟩
  | .local _ .vmem, ⟨21, _⟩ => ⟨S1x2x1024, .f32⟩
  | .local _ .vmem, ⟨22, _⟩ => ⟨S1x1024x5632, .bf16⟩
  | .local _ .vmem, ⟨23, _⟩ => ⟨S1x2816x1024, .bf16⟩
  | .local _ .vmem, ⟨24, _⟩ => ⟨S1x1024x1024, .f32⟩
  | .local _ .vmem, ⟨25, _⟩ => ⟨S1x1024x1024, .f32⟩
  | .local _ .vmem, ⟨26, _⟩ => ⟨S272x1024, .f32⟩
  | .local _ .vmem, ⟨27, _⟩ => ⟨S272x1024, .f32⟩
  | .local _ .vmem, ⟨28, _⟩ => ⟨S272x1024, .f32⟩
  | .local _ .vmem, ⟨29, _⟩ => ⟨S272x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, arg0.toNat, c0_i32.toNat, c1_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, arg0.toNat, c0_i32.toNat, c2_i32.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, arg0.toNat, c0_i32.toNat, c3_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, arg0.toNat, c0_i32.toNat, c4_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, arg0.toNat, c0_i32.toNat, c5_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PoolRefIdeal.lean ====
abbrev S16x2048x1024 : Shape := ⟨3, ![16, 2048, 1024]⟩
abbrev S1x4x256x256 : Shape := ⟨4, ![1, 4, 256, 256]⟩
abbrev S1x1024 : Shape := ⟨2, ![1, 1024]⟩
abbrev S2x24x1x6144 : Shape := ⟨4, ![2, 24, 1, 6144]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x16x1x6144 : Shape := ⟨4, ![1, 16, 1, 6144]⟩
abbrev S16x1x6144 : Shape := ⟨3, ![16, 1, 6144]⟩
abbrev S16x1x1024 : Shape := ⟨3, ![16, 1, 1024]⟩
abbrev S_ : Shape := ⟨0, ![]⟩
abbrev S4x256x256 : Shape := ⟨3, ![4, 256, 256]⟩
abbrev S1024 : Shape := ⟨1, ![1024]⟩
abbrev S16x2049x1024 : Shape := ⟨3, ![16, 2049, 1024]⟩
abbrev S2048 : Shape := ⟨1, ![2048]⟩
abbrev S16x2049x256 : Shape := ⟨3, ![16, 2049, 256]⟩
abbrev S2048x1 : Shape := ⟨2, ![2048, 1]⟩
abbrev S16x2048x256 : Shape := ⟨3, ![16, 2048, 256]⟩
abbrev S1x2048x1 : Shape := ⟨3, ![1, 2048, 1]⟩
abbrev S16x2048x1x256 : Shape := ⟨4, ![16, 2048, 1, 256]⟩
abbrev S16x2048x4x256 : Shape := ⟨4, ![16, 2048, 4, 256]⟩
abbrev S4x256x16x2048 : Shape := ⟨4, ![4, 256, 16, 2048]⟩
abbrev S1x1x1024 : Shape := ⟨3, ![1, 1, 1024]⟩
abbrev S1x2x1024 : Shape := ⟨3, ![1, 2, 1024]⟩
abbrev S2x1024 : Shape := ⟨2, ![2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048 : Shape := ⟨2, ![16, 2048]⟩
abbrev S16x2048x1 : Shape := ⟨3, ![16, 2048, 1]⟩
abbrev S16x2048x5632 : Shape := ⟨3, ![16, 2048, 5632]⟩
abbrev S16x2048x2816 : Shape := ⟨3, ![16, 2048, 2816]⟩

abbrev nBuf : Space → Nat
  | .hbm => 360
  | .vmem => 0
  | .smem => 0
  | _ => 0

abbrev hbmTy0_0 (i : Nat) : BufTy := match i % 128 with
  | 0 => ⟨S16x2048x1024, .f32⟩
  | 1 => ⟨S1x4x256x256, .f32⟩
  | 2 => ⟨S1x1024, .f32⟩
  | 3 => ⟨S2x24x1x6144, .f32⟩
  | 4 => ⟨S2x2x1024, .f32⟩
  | 5 => ⟨S2x2x1024, .f32⟩
  | 6 => ⟨S2x1024x5632, .bf16⟩
  | 7 => ⟨S2x2816x1024, .bf16⟩
  | 8 => ⟨S1x16x1x6144, .f32⟩
  | 9 => ⟨S16x1x6144, .f32⟩
  | 10 => ⟨S16x1x1024, .f32⟩
  | 11 => ⟨S16x1x1024, .f32⟩
  | 12 => ⟨S16x1x1024, .f32⟩
  | 13 => ⟨S16x1x1024, .f32⟩
  | 14 => ⟨S16x1x1024, .f32⟩
  | 15 => ⟨S16x1x1024, .f32⟩
  | 16 => ⟨S_, .f32⟩
  | 17 => ⟨S16x1x1024, .f32⟩
  | 18 => ⟨S16x1x1024, .f32⟩
  | 19 => ⟨S16x2048x1024, .f32⟩
  | 20 => ⟨S16x2048x1024, .f32⟩
  | 21 => ⟨S16x2048x1024, .f32⟩
  | 22 => ⟨S16x2048x1024, .f32⟩
  | 23 => ⟨S4x256x256, .f32⟩
  | 24 => ⟨S1024, .f32⟩
  | 25 => ⟨S_, .f32⟩
  | 26 => ⟨S16x1x1024, .f32⟩
  | 27 => ⟨S_, .f32⟩
  | 28 => ⟨S_, .f32⟩
  | 29 => ⟨S16x2048x1024, .f32⟩
  | 30 => ⟨S16x2049x1024, .f32⟩
  | 31 => ⟨S2048, .i32⟩
  | 32 => ⟨S_, .i32⟩
  | 33 => ⟨S2048, .i32⟩
  | 34 => ⟨S2048, .i32⟩
  | 35 => ⟨S_, .i32⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S_, .i32⟩
  | 50 => ⟨S_, .i32⟩
  | 51 => ⟨S_, .i32⟩
  | 52 => ⟨S2048, .i32⟩
  | 53 => ⟨S2048, .i32⟩
  | 54 => ⟨S_, .i32⟩
  | 55 => ⟨S2048, .i32⟩
  | 56 => ⟨S2048, .i32⟩
  | 57 => ⟨S16x2049x256, .f32⟩
  | 58 => ⟨S_, .i32⟩
  | 59 => ⟨S2048, .i32⟩
  | 60 => ⟨S2048, .i1⟩
  | 61 => ⟨S_, .i32⟩
  | 62 => ⟨S2048, .i32⟩
  | 63 => ⟨S2048, .i32⟩
  | 64 => ⟨S2048, .i32⟩
  | 65 => ⟨S2048x1, .i32⟩
  | 66 => ⟨S16x2048x256, .f32⟩
  | 67 => ⟨S_, .i32⟩
  | 68 => ⟨S2048, .i32⟩
  | 69 => ⟨S2048, .i1⟩
  | 70 => ⟨S_, .i32⟩
  | 71 => ⟨S2048, .i32⟩
  | 72 => ⟨S2048, .i32⟩
  | 73 => ⟨S2048, .i32⟩
  | 74 => ⟨S2048x1, .i32⟩
  | 75 => ⟨S16x2048x256, .f32⟩
  | 76 => ⟨S16x2048x256, .f32⟩
  | 77 => ⟨S2048, .i32⟩
  | 78 => ⟨S2048, .f32⟩
  | 79 => ⟨S1x2048x1, .f32⟩
  | 80 => ⟨S16x2048x256, .f32⟩
  | 81 => ⟨S16x2048x256, .f32⟩
  | 82 => ⟨S16x2048x256, .f32⟩
  | 83 => ⟨S16x2048x256, .f32⟩
  | 84 => ⟨S_, .i32⟩
  | 85 => ⟨S2048, .i32⟩
  | 86 => ⟨S2048, .i32⟩
  | 87 => ⟨S_, .i32⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S_, .i32⟩
  | 102 => ⟨S_, .i32⟩
  | 103 => ⟨S_, .i32⟩
  | 104 => ⟨S2048, .i32⟩
  | 105 => ⟨S2048, .i32⟩
  | 106 => ⟨S_, .i32⟩
  | 107 => ⟨S2048, .i32⟩
  | 108 => ⟨S2048, .i32⟩
  | 109 => ⟨S16x2049x256, .f32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S16x2048x256, .f32⟩
  | 119 => ⟨S_, .i32⟩
  | 120 => ⟨S2048, .i32⟩
  | 121 => ⟨S2048, .i1⟩
  | 122 => ⟨S_, .i32⟩
  | 123 => ⟨S2048, .i32⟩
  | 124 => ⟨S2048, .i32⟩
  | 125 => ⟨S2048, .i32⟩
  | 126 => ⟨S2048x1, .i32⟩
  | 127 => ⟨S16x2048x256, .f32⟩
  | _ => ⟨S16x2048x1024, .f32⟩

abbrev hbmTy0_1 (i : Nat) : BufTy := match i % 128 with
  | 0 => ⟨S16x2048x256, .f32⟩
  | 1 => ⟨S2048, .i32⟩
  | 2 => ⟨S2048, .f32⟩
  | 3 => ⟨S1x2048x1, .f32⟩
  | 4 => ⟨S16x2048x256, .f32⟩
  | 5 => ⟨S16x2048x256, .f32⟩
  | 6 => ⟨S16x2048x256, .f32⟩
  | 7 => ⟨S16x2048x256, .f32⟩
  | 8 => ⟨S_, .i32⟩
  | 9 => ⟨S2048, .i32⟩
  | 10 => ⟨S2048, .i32⟩
  | 11 => ⟨S_, .i32⟩
  | 12 => ⟨S_, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S16x2049x256, .f32⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S16x2048x256, .f32⟩
  | 43 => ⟨S_, .i32⟩
  | 44 => ⟨S2048, .i32⟩
  | 45 => ⟨S2048, .i1⟩
  | 46 => ⟨S_, .i32⟩
  | 47 => ⟨S2048, .i32⟩
  | 48 => ⟨S2048, .i32⟩
  | 49 => ⟨S2048, .i32⟩
  | 50 => ⟨S2048x1, .i32⟩
  | 51 => ⟨S16x2048x256, .f32⟩
  | 52 => ⟨S16x2048x256, .f32⟩
  | 53 => ⟨S2048, .i32⟩
  | 54 => ⟨S2048, .f32⟩
  | 55 => ⟨S1x2048x1, .f32⟩
  | 56 => ⟨S16x2048x256, .f32⟩
  | 57 => ⟨S16x2048x256, .f32⟩
  | 58 => ⟨S16x2048x256, .f32⟩
  | 59 => ⟨S16x2048x256, .f32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S_, .i32⟩
  | 78 => ⟨S_, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S16x2049x256, .f32⟩
  | 86 => ⟨S_, .i32⟩
  | 87 => ⟨S2048, .i32⟩
  | 88 => ⟨S2048, .i1⟩
  | 89 => ⟨S_, .i32⟩
  | 90 => ⟨S2048, .i32⟩
  | 91 => ⟨S2048, .i32⟩
  | 92 => ⟨S2048, .i32⟩
  | 93 => ⟨S2048x1, .i32⟩
  | 94 => ⟨S16x2048x256, .f32⟩
  | 95 => ⟨S_, .i32⟩
  | 96 => ⟨S2048, .i32⟩
  | 97 => ⟨S2048, .i1⟩
  | 98 => ⟨S_, .i32⟩
  | 99 => ⟨S2048, .i32⟩
  | 100 => ⟨S2048, .i32⟩
  | 101 => ⟨S2048, .i32⟩
  | 102 => ⟨S2048x1, .i32⟩
  | 103 => ⟨S16x2048x256, .f32⟩
  | 104 => ⟨S16x2048x256, .f32⟩
  | 105 => ⟨S2048, .i32⟩
  | 106 => ⟨S2048, .f32⟩
  | 107 => ⟨S1x2048x1, .f32⟩
  | 108 => ⟨S16x2048x256, .f32⟩
  | 109 => ⟨S16x2048x256, .f32⟩
  | 110 => ⟨S16x2048x256, .f32⟩
  | 111 => ⟨S16x2048x256, .f32⟩
  | 112 => ⟨S16x2048x1x256, .f32⟩
  | 113 => ⟨S16x2048x1x256, .f32⟩
  | 114 => ⟨S16x2048x1x256, .f32⟩
  | 115 => ⟨S16x2048x1x256, .f32⟩
  | 116 => ⟨S16x2048x4x256, .f32⟩
  | 117 => ⟨S4x256x16x2048, .f32⟩
  | 118 => ⟨S16x2048x4x256, .f32⟩
  | 119 => ⟨S16x2048x1024, .f32⟩
  | 120 => ⟨S1x1x1024, .f32⟩
  | 121 => ⟨S16x2048x1024, .f32⟩
  | 122 => ⟨S16x2048x1024, .f32⟩
  | 123 => ⟨S1x2x1024, .f32⟩
  | 124 => ⟨S2x1024, .f32⟩
  | 125 => ⟨S1x2x1024, .f32⟩
  | 126 => ⟨S2x1024, .f32⟩
  | 127 => ⟨S1x1024x5632, .bf16⟩
  | _ => ⟨S16x2048x1024, .f32⟩

abbrev hbmTy0_2 (i : Nat) : BufTy := match i % 128 with
  | 0 => ⟨S1024x5632, .bf16⟩
  | 1 => ⟨S1024x5632, .f32⟩
  | 2 => ⟨S1x2816x1024, .bf16⟩
  | 3 => ⟨S2816x1024, .bf16⟩
  | 4 => ⟨S2816x1024, .f32⟩
  | 5 => ⟨S_, .f32⟩
  | 6 => ⟨S16x2048x1024, .f32⟩
  | 7 => ⟨S16x2048x1024, .f32⟩
  | 8 => ⟨S16x2048x1024, .f32⟩
  | 9 => ⟨S16x2048x1024, .f32⟩
  | 10 => ⟨S16x2048x1024, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S16x2048x1024, .f32⟩
  | 22 => ⟨S16x2048x1024, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S16x2048x1024, .f32⟩
  | 31 => ⟨S16x2048x1024, .f32⟩
  | 32 => ⟨S_, .f32⟩
  | 33 => ⟨S16x2048x1, .f32⟩
  | 34 => ⟨S16x2048x1, .f32⟩
  | 35 => ⟨S16x2048x1, .f32⟩
  | 36 => ⟨S16x2048x1024, .f32⟩
  | 37 => ⟨S16x2048x1024, .f32⟩
  | 38 => ⟨S1x1x1024, .f32⟩
  | 39 => ⟨S16x2048x1024, .f32⟩
  | 40 => ⟨S16x2048x1024, .f32⟩
  | 41 => ⟨S1x1x1024, .f32⟩
  | 42 => ⟨S16x2048x1024, .f32⟩
  | 43 => ⟨S16x2048x1024, .f32⟩
  | 44 => ⟨S_, .f32⟩
  | 45 => ⟨S16x2048x1024, .f32⟩
  | 46 => ⟨S16x2048x1024, .f32⟩
  | 47 => ⟨S_, .f32⟩
  | 48 => ⟨S16x1x1024, .f32⟩
  | 49 => ⟨S16x1x1024, .f32⟩
  | 50 => ⟨S16x2048x1024, .f32⟩
  | 51 => ⟨S16x2048x1024, .f32⟩
  | 52 => ⟨S16x2048x1024, .f32⟩
  | 53 => ⟨S16x2048x1024, .f32⟩
  | 54 => ⟨S16x2048x5632, .f32⟩
  | 55 => ⟨S16x2048x2816, .f32⟩
  | 56 => ⟨S16x2048x2816, .f32⟩
  | 57 => ⟨S16x2048x2816, .f32⟩
  | 58 => ⟨S16x2048x2816, .f32⟩
  | 59 => ⟨S_, .f32⟩
  | 60 => ⟨S16x2048x2816, .f32⟩
  | 61 => ⟨S16x2048x2816, .f32⟩
  | 62 => ⟨S_, .f32⟩
  | 63 => ⟨S16x2048x2816, .f32⟩
  | 64 => ⟨S16x2048x2816, .f32⟩
  | 65 => ⟨S16x2048x2816, .f32⟩
  | 66 => ⟨S16x2048x2816, .f32⟩
  | 67 => ⟨S16x2048x1024, .f32⟩
  | 68 => ⟨S16x2048x1024, .f32⟩
  | 69 => ⟨S16x2048x1024, .f32⟩
  | 70 => ⟨S16x2048x1024, .f32⟩
  | 71 => ⟨S1x1024, .f32⟩
  | 72 => ⟨S1024, .f32⟩
  | 73 => ⟨S1x1024, .f32⟩
  | 74 => ⟨S1024, .f32⟩
  | 75 => ⟨S_, .f32⟩
  | 76 => ⟨S16x2048, .f32⟩
  | 77 => ⟨S16x2048x1, .f32⟩
  | 78 => ⟨S_, .f32⟩
  | 79 => ⟨S16x2048x1, .f32⟩
  | 80 => ⟨S16x2048x1, .f32⟩
  | 81 => ⟨S16x2048x1024, .f32⟩
  | 82 => ⟨S16x2048x1024, .f32⟩
  | 83 => ⟨S16x2048x1024, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S16x2048x1024, .f32⟩
  | 91 => ⟨S16x2048x1024, .f32⟩
  | 92 => ⟨S_, .f32⟩
  | 93 => ⟨S16x2048x1, .f32⟩
  | 94 => ⟨S16x2048x1, .f32⟩
  | 95 => ⟨S16x2048x1, .f32⟩
  | 96 => ⟨S16x2048x1024, .f32⟩
  | 97 => ⟨S16x2048x1024, .f32⟩
  | 98 => ⟨S1x1x1024, .f32⟩
  | 99 => ⟨S16x2048x1024, .f32⟩
  | 100 => ⟨S16x2048x1024, .f32⟩
  | 101 => ⟨S1x1x1024, .f32⟩
  | 102 => ⟨S16x2048x1024, .f32⟩
  | 103 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_c_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_9 : Ref sig .tc := ⟨.hbm, 67, rfl⟩
abbrev main_v36 : Ref sig .tc := ⟨.hbm, 68, rfl⟩
abbrev main_v37 : Ref sig .tc := ⟨.hbm, 69, rfl⟩
abbrev main_c_10 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_c_12 : Ref sig .tc := ⟨.hbm, 87, rfl⟩
abbrev main_c_13 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v53 : Ref sig .tc := ⟨.hbm, 94, rfl⟩
abbrev main_c_14 : Ref sig .tc := ⟨.hbm, 95, rfl⟩
abbrev main_v54 : Ref sig .tc := ⟨.hbm, 96, rfl⟩
abbrev main_v55 : Ref sig .tc := ⟨.hbm, 97, rfl⟩
abbrev main_c_15 : Ref sig .tc := ⟨.hbm, 98, rfl⟩
abbrev main_v56 : Ref sig .tc := ⟨.hbm, 99, rfl⟩
abbrev main_v57 : Ref sig .tc := ⟨.hbm, 100, rfl⟩
abbrev main_c_16 : Ref sig .tc := ⟨.hbm, 101, rfl⟩
abbrev main_c_17 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v58 : Ref sig .tc := ⟨.hbm, 108, rfl⟩
abbrev main_v59 : Ref sig .tc := ⟨.hbm, 109, rfl⟩
abbrev main_c_18 : Ref sig .tc := ⟨.hbm, 110, rfl⟩
abbrev main_v60 : Ref sig .tc := ⟨.hbm, 111, rfl⟩
abbrev main_v61 : Ref sig .tc := ⟨.hbm, 112, rfl⟩
abbrev main_c_19 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_20 : Ref sig .tc := ⟨.hbm, 119, rfl⟩
abbrev main_v67 : Ref sig .tc := ⟨.hbm, 120, rfl⟩
abbrev main_v68 : Ref sig .tc := ⟨.hbm, 121, rfl⟩
abbrev main_c_21 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_22 : Ref sig .tc := ⟨.hbm, 136, rfl⟩
abbrev main_v82 : Ref sig .tc := ⟨.hbm, 137, rfl⟩
abbrev main_v83 : Ref sig .tc := ⟨.hbm, 138, rfl⟩
abbrev main_c_23 : Ref sig .tc := ⟨.hbm, 139, rfl⟩
abbrev main_c_24 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v84 : Ref sig .tc := ⟨.hbm, 146, rfl⟩
abbrev main_c_25 : Ref sig .tc := ⟨.hbm, 147, rfl⟩
abbrev main_v85 : Ref sig .tc := ⟨.hbm, 148, rfl⟩
abbrev main_v86 : Ref sig .tc := ⟨.hbm, 149, rfl⟩
abbrev main_c_26 : Ref sig .tc := ⟨.hbm, 150, rfl⟩
abbrev main_v87 : Ref sig .tc := ⟨.hbm, 151, rfl⟩
abbrev main_v88 : Ref sig .tc := ⟨.hbm, 152, rfl⟩
abbrev main_c_27 : Ref sig .tc := ⟨.hbm, 153, rfl⟩
abbrev main_c_28 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v89 : Ref sig .tc := ⟨.hbm, 160, rfl⟩
abbrev main_v90 : Ref sig .tc := ⟨.hbm, 161, rfl⟩
abbrev main_c_29 : Ref sig .tc := ⟨.hbm, 162, rfl⟩
abbrev main_v91 : Ref sig .tc := ⟨.hbm, 163, rfl⟩
abbrev main_v92 : Ref sig .tc := ⟨.hbm, 164, rfl⟩
abbrev main_c_30 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_c_31 : Ref sig .tc := ⟨.hbm, 171, rfl⟩
abbrev main_v98 : Ref sig .tc := ⟨.hbm, 172, rfl⟩
abbrev main_v99 : Ref sig .tc := ⟨.hbm, 173, rfl⟩
abbrev main_c_32 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_c_33 : Ref sig .tc := ⟨.hbm, 188, rfl⟩
abbrev main_v113 : Ref sig .tc := ⟨.hbm, 189, rfl⟩
abbrev main_v114 : Ref sig .tc := ⟨.hbm, 190, rfl⟩
abbrev main_c_34 : Ref sig .tc := ⟨.hbm, 191, rfl⟩
abbrev main_c_35 : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v115 : Ref sig .tc := ⟨.hbm, 198, rfl⟩
abbrev main_c_36 : Ref sig .tc := ⟨.hbm, 199, rfl⟩
abbrev main_v116 : Ref sig .tc := ⟨.hbm, 200, rfl⟩
abbrev main_v117 : Ref sig .tc := ⟨.hbm, 201, rfl⟩
abbrev main_c_37 : Ref sig .tc := ⟨.hbm, 202, rfl⟩
abbrev main_v118 : Ref sig .tc := ⟨.hbm, 203, rfl⟩
abbrev main_v119 : Ref sig .tc := ⟨.hbm, 204, rfl⟩
abbrev main_c_38 : Ref sig .tc := ⟨.hbm, 205, rfl⟩
abbrev main_c_39 : Ref sig .tc := ⟨.hbm, 206, rfl⟩
abbrev main_call8_v0 : Ref sig .tc := ⟨.hbm, 207, rfl⟩
abbrev main_call8_v1 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_v120 : Ref sig .tc := ⟨.hbm, 212, rfl⟩
abbrev main_v121 : Ref sig .tc := ⟨.hbm, 213, rfl⟩
abbrev main_c_40 : Ref sig .tc := ⟨.hbm, 214, rfl⟩
abbrev main_v122 : Ref sig .tc := ⟨.hbm, 215, rfl⟩
abbrev main_v123 : Ref sig .tc := ⟨.hbm, 216, rfl⟩
abbrev main_c_41 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_c_42 : Ref sig .tc := ⟨.hbm, 223, rfl⟩
abbrev main_v129 : Ref sig .tc := ⟨.hbm, 224, rfl⟩
abbrev main_v130 : Ref sig .tc := ⟨.hbm, 225, rfl⟩
abbrev main_c_43 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_cst_44 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_cst_45 : Ref sig .tc := ⟨.hbm, 271, rfl⟩
abbrev main_v174 : Ref sig .tc := ⟨.hbm, 272, rfl⟩
abbrev main_v175 : Ref sig .tc := ⟨.hbm, 273, rfl⟩
abbrev main_cst_46 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_47 : Ref sig .tc := ⟨.hbm, 280, rfl⟩
abbrev main_v181 : Ref sig .tc := ⟨.hbm, 281, rfl⟩
abbrev main_v182 : Ref sig .tc := ⟨.hbm, 282, rfl⟩
abbrev main_cst_48 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_cst_49 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_cst_50 : Ref sig .tc := ⟨.hbm, 300, rfl⟩
abbrev main_v198 : Ref sig .tc := ⟨.hbm, 301, rfl⟩
abbrev main_v199 : Ref sig .tc := ⟨.hbm, 302, rfl⟩
abbrev main_cst_51 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_call9_v0 : Ref sig .tc := ⟨.hbm, 313, rfl⟩
abbrev main_call9_v1 : Ref sig .tc := ⟨.hbm, 314, rfl⟩
abbrev main_call9_cst : Ref sig .tc := ⟨.hbm, 315, rfl⟩
abbrev main_call9_v2 : Ref sig .tc := ⟨.hbm, 316, rfl⟩
abbrev main_call9_v3 : Ref sig .tc := ⟨.hbm, 317, rfl⟩
abbrev main_call9_cst_0 : Ref sig .tc := ⟨.hbm, 318, rfl⟩
abbrev main_call9_v4 : Ref sig .tc := ⟨.hbm, 319, rfl⟩
abbrev main_call9_v5 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_cst_52 : Ref sig .tc := ⟨.hbm, 331, rfl⟩
abbrev main_v219 : Ref sig .tc := ⟨.hbm, 332, rfl⟩
abbrev main_v220 : Ref sig .tc := ⟨.hbm, 333, rfl⟩
abbrev main_cst_53 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_cst_54 : Ref sig .tc := ⟨.hbm, 340, rfl⟩
abbrev main_v226 : Ref sig .tc := ⟨.hbm, 341, rfl⟩
abbrev main_v227 : Ref sig .tc := ⟨.hbm, 342, rfl⟩
abbrev main_cst_55 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_cst_56 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩

abbrev nD : Nat := 1
abbrev τ : Topo := Topo.v7x

variable {F : FTy → Type} [FloatOps F]
-- ==== Out.lean ====
abbrev S16x2048x1024 : Shape := ⟨3, ![16, 2048, 1024]⟩
abbrev S1x1024x1024 : Shape := ⟨3, ![1, 1024, 1024]⟩
abbrev S2x24x1x6144 : Shape := ⟨4, ![2, 24, 1, 6144]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1x1x1x1024 : Shape := ⟨4, ![1, 1, 1, 1024]⟩
abbrev S1x2x1024 : Shape := ⟨3, ![1, 2, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S256x1024 : Shape := ⟨2, ![256, 1024]⟩
abbrev S1024x1024 : Shape := ⟨2, ![1024, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 10
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1x1024x1024, .f32⟩
  | .hbm, ⟨3, _⟩ => ⟨S2x24x1x6144, .f32⟩
  | .hbm, ⟨4, _⟩ => ⟨S2x2x1024, .f32⟩
  | .hbm, ⟨5, _⟩ => ⟨S2x2x1024, .f32⟩
  | .hbm, ⟨6, _⟩ => ⟨S2x1024x5632, .bf16⟩
  | .hbm, ⟨7, _⟩ => ⟨S2x2816x1024, .bf16⟩
  | .hbm, ⟨8, _⟩ => ⟨S1x1024x1024, .bf16⟩
  | .hbm, ⟨9, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x2x1024, .f32⟩
  | .local _ .vmem, ⟨14, _⟩ => ⟨S1x2x1024, .f32⟩
  | .local _ .vmem, ⟨15, _⟩ => ⟨S1x1024x5632, .bf16⟩
  | .local _ .vmem, ⟨16, _⟩ => ⟨S1x2816x1024, .bf16⟩
  | .local _ .vmem, ⟨17, _⟩ => ⟨S1x1024x1024, .f32⟩
  | .local _ .vmem, ⟨18, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, arg0.toNat, c0_i32_0.toNat, c2_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, arg0.toNat, c0_i32_0.toNat, c3_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, arg0.toNat, c0_i32_0.toNat, c4_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, arg0.toNat, c0_i32_0.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutRefIdeal.lean ====
abbrev S16x2048x1024 : Shape := ⟨3, ![16, 2048, 1024]⟩
abbrev S1x1024x1024 : Shape := ⟨3, ![1, 1024, 1024]⟩
abbrev S2x24x1x6144 : Shape := ⟨4, ![2, 24, 1, 6144]⟩
abbrev S2x2x1024 : Shape := ⟨3, ![2, 2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x16x1x6144 : Shape := ⟨4, ![1, 16, 1, 6144]⟩
abbrev S16x1x6144 : Shape := ⟨3, ![16, 1, 6144]⟩
abbrev S16x1x1024 : Shape := ⟨3, ![16, 1, 1024]⟩
abbrev S1x2x1024 : Shape := ⟨3, ![1, 2, 1024]⟩
abbrev S2x1024 : Shape := ⟨2, ![2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1x1024x1024, .f32⟩
  | .hbm, ⟨3, _⟩ => ⟨S2x24x1x6144, .f32⟩
  | .hbm, ⟨4, _⟩ => ⟨S2x2x1024, .f32⟩
  | .hbm, ⟨5, _⟩ => ⟨S2x2x1024, .f32⟩
  | .hbm, ⟨6, _⟩ => ⟨S2x1024x5632, .bf16⟩
  | .hbm, ⟨7, _⟩ => ⟨S2x2816x1024, .bf16⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S1x16x1x6144, .f32⟩
  | .hbm, ⟨12, _⟩ => ⟨S16x1x6144, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S1x2x1024, .f32⟩
  | .hbm, ⟨20, _⟩ => ⟨S2x1024, .f32⟩
  | .hbm, ⟨21, _⟩ => ⟨S1x2x1024, .f32⟩
  | .hbm, ⟨22, _⟩ => ⟨S2x1024, .f32⟩
  | .hbm, ⟨23, _⟩ => ⟨S1x1024x5632, .bf16⟩
  | .hbm, ⟨24, _⟩ => ⟨S1024x5632, .bf16⟩
  | .hbm, ⟨25, _⟩ => ⟨S1024x5632, .f32⟩
  | .hbm, ⟨26, _⟩ => ⟨S1x2816x1024, .bf16⟩
  | .hbm, ⟨27, _⟩ => ⟨S2816x1024, .bf16⟩
  | .hbm, ⟨28, _⟩ => ⟨S2816x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x1024, .f32⟩
  | .hbm, ⟨61, _⟩ => ⟨S16x2048x1024, .f32⟩
  | .hbm, ⟨62, _⟩ => ⟨S1x1x1024, .f32⟩
  | .hbm, ⟨63, _⟩ => ⟨S16x2048x1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x1x1024, .f32⟩
  | .hbm, ⟨73, _⟩ => ⟨S16x1x1024, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S16x2048x5632, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S16x2048x2816, .f32⟩
  | .hbm, ⟨83, _⟩ => ⟨S_, .f32⟩
  | .hbm, ⟨84, _⟩ => ⟨S16x2048x2816, .f32⟩
  | .hbm, ⟨85, _⟩ => ⟨S16x2048x2816, .f32⟩
  | .hbm, ⟨86, _⟩ => ⟨S_, .f32⟩
  | .hbm, ⟨87, _⟩ => ⟨S16x2048x2816, .f32⟩
  | .hbm, ⟨88, _⟩ => ⟨S16x2048x2816, .f32⟩
  | .hbm, ⟨89, _⟩ => ⟨S16x2048x2816, .f32⟩
  | .hbm, ⟨90, _⟩ => ⟨S16x2048x2816, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S1x1024, .f32⟩
  | .hbm, ⟨96, _⟩ => ⟨S1024, .f32⟩
  | .hbm, ⟨97, _⟩ => ⟨S1x1024, .f32⟩
  | .hbm, ⟨98, _⟩ => ⟨S1024, .f32⟩
  | .hbm, ⟨99, _⟩ => ⟨S_, .f32⟩
  | .hbm, ⟨100, _⟩ => ⟨S16x2048, .f32⟩
  | .hbm, ⟨101, _⟩ => ⟨S16x2048x1, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1024, .f32⟩
  | .hbm, ⟨106, _⟩ => ⟨S16x2048x1024, .f32⟩
  | .hbm, ⟨107, _⟩ => ⟨S16x2048x1024, .f32⟩
  | .hbm, ⟨108, _⟩ => ⟨S_, .f32⟩
  | .hbm, ⟨109, _⟩ => ⟨S16x2048, .f32⟩
  | .hbm, ⟨110, _⟩ => ⟨S16x2048x1, .f32⟩
  | .hbm, ⟨111, _⟩ => ⟨S_, .f32⟩
  | .hbm, ⟨112, _⟩ => ⟨S16x2048x1, .f32⟩
  | .hbm, ⟨113, _⟩ => ⟨S16x2048x1, .f32⟩
  | .hbm, ⟨114, _⟩ => ⟨S16x2048x1024, .f32⟩
  | .hbm, ⟨115, _⟩ => ⟨S16x2048x1024, .f32⟩
  | .hbm, ⟨116, _⟩ => ⟨S_, .f32⟩
  | .hbm, ⟨117, _⟩ => ⟨S16x2048x1, .f32⟩
  | .hbm, ⟨118, _⟩ => ⟨S16x2048x1, .f32⟩
  | .hbm, ⟨119, _⟩ => ⟨S16x2048x1, .f32⟩
  | .hbm, ⟨120, _⟩ => ⟨S16x2048x1024, .f32⟩
  | .hbm, ⟨121, _⟩ => ⟨S16x2048x1024, .f32⟩
  | .hbm, ⟨122, _⟩ => ⟨S1x1x1024, .f32⟩
  | .hbm, ⟨123, _⟩ => ⟨S16x2048x1024, .f32⟩
  | .hbm, ⟨124, _⟩ => ⟨S16x2048x1024, .f32⟩
  | .hbm, ⟨125, _⟩ => ⟨S1x1x1024, .f32⟩
  | .hbm, ⟨126, _⟩ => ⟨S16x2048x1024, .f32⟩
  | .hbm, ⟨127, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_7 : Ref sig .tc := ⟨.hbm, 99, rfl⟩
abbrev main_v75 : Ref sig .tc := ⟨.hbm, 100, rfl⟩
abbrev main_v76 : Ref sig .tc := ⟨.hbm, 101, rfl⟩
abbrev main_cst_8 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_9 : Ref sig .tc := ⟨.hbm, 108, rfl⟩
abbrev main_v82 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_11 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Qkv.lean ====
abbrev S16x2048x1024 : Shape := ⟨3, ![16, 2048, 1024]⟩
abbrev S2x24x1x6144 : Shape := ⟨4, ![2, 24, 1, 6144]⟩
abbrev S1x1024x3072 : Shape := ⟨3, ![1, 1024, 3072]⟩
abbrev S2x1024x5632 : Shape := ⟨3, ![2, 1024, 5632]⟩
abbrev S2x2816x1024 : Shape := ⟨3, ![2, 2816, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S16x1024x2048 : Shape := ⟨3, ![16, 1024, 2048]⟩
abbrev S1x1024x1024 : Shape := ⟨3, ![1, 1024, 1024]⟩
abbrev S1x1x1x1024 : Shape := ⟨4, ![1, 1, 1, 1024]⟩
abbrev S1024x128 : Shape := ⟨2, ![1024, 128]⟩
abbrev S1x1024x2048 : Shape := ⟨3, ![1, 1024, 2048]⟩
abbrev S1x64x5632 : Shape := ⟨3, ![1, 64, 5632]⟩
abbrev S1x176x1024 : Shape := ⟨3, ![1, 176, 1024]⟩
abbrev S64x5632 : Shape := ⟨2, ![64, 5632]⟩
abbrev S176x1024 : Shape := ⟨2, ![176, 1024]⟩
abbrev S1x1024 : Shape := ⟨2, ![1, 1024]⟩
abbrev S1x256x1024 : Shape := ⟨3, ![1, 256, 1024]⟩
abbrev S256x1024 : Shape := ⟨2, ![256, 1024]⟩
abbrev S1024x1024 : Shape := ⟨2, ![1024, 1024]⟩
abbrev S256x128 : Shape := ⟨2, ![256, 128]⟩
abbrev S1024x256 : Shape := ⟨2, ![1024, 256]⟩
abbrev S1x1024x256 : Shape := ⟨3, ![1, 1024, 256]⟩
abbrev S1x256x128 : Shape := ⟨3, ![1, 256, 128]⟩

abbrev nBuf : Space → Nat
  | .hbm => 47
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S2x24x1x6144, .f32⟩
  | .hbm, ⟨2, _⟩ => ⟨S1x1024x3072, .bf16⟩
  | .hbm, ⟨3, _⟩ => ⟨S2x1024x5632, .f32⟩
  | .hbm, ⟨4, _⟩ => ⟨S2x2816x1024, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .f32⟩
  | .hbm, ⟨21, _⟩ => ⟨S1x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S_, .f32⟩
  | .hbm, ⟨34, _⟩ => ⟨S2048x32, .f32⟩
  | .hbm, ⟨35, _⟩ => ⟨S1x2048x1x32, .f32⟩
  | .hbm, ⟨36, _⟩ => ⟨S1x2048x4x32, .f32⟩
  | .hbm, ⟨37, _⟩ => ⟨S2048x128, .f32⟩
  | .hbm, ⟨38, _⟩ => ⟨S2048x32, .f32⟩
  | .hbm, ⟨39, _⟩ => ⟨S2048x32, .f32⟩
  | .hbm, ⟨40, _⟩ => ⟨S2048x128, .f32⟩
  | .hbm, ⟨41, _⟩ => ⟨S2048x128, .f32⟩
  | .hbm, ⟨42, _⟩ => ⟨S16x2048x1024, .bf16⟩
  | .hbm, ⟨43, _⟩ => ⟨S16x2048x1024, .bf16⟩
  | .hbm, ⟨44, _⟩ => ⟨S16x1024x2048, .bf16⟩
  | .hbm, ⟨45, _⟩ => ⟨S2x1024x5632, .bf16⟩
  | .hbm, ⟨46, _⟩ => ⟨S2x2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x2048, .bf16⟩
  | .local _ .vmem, ⟨13, _⟩ => ⟨S1x1024x1024, .bf16⟩
  | .local _ .vmem, ⟨14, _⟩ => ⟨S1x64x5632, .f32⟩
  | .local _ .vmem, ⟨15, _⟩ => ⟨S1x64x5632, .f32⟩
  | .local _ .vmem, ⟨16, _⟩ => ⟨S1x176x1024, .f32⟩
  | .local _ .vmem, ⟨17, _⟩ => ⟨S1x176x1024, .f32⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x64x5632, .bf16⟩
  | .local _ .vmem, ⟨25, _⟩ => ⟨S1x64x5632, .bf16⟩
  | .local _ .vmem, ⟨26, _⟩ => ⟨S1x176x1024, .bf16⟩
  | .local _ .vmem, ⟨27, _⟩ => ⟨S1x176x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev main_v34_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, arg0.toNat, c0_i32_0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.muli arg0 c2_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== QkvRefIdeal.lean ====
abbrev S16x2048x1024 : Shape := ⟨3, ![16, 2048, 1024]⟩
abbrev S2x24x1x6144 : Shape := ⟨4, ![2, 24, 1, 6144]⟩
abbrev S1x1024x3072 : Shape := ⟨3, ![1, 1024, 3072]⟩
abbrev S2x1024x5632 : Shape := ⟨3, ![2, 1024, 5632]⟩
abbrev S2x2816x1024 : Shape := ⟨3, ![2, 2816, 1024]⟩
abbrev S1x16x1x6144 : Shape := ⟨4, ![1, 16, 1, 6144]⟩
abbrev S16x1x6144 : Shape := ⟨3, ![16, 1, 6144]⟩
abbrev S16x1x1024 : Shape := ⟨3, ![16, 1, 1024]⟩
abbrev S_ : Shape := ⟨0, ![]⟩
abbrev S1024x3072 : Shape := ⟨2, ![1024, 3072]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x1x1x32 : Shape := ⟨4, ![2048, 1, 1, 32]⟩
abbrev S1024x1024 : Shape := ⟨2, ![1024, 1024]⟩
abbrev S16x2048x8x2x64 : Shape := ⟨5, ![16, 2048, 8, 2, 64]⟩
abbrev S16x2048x8x2x32 : Shape := ⟨5, ![16, 2048, 8, 2, 32]⟩
abbrev S1x2048x1x1x32 : Shape := ⟨5, ![1, 2048, 1, 1, 32]⟩
abbrev S16x1024x2048 : Shape := ⟨3, ![16, 1024, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x24x1x6144, .f32⟩
  | .hbm, ⟨2, _⟩ => ⟨S1x1024x3072, .bf16⟩
  | .hbm, ⟨3, _⟩ => ⟨S2x1024x5632, .f32⟩
  | .hbm, ⟨4, _⟩ => ⟨S2x2816x1024, .f32⟩
  | .hbm, ⟨5, _⟩ => ⟨S1x16x1x6144, .f32⟩
  | .hbm, ⟨6, _⟩ => ⟨S16x1x6144, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S_, .f32⟩
  | .hbm, ⟨14, _⟩ => ⟨S16x1x1024, .f32⟩
  | .hbm, ⟨15, _⟩ => ⟨S16x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S1024x3072, .bf16⟩
  | .hbm, ⟨21, _⟩ => ⟨S1024x3072, .f32⟩
  | .hbm, ⟨22, _⟩ => ⟨S32, .f32⟩
  | .hbm, ⟨23, _⟩ => ⟨S32x64, .f32⟩
  | .hbm, ⟨24, _⟩ => ⟨S2048, .f32⟩
  | .hbm, ⟨25, _⟩ => ⟨S64, .f32⟩
  | .hbm, ⟨26, _⟩ => ⟨S1x64, .f32⟩
  | .hbm, ⟨27, _⟩ => ⟨S32x64, .f32⟩
  | .hbm, ⟨28, _⟩ => ⟨S2048, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x1x1x32, .f32⟩
  | .hbm, ⟨51, _⟩ => ⟨S2048x1x1x32, .f32⟩
  | .hbm, ⟨52, _⟩ => ⟨S1024x1024, .f32⟩
  | .hbm, ⟨53, _⟩ => ⟨S16x2048x1024, .f32⟩
  | .hbm, ⟨54, _⟩ => ⟨S16x2048x8x2x64, .f32⟩
  | .hbm, ⟨55, _⟩ => ⟨S16x2048x8x2x32, .f32⟩
  | .hbm, ⟨56, _⟩ => ⟨S16x2048x8x2x32, .f32⟩
  | .hbm, ⟨57, _⟩ => ⟨S1x2048x1x1x32, .f32⟩
  | .hbm, ⟨58, _⟩ => ⟨S16x2048x8x2x32, .f32⟩
  | .hbm, ⟨59, _⟩ => ⟨S16x2048x8x2x32, .f32⟩
  | .hbm, ⟨60, _⟩ => ⟨S1x2048x1x1x32, .f32⟩
  | .hbm, ⟨61, _⟩ => ⟨S16x2048x8x2x32, .f32⟩
  | .hbm, ⟨62, _⟩ => ⟨S16x2048x8x2x32, .f32⟩
  | .hbm, ⟨63, _⟩ => ⟨S16x2048x8x2x32, .f32⟩
  | .hbm, ⟨64, _⟩ => ⟨S1x2048x1x1x32, .f32⟩
  | .hbm, ⟨65, _⟩ => ⟨S16x2048x8x2x32, .f32⟩
  | .hbm, ⟨66, _⟩ => ⟨S16x2048x8x2x32, .f32⟩
  | .hbm, ⟨67, _⟩ => ⟨S1x2048x1x1x32, .f32⟩
  | .hbm, ⟨68, _⟩ => ⟨S16x2048x8x2x32, .f32⟩
  | .hbm, ⟨69, _⟩ => ⟨S16x2048x8x2x32, .f32⟩
  | .hbm, ⟨70, _⟩ => ⟨S16x2048x8x2x32, .f32⟩
  | .hbm, ⟨71, _⟩ => ⟨S16x2048x8x2x64, .f32⟩
  | .hbm, ⟨72, _⟩ => ⟨S1024x1024, .f32⟩
  | .hbm, ⟨73, _⟩ => ⟨S16x2048x1024, .f32⟩
  | .hbm, ⟨74, _⟩ => ⟨S16x2048x8x2x64, .f32⟩
  | .hbm, ⟨75, _⟩ => ⟨S16x2048x8x2x32, .f32⟩
  | .hbm, ⟨76, _⟩ => ⟨S16x2048x8x2x32, .f32⟩
  | .hbm, ⟨77, _⟩ => ⟨S1x2048x1x1x32, .f32⟩
  | .hbm, ⟨78, _⟩ => ⟨S16x2048x8x2x32, .f32⟩
  | .hbm, ⟨79, _⟩ => ⟨S16x2048x8x2x32, .f32⟩
  | .hbm, ⟨80, _⟩ => ⟨S1x2048x1x1x32, .f32⟩
  | .hbm, ⟨81, _⟩ => ⟨S16x2048x8x2x32, .f32⟩
  | .hbm, ⟨82, _⟩ => ⟨S16x2048x8x2x32, .f32⟩
  | .hbm, ⟨83, _⟩ => ⟨S16x2048x8x2x32, .f32⟩
  | .hbm, ⟨84, _⟩ => ⟨S1x2048x1x1x32, .f32⟩
  | .hbm, ⟨85, _⟩ => ⟨S16x2048x8x2x32, .f32⟩
  | .hbm, ⟨86, _⟩ => ⟨S16x2048x8x2x32, .f32⟩
  | .hbm, ⟨87, _⟩ => ⟨S1x2048x1x1x32, .f32⟩
  | .hbm, ⟨88, _⟩ => ⟨S16x2048x8x2x32, .f32⟩
  | .hbm, ⟨89, _⟩ => ⟨S16x2048x8x2x32, .f32⟩
  | .hbm, ⟨90, _⟩ => ⟨S16x2048x8x2x32, .f32⟩
  | .hbm, ⟨91, _⟩ => ⟨S16x2048x8x2x64, .f32⟩
  | .hbm, ⟨92, _⟩ => ⟨S1024x1024, .f32⟩
  | .hbm, ⟨93, _⟩ => ⟨S16x2048x1024, .f32⟩
  | .hbm, ⟨94, _⟩ => ⟨S16x2048x1024, .f32⟩
  | .hbm, ⟨95, _⟩ => ⟨S16x2048x1024, .bf16⟩
  | .hbm, ⟨96, _⟩ => ⟨S16x2048x1024, .f32⟩
  | .hbm, ⟨97, _⟩ => ⟨S16x2048x1024, .bf16⟩
  | .hbm, ⟨98, _⟩ => ⟨S16x1024x2048, .f32⟩
  | .hbm, ⟨99, _⟩ => ⟨S16x1024x2048, .bf16⟩
  | .hbm, ⟨100, _⟩ => ⟨S2x1024x5632, .bf16⟩
  | .hbm, ⟨101, _⟩ => ⟨S2x2816x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩

abbrev nD : Nat := 1
abbrev τ : Topo := Topo.v7x

variable {F : FTy → Type} [FloatOps F]
-- ==== Ctx.lean ====
abbrev S16x256x1024 : Shape := ⟨3, ![16, 256, 1024]⟩
abbrev S2x24x1x6144 : Shape := ⟨4, ![2, 24, 1, 6144]⟩
abbrev S1x1024x3072 : Shape := ⟨3, ![1, 1024, 3072]⟩
abbrev S16x1024x256 : Shape := ⟨3, ![16, 1024, 256]⟩
abbrev S1x256x1024 : Shape := ⟨3, ![1, 256, 1024]⟩
abbrev S1x1x1x1024 : Shape := ⟨4, ![1, 1, 1, 1024]⟩
abbrev S1x1024x1024 : Shape := ⟨3, ![1, 1024, 1024]⟩
abbrev S1x1024x256 : Shape := ⟨3, ![1, 1024, 256]⟩
abbrev S256x1024 : Shape := ⟨2, ![256, 1024]⟩
abbrev S1x1024 : Shape := ⟨2, ![1, 1024]⟩
abbrev S1024x1024 : Shape := ⟨2, ![1024, 1024]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S2x24x1x6144, .f32⟩
  | .hbm, ⟨2, _⟩ => ⟨S1x1024x3072, .bf16⟩
  | .hbm, ⟨3, _⟩ => ⟨S16x256x1024, .bf16⟩
  | .hbm, ⟨4, _⟩ => ⟨S16x1024x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x256, .bf16⟩
  | .local _ .vmem, ⟨9, _⟩ => ⟨S1x1024x256, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c16_i32 : BitVec 32 := 16#32
  let c0_i32_0 : BitVec 32 := 0#32
  let c0_i32_1 : BitVec 32 := 0#32
  let c0_i32_2 : BitVec 32 := 0#32
  ![c0_i32.toNat, c16_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c16_i32 : BitVec 32 := 16#32
  let c0_i32_0 : BitVec 32 := 0#32
  let c1_i32 : BitVec 32 := 1#32
  let c0_i32_1 : BitVec 32 := 0#32
  ![c0_i32.toNat, c16_i32.toNat, c0_i32_0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CtxRefIdeal.lean ====
abbrev S16x256x1024 : Shape := ⟨3, ![16, 256, 1024]⟩
abbrev S2x24x1x6144 : Shape := ⟨4, ![2, 24, 1, 6144]⟩
abbrev S1x1024x3072 : Shape := ⟨3, ![1, 1024, 3072]⟩
abbrev S1x1x1x6144 : Shape := ⟨4, ![1, 1, 1, 6144]⟩
abbrev S1x6144 : Shape := ⟨2, ![1, 6144]⟩
abbrev S1x1024 : Shape := ⟨2, ![1, 1024]⟩
abbrev S_ : Shape := ⟨0, ![]⟩
abbrev S1x1x1024 : Shape := ⟨3, ![1, 1, 1024]⟩
abbrev S1x1024x2048 : Shape := ⟨3, ![1, 1024, 2048]⟩
abbrev S1024x2048 : Shape := ⟨2, ![1024, 2048]⟩
abbrev S16x256x2048 : Shape := ⟨3, ![16, 256, 2048]⟩
abbrev S16x1024x256 : Shape := ⟨3, ![16, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x24x1x6144, .f32⟩
  | .hbm, ⟨2, _⟩ => ⟨S1x1024x3072, .bf16⟩
  | .hbm, ⟨3, _⟩ => ⟨S1x1x1x6144, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1x1024, .f32⟩
  | .hbm, ⟨11, _⟩ => ⟨S16x256x1024, .f32⟩
  | .hbm, ⟨12, _⟩ => ⟨S16x256x1024, .f32⟩
  | .hbm, ⟨13, _⟩ => ⟨S1x1x1024, .f32⟩
  | .hbm, ⟨14, _⟩ => ⟨S16x256x1024, .f32⟩
  | .hbm, ⟨15, _⟩ => ⟨S16x256x1024, .f32⟩
  | .hbm, ⟨16, _⟩ => ⟨S1x1024x2048, .bf16⟩
  | .hbm, ⟨17, _⟩ => ⟨S1024x2048, .bf16⟩
  | .hbm, ⟨18, _⟩ => ⟨S1024x2048, .f32⟩
  | .hbm, ⟨19, _⟩ => ⟨S16x256x2048, .f32⟩
  | .hbm, ⟨20, _⟩ => ⟨S16x256x1024, .f32⟩
  | .hbm, ⟨21, _⟩ => ⟨S16x256x1024, .bf16⟩
  | .hbm, ⟨22, _⟩ => ⟨S16x256x1024, .f32⟩
  | .hbm, ⟨23, _⟩ => ⟨S16x1024x256, .f32⟩
  | .hbm, ⟨24, _⟩ => ⟨S16x1024x256, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Mod.lean ====
abbrev S24x1024 : Shape := ⟨2, ![24, 1024]⟩
abbrev S2x1024x6144 : Shape := ⟨3, ![2, 1024, 6144]⟩
abbrev S2x6144 : Shape := ⟨2, ![2, 6144]⟩
abbrev S1x1024x3072 : Shape := ⟨3, ![1, 1024, 3072]⟩
abbrev S2x1x6144 : Shape := ⟨3, ![2, 1, 6144]⟩
abbrev S2x24x6144 : Shape := ⟨3, ![2, 24, 6144]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x24x1024 : Shape := ⟨3, ![1, 24, 1024]⟩
abbrev S1024x1024 : Shape := ⟨2, ![1024, 1024]⟩
abbrev S1x1024 : Shape := ⟨2, ![1, 1024]⟩
abbrev S1024x256 : Shape := ⟨2, ![1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S1x1024x3072, .f32⟩
  | .hbm, ⟨4, _⟩ => ⟨S2x1x6144, .f32⟩
  | .hbm, ⟨5, _⟩ => ⟨S2x24x6144, .f32⟩
  | .hbm, ⟨6, _⟩ => ⟨S1x1024x3072, .bf16⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x256, .f32⟩
  | .local _ .vmem, ⟨6, _⟩ => ⟨S1x1024x256, .f32⟩
  | .local _ .vmem, ⟨7, _⟩ => ⟨S1x24x1024, .f32⟩
  | .local _ .vmem, ⟨8, _⟩ => ⟨S1x24x1024, .f32⟩
  | .local _ .vmem, ⟨9, _⟩ => ⟨S1x1024x256, .bf16⟩
  | .local _ .vmem, ⟨10, _⟩ => ⟨S1x1024x256, .bf16⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x24x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ModRefIdeal.lean ====
abbrev S24x1024 : Shape := ⟨2, ![24, 1024]⟩
abbrev S2x1024x6144 : Shape := ⟨3, ![2, 1024, 6144]⟩
abbrev S2x6144 : Shape := ⟨2, ![2, 6144]⟩
abbrev S1x1024x3072 : Shape := ⟨3, ![1, 1024, 3072]⟩
abbrev S_ : Shape := ⟨0, ![]⟩
abbrev S24x2x6144 : Shape := ⟨3, ![24, 2, 6144]⟩
abbrev S2x24x6144 : Shape := ⟨3, ![2, 24, 6144]⟩
abbrev S2x1x6144 : Shape := ⟨3, ![2, 1, 6144]⟩
abbrev S1x1024x1024 : Shape := ⟨3, ![1, 1024, 1024]⟩
abbrev S1x1024x2048 : Shape := ⟨3, ![1, 1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S1x1024x3072, .f32⟩
  | .hbm, ⟨4, _⟩ => ⟨S24x1024, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S24x2x6144, .f32⟩
  | .hbm, ⟨14, _⟩ => ⟨S2x24x6144, .f32⟩
  | .hbm, ⟨15, _⟩ => ⟨S2x1x6144, .f32⟩
  | .hbm, ⟨16, _⟩ => ⟨S2x24x6144, .f32⟩
  | .hbm, ⟨17, _⟩ => ⟨S2x24x6144, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x2048, .f32⟩
  | .hbm, ⟨23, _⟩ => ⟨S1x1024x3072, .f32⟩
  | .hbm, ⟨24, _⟩ => ⟨S1x1024x3072, .bf16⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Proof.Post.Consts.lean ====
/- A few float constants as extended reals. -/
module

public import Idealize.ShloMosaic.PureOps.Ideal
public import Idealize.ShloMosaic.PureOps.Ideal.Laws

@[expose] public section

namespace Cert.Post

open Idealize.ShloMosaic

theorem ofBits_inf : Ideal.ofBits .f32 0x7F800000#32 = ⊤ := by simp [Ideal.ofBits, Ideal.ieee]

theorem ofBits_neg_inf : Ideal.ofBits .f32 0xFF800000#32 = ⊥ := by simp [Ideal.ofBits, Ideal.ieee]

theorem ofBits_two : Ideal.ofBits .f32 0x40000000#32 = ((2 : ℝ) : EReal) := by
  simp [Ideal.ofBits, Ideal.ieee, -EReal.coe_mul]
  norm_num

/-- The constant 0.2 is a real number. -/
theorem ofBits_fifth_real : ∃ z : ℝ, Ideal.ofBits .f32 0x3E4CCCCD#32 = (z : EReal) := by
  simp [Ideal.ofBits, Ideal.ieee]
  exact ⟨_, rfl⟩

end Cert.Post
-- ==== Proof.Pool.Pre.lean ====
/- The pooling program's precondition, read at an entry: the rows and the modulation are real numbers. -/
module

public import proofs.«01_k».proof.Defs
public import proofs.«01_k».proof.Proof.Post.Consts

@[expose] public section

noncomputable section

namespace Cert.Proof.Pool

open Idealize.ShloMosaic

/-- The side conditions the predicate's operations take. -/
theorem preFacts : Cert.Pre_finite_pool.Facts := ⟨by decide, by decide⟩

/-- A number whose absolute value is below infinity is real. -/
theorem real_of_abs_lt (x : EReal) (h : Ideal.cmp .olt (max x (-x)) (Ideal.ofBits .f32 0x7F800000#32) = 1#1) : ∃ r : ℝ, x = (r : EReal) := by
  rw [Cert.Post.ofBits_inf] at h
  unfold Ideal.cmp at h
  induction x with
  | bot => simp at h
  | top => simp at h
  | coe r => exact ⟨r, rfl⟩

/-- THE PRECONDITION'S MEANING. -/
theorem pre_real [Cert.Pre_finite_pool.Facts] {m} (hm : Cert.Pre_PoolIdeal_finite_pool m) (c : Dev Cert.PoolIdeal.nD) :
    (∀ i, ∃ r : ℝ, m ((c.tc : Thread Cert.PoolIdeal.nD Cert.PoolIdeal.τ).loc Cert.PoolIdeal.main_arg0) i = (r : EReal))
    ∧ (∀ i, ∃ r : ℝ, m ((c.tc : Thread Cert.PoolIdeal.nD Cert.PoolIdeal.τ).loc Cert.PoolIdeal.main_arg3) i = (r : EReal)) :=
  ⟨fun i => real_of_abs_lt _ (congrFun (hm c).1 i), fun i => real_of_abs_lt _ (congrFun (hm c).2 i)⟩

end Cert.Proof.Pool

end
-- ==== Proof.Attn.Pre.lean ====
/- The attention program's precondition, read at an entry: queries, keys, values and the mixing vectors are real numbers. -/
module

public import proofs.«01_k».proof.Defs
public import proofs.«01_k».proof.Proof.Pool.Pre

@[expose] public section

noncomputable section

namespace Cert.Proof.Attn

open Idealize.ShloMosaic

/-- The side conditions the predicate's operations take. -/
theorem preFacts : Cert.Pre_finite.Facts := ⟨by decide, by decide, by decide, by decide, by decide, by decide⟩

/-- THE PRECONDITION'S MEANING. -/
theorem pre_real [Cert.Pre_finite.Facts] {m} (hm : Cert.Pre_KernelIdeal_finite m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) :=
  ⟨fun i => Pool.real_of_abs_lt _ (congrFun (hm c).1 i), fun i => Pool.real_of_abs_lt _ (congrFun (hm c).2.1 i),
    fun i => Pool.real_of_abs_lt _ (congrFun (hm c).2.2.1 i), fun i => Pool.real_of_abs_lt _ (congrFun (hm c).2.2.2.1 i),
    fun i => Pool.real_of_abs_lt _ (congrFun (hm c).2.2.2.2.1 i), fun i => Pool.real_of_abs_lt _ (congrFun (hm c).2.2.2.2.2 i)⟩

end Cert.Proof.Attn

end
-- ==== Proof.Frames.lean ====
/- Every program and every reference runs to its end, leaves its arguments unchanged and every counter at zero; the
   programs over the bits and over the extended reals are the same text. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pool.Frame
public import proofs.«01_k».proof.Proof.Gen.PoolIdeal.Frame
public import proofs.«01_k».proof.Proof.Gen.PoolRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.Gen.Ctx.Frame
public import proofs.«01_k».proof.Proof.Gen.CtxIdeal.Frame
public import proofs.«01_k».proof.Proof.Gen.CtxRefIdeal.Run
public import proofs.«01_k».proof.Proof.Gen.Mod.Frame
public import proofs.«01_k».proof.Proof.Gen.ModIdeal.Frame
public import proofs.«01_k».proof.Proof.Gen.ModRefIdeal.Run
public import proofs.«01_k».proof.Proof.Pool.Pre
public import proofs.«01_k».proof.Proof.Attn.Pre
public import Idealize.ShloMosaic.Adequacy
public import Idealize.ShloMosaic.Init

@[expose] public section

noncomputable section

namespace Cert.Proof.Frames

open Idealize.ShloMosaic Idealize.SL.Sem

theorem frame_Kernel : Cert.quiescent_Kernel (hKernel := Cert.Kernel.Gen.facts) := fun m g _ => Cert.Kernel.Gen.frame m g

theorem frame_KernelIdeal : Cert.quiescent_KernelIdeal (hKernelIdeal := Cert.KernelIdeal.Gen.facts) := fun m g _ => Cert.KernelIdeal.Gen.frame m g

theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

theorem frame_KernelIdeal_pre : Cert.quiescent_KernelIdeal_pre_finite (hKernelIdeal := Cert.KernelIdeal.Gen.facts) (hPre_finite := Attn.preFacts) :=
  fun m g _ => Cert.KernelIdeal.Gen.frame m g

theorem frame_ReferenceIdeal_pre : Cert.quiescent_ReferenceIdeal_pre_finite (hReferenceIdeal := Cert.ReferenceIdeal.Gen.facts)
    (hPre_finite := Attn.preFacts) := fun m g _ => frame_ReferenceIdeal m g trivial

theorem frame_Pool : Cert.quiescent_Pool (hPool := Cert.Pool.Gen.facts) := fun m g _ => Cert.Pool.Gen.frame m g

theorem frame_PoolIdeal : Cert.quiescent_PoolIdeal (hPoolIdeal := Cert.PoolIdeal.Gen.facts) := fun m g _ => Cert.PoolIdeal.Gen.frame m g

theorem frame_PoolRefIdeal : Cert.quiescent_PoolRefIdeal (hPoolRefIdeal := Cert.PoolRefIdeal.Gen.facts) := fun m g _ =>
  (θ_run Cert.PoolRefIdeal.defs _ _).mono (fun r h => ⟨fun c => (h c).2, sem_eq_zero_of_no_sems (by decide) r.2⟩) (Cert.PoolRefIdeal.Value.run (F := Ideal) m g)

theorem frame_PoolIdeal_pre : Cert.quiescent_PoolIdeal_pre_finite_pool (hPoolIdeal := Cert.PoolIdeal.Gen.facts) (hPre_finite_pool := Pool.preFacts) :=
  fun m g _ => Cert.PoolIdeal.Gen.frame m g

theorem frame_PoolRefIdeal_pre : Cert.quiescent_PoolRefIdeal_pre_finite_pool (hPoolRefIdeal := Cert.PoolRefIdeal.Gen.facts)
    (hPre_finite_pool := Pool.preFacts) := fun m g _ => frame_PoolRefIdeal m g trivial

theorem frame_Out : Cert.quiescent_Out (hOut := Cert.Out.Gen.facts) := fun m g _ => Cert.Out.Gen.frame m g

theorem frame_OutIdeal : Cert.quiescent_OutIdeal (hOutIdeal := Cert.OutIdeal.Gen.facts) := fun m g _ => Cert.OutIdeal.Gen.frame m g

theorem frame_OutRefIdeal : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩) (Cert.OutRefIdeal.Value.run (F := Ideal) m g)

theorem frame_Qkv : Cert.quiescent_Qkv (hQkv := Cert.Qkv.Gen.facts) := fun m g _ => Cert.Qkv.Gen.frame m g

theorem frame_QkvIdeal : Cert.quiescent_QkvIdeal (hQkvIdeal := Cert.QkvIdeal.Gen.facts) := fun m g _ => Cert.QkvIdeal.Gen.frame m g

theorem frame_QkvRefIdeal : Cert.quiescent_QkvRefIdeal (hQkvRefIdeal := Cert.QkvRefIdeal.Gen.facts) := fun m g _ =>
  (θ_run Cert.QkvRefIdeal.defs _ _).mono (fun r h => ⟨fun c => (h c).2.2.2.2.2, sem_eq_zero_of_no_sems (by decide) r.2⟩) (Cert.QkvRefIdeal.Value.run (F := Ideal) m g)

theorem frame_Ctx : Cert.quiescent_Ctx (hCtx := Cert.Ctx.Gen.facts) := fun m g _ => Cert.Ctx.Gen.frame m g

theorem frame_CtxIdeal : Cert.quiescent_CtxIdeal (hCtxIdeal := Cert.CtxIdeal.Gen.facts) := fun m g _ => Cert.CtxIdeal.Gen.frame m g

theorem frame_CtxRefIdeal : Cert.quiescent_CtxRefIdeal (hCtxRefIdeal := Cert.CtxRefIdeal.Gen.facts) := fun m g _ =>
  (θ_run Cert.CtxRefIdeal.defs _ _).mono (fun r h => ⟨fun c => (h c).2.2, sem_eq_zero_of_no_sems (by decide) r.2⟩) (Cert.CtxRefIdeal.Value.run (F := Ideal) m g)

theorem frame_Mod : Cert.quiescent_Mod (hMod := Cert.Mod.Gen.facts) := fun m g _ => Cert.Mod.Gen.frame m g

theorem frame_ModIdeal : Cert.quiescent_ModIdeal (hModIdeal := Cert.ModIdeal.Gen.facts) := fun m g _ => Cert.ModIdeal.Gen.frame m g

theorem frame_ModRefIdeal : Cert.quiescent_ModRefIdeal (hModRefIdeal := Cert.ModRefIdeal.Gen.facts) := fun m g _ =>
  (θ_run Cert.ModRefIdeal.defs _ _).mono (fun r h => ⟨fun c => (h c).2.2, sem_eq_zero_of_no_sems (by decide) r.2⟩) (Cert.ModRefIdeal.Value.run (F := Ideal) m g)

end Cert.Proof.Frames

end
-- ==== Proof.Post.Rows.lean ====
/- The layer tail as plain arithmetic on rows of extended reals: a layer norm, the gated feed-forward product and the two
   residual sums, and the same written as vector operations over a group of 256 rows; the lemma `tailV_apply` says that the
   second, read at an index, is the first. -/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.Post

open Idealize.ShloMosaic Idealize.ShloMosaic.ValueIdx
open scoped BigOperators

/-! ## Rows -/

/-- The sum of a row divided by its printed length. -/
def mean (f : Fin 1024 → EReal) : EReal := Ideal.div (∑ k, f k) (Ideal.ofBits .f32 0x44800000#32)

/-- A row less its mean. -/
def dev (f : Fin 1024 → EReal) (d : Fin 1024) : EReal := f d - mean f

/-- The layer norm of a row. -/
def lnorm (f g b : Fin 1024 → EReal) (d : Fin 1024) : EReal :=
  dev f d * Ideal.rsqrt (mean (fun k => dev f k * dev f k) + Ideal.ofBits .f32 0x3727C5AC#32) * g d + b d

/-- A number times its logistic. -/
def silu (g : EReal) : EReal :=
  g * Ideal.div (Ideal.ofBits .f32 0x3F800000#32) (Ideal.ofBits .f32 0x3F800000#32 + Ideal.exp (-g))

/-- Column `j` of the gated feed-forward activation of a row. -/
def gated (h : Fin 1024 → EReal) (win : Fin 1024 → Fin 5632 → EReal) (j : Fin 2816) : EReal :=
  silu (∑ k, h k * win k ⟨j.val, by omega⟩) * ∑ k, h k * win k ⟨2816 + j.val, by omega⟩

/-- The modulation of a row. -/
def modul (x sh sc : Fin 1024 → EReal) (k : Fin 1024) : EReal := x k * (Ideal.ofBits .f32 0x3F800000#32 + sc k) + sh k

/-- The two residual steps of a layer, from its input row `x` and its mixer's row `y`. -/
def layer (x y g1 sh sc g2 lg0 lb0 lg1 lb1 : Fin 1024 → EReal) (win : Fin 1024 → Fin 5632 → EReal)
    (wout : Fin 2816 → Fin 1024 → EReal) (d : Fin 1024) : EReal :=
  lnorm (fun k => Ideal.ofBits .f32 0x3FB504F3#32 * lnorm (fun k => Ideal.ofBits .f32 0x3FB504F3#32 * x k + g1 k * y k) lg0 lb0 k
      + g2 k * ∑ j, gated (modul (lnorm (fun k => Ideal.ofBits .f32 0x3FB504F3#32 * x k + g1 k * y k) lg0 lb0) sh sc) win j * wout j k)
    lg1 lb1 d

/-! ## The same over 256 rows at once -/

abbrev Row : Shape := ⟨2, ![1, 1024]⟩
abbrev Tile : Shape := ⟨2, ![256, 1024]⟩
abbrev Col : Shape := ⟨2, ![256, 1]⟩
abbrev Slab (a b : Nat) : Shape := ⟨3, ![1, a, b]⟩
abbrev Mat (a b : Nat) : Shape := ⟨2, ![a, b]⟩

theorem casts_slab (a b : Nat) : (Slab a b).ShapeCasts (Mat a b) := by
  simp [Shape.ShapeCasts, Shape.numel, Fin.prod_univ_succ]

variable {F : FTy → Type} [FloatOps F]

/-- The mean of every row, as a column. -/
def meanV (x : FVec F Tile .f32) : FVec F Col .f32 :=
  divf (shapeCast Col (multiReduction .add [1] ⟨1, ![256]⟩ x 0x00000000#32 (by decide) (.inl rfl) rfl) (by decide))
    (broadcast Col (Scalar.ofBits .f32 0x44800000#32))

def devV (x : FVec F Tile .f32) : FVec F Tile .f32 := subf x (broadcastTo Tile (meanV x) (by decide))

def normV (x : FVec F Tile .f32) (g b : FVec F Row .f32) : FVec F Tile .f32 :=
  addf (mulf (mulf (devV x) (broadcastTo Tile (rsqrt (addf (meanV (mulf (devV x) (devV x)))
    (broadcast Col (Scalar.ofBits .f32 0x3727C5AC#32)))) (by decide))) (broadcastTo Tile g (by decide))) (broadcastTo Tile b (by decide))

def siluV {s : Shape} (g : FVec F s .f32) : FVec F s .f32 :=
  mulf g (divf (broadcast s (Scalar.ofBits .f32 0x3F800000#32))
    (addf (broadcast s (Scalar.ofBits .f32 0x3F800000#32)) (exp (subf (broadcast s (Scalar.ofBits .f32 0x00000000#32)) g))))

def prodV {a : Nat} (n : Nat) (h : FVec F (Mat 256 a) .bf16) (w : Vec F (Slab a n) .bf16) : FVec F (Mat 256 n) .f32 :=
  matmul (DotDims.plain 256 a n) none h (shapeCast (Mat a n) w (casts_slab a n)) (constant (Mat 256 n) .f32 0x00000000#32)

/-- A chunk of `n` columns of the activation times its rows of the second matrix. -/
def chunkV (n : Nat) (h : FVec F Tile .bf16) (wg wu : Vec F (Slab 1024 n) .bf16) (wo : Vec F (Slab n 1024) .bf16) : FVec F Tile .f32 :=
  prodV 1024 (truncf .bf16 (mulf (siluV (prodV n h wg)) (prodV n h wu)) (by decide)) wo

def residV (x y : FVec F Tile .f32) (g : FVec F Row .f32) : FVec F Tile .f32 :=
  addf (mulf (broadcast Tile (Scalar.ofBits .f32 0x3FB504F3#32)) x) (mulf (broadcastTo Tile g (by decide)) y)

def modulV (x : FVec F Tile .f32) (sh sc : FVec F Row .f32) : FVec F Tile .bf16 :=
  truncf .bf16 (addf (mulf x (broadcastTo Tile (addf (broadcast Row (Scalar.ofBits .f32 0x3F800000#32)) sc) (by decide)))
    (broadcastTo Tile sh (by decide))) (by decide)

abbrev Vec4 : Shape := ⟨4, ![1, 1, 1, 1024]⟩

def row3 (v : Vec F (Slab 1 1024) .f32) : FVec F Row .f32 := shapeCast Row v (by decide)
def row4 (v : Vec F Vec4 .f32) : FVec F Row .f32 := shapeCast Row v (by decide)

/-- The two residual steps of the layer over 256 rows, the feed-forward columns in three chunks. -/
def tailV (y : FVec F Tile .f32) (x : Vec F (Slab 256 1024) .f32) (g1 sh sc g2 : Vec F Vec4 .f32) (lg0 lb0 lg1 lb1 : Vec F (Slab 1 1024) .f32)
    (wg0 wu0 : Vec F (Slab 1024 1024) .bf16) (wo0 : Vec F (Slab 1024 1024) .bf16)
    (wg1 wu1 : Vec F (Slab 1024 1024) .bf16) (wo1 : Vec F (Slab 1024 1024) .bf16)
    (wg2 wu2 : Vec F (Slab 1024 768) .bf16) (wo2 : Vec F (Slab 768 1024) .bf16) : Vec F (Slab 256 1024) .f32 :=
  let x1 := normV (residV (shapeCast Tile x (by decide)) y (row4 g1)) (row3 lg0) (row3 lb0)
  let h := modulV x1 (row4 sh) (row4 sc)
  shapeCast (Slab 256 1024) (normV (residV x1 (addf (addf (chunkV 1024 h wg0 wu0 wo0) (chunkV 1024 h wg1 wu1 wo1)) (chunkV 768 h wg2 wu2 wo2))
    (row4 g2)) (row3 lg1) (row3 lb1)) (by decide)

/-! ## Reading it at an index -/

theorem col_apply {α : Type} (v : Col.Idx → α) (h : Col.Broadcasts Tile) (r : Fin 256) (d : Fin 1024) :
    broadcastTo Tile v h (ix2 r d) = v (ix2 r 0) :=
  broadcastTo_apply v h _ _ (fun a => match a with
    | ⟨0, _⟩ => rfl
    | ⟨1, _⟩ => rfl)

theorem meanV_apply (x : FVec Ideal Tile .f32) (r : Fin 256) : meanV x (ix2 r 0) = mean (fun k => x (ix2 r k)) := by
  unfold meanV mean
  rw [divf_apply, shapeCast_a_a1_apply]
  have e := Ideal.multiReduction_add_single (φ := .f32) x 0x00000000#32 (by decide : Tile.Reduces [1] ⟨1, ![256]⟩) (.inl rfl) rfl (ix1 r)
  refine congrArg (Ideal.div · _) (e.trans (Finset.sum_congr rfl fun k _ => congrArg x (funext fun a => ?_)))
  match a with
  | ⟨0, _⟩ => rfl
  | ⟨1, _⟩ => rfl

theorem devV_apply (x : FVec Ideal Tile .f32) (r : Fin 256) (d : Fin 1024) : devV x (ix2 r d) = dev (fun k => x (ix2 r k)) d := by
  unfold devV dev
  rw [subf_apply, col_apply, meanV_apply]

theorem normV_apply (x : FVec Ideal Tile .f32) (g b : FVec Ideal Row .f32) (r : Fin 256) (d : Fin 1024) :
    normV x g b (ix2 r d) = lnorm (fun k => x (ix2 r k)) (fun k => g (ix2 0 k)) (fun k => b (ix2 0 k)) d := by
  unfold normV lnorm
  rw [addf_apply, mulf_apply, mulf_apply, col_apply, devV_apply, broadcastTo_1b_ab_apply, broadcastTo_1b_ab_apply]
  show _ * Ideal.rsqrt (meanV (F := Ideal) _ (ix2 r 0) + _) * _ + _ = _
  rw [meanV_apply]
  simp only [mulf_apply, devV_apply]
  rfl

theorem row3_apply (v : Vec Ideal (Slab 1 1024) .f32) (k : Fin 1024) : row3 v (ix2 0 k) = v (ix3 0 0 k) :=
  shapeCast_1ab_ab_apply v _ 0 k

theorem row4_apply (v : Vec Ideal Vec4 .f32) (k : Fin 1024) : row4 v (ix2 0 k) = v (ix4 0 0 0 k) :=
  shapeCast_apply v _ _ _ (by rw [Shape.rowMajor_val_four, Shape.rowMajor_val_two]; rfl)

theorem siluV_apply {s : Shape} (g : FVec Ideal s .f32) (i : s.Idx) : siluV g i = silu (g i) := by
  unfold siluV silu
  show g i * Ideal.div _ (_ + Ideal.exp (Ideal.ofBits .f32 0x00000000#32 - g i)) = _
  rw [Ideal.ofBits_zero_f32, zero_sub]
  rfl

theorem prodV_apply {a n : Nat} (h : FVec Ideal (Mat 256 a) .bf16) (w : Vec Ideal (Slab a n) .bf16) (r : Fin 256) (c : Fin n) :
    prodV n h w (ix2 r c) = ∑ k : Fin a, (h (ix2 r k) : EReal) * w (ix3 0 k c) := by
  unfold prodV
  refine (Ideal.matmul_plain_apply none h _ _ r c).trans ?_
  rw [constant_apply, Ideal.ofBits_zero_f32, zero_add]
  refine Finset.sum_congr rfl fun k _ => ?_
  rw [shapeCast_1ab_ab_apply]

theorem chunkV_apply (n : Nat) (h : FVec Ideal Tile .bf16) (wg wu : Vec Ideal (Slab 1024 n) .bf16) (wo : Vec Ideal (Slab n 1024) .bf16)
    (r : Fin 256) (d : Fin 1024) : chunkV n h wg wu wo (ix2 r d)
      = ∑ j : Fin n, silu (∑ k : Fin 1024, (h (ix2 r k) : EReal) * wg (ix3 0 k j)) * (∑ k : Fin 1024, (h (ix2 r k) : EReal) * wu (ix3 0 k j)) * wo (ix3 0 j d) := by
  unfold chunkV
  rw [prodV_apply]
  refine Finset.sum_congr rfl fun j _ => ?_
  rw [truncf_apply, mulf_apply, siluV_apply, prodV_apply, prodV_apply]

theorem residV_apply (x y : FVec Ideal Tile .f32) (g : FVec Ideal Row .f32) (r : Fin 256) (k : Fin 1024) :
    residV x y g (ix2 r k) = Ideal.ofBits .f32 0x3FB504F3#32 * x (ix2 r k) + g (ix2 0 k) * y (ix2 r k) := by
  unfold residV
  rw [addf_apply, mulf_apply, mulf_apply, broadcastTo_1b_ab_apply]
  rfl

theorem modulV_apply (x : FVec Ideal Tile .f32) (sh sc : FVec Ideal Row .f32) (r : Fin 256) (k : Fin 1024) :
    modulV x sh sc (ix2 r k) = modul (fun k => x (ix2 r k)) (fun k => sh (ix2 0 k)) (fun k => sc (ix2 0 k)) k := by
  unfold modulV modul
  rw [truncf_apply, addf_apply, mulf_apply, broadcastTo_1b_ab_apply, broadcastTo_1b_ab_apply]
  rfl

/-- A sum over the 2816 columns is the sum of the three chunks'. -/
theorem sum_chunks (f : Fin 2816 → EReal) :
    ∑ j, f j = ((∑ j : Fin 1024, f ⟨j.val, by omega⟩) + ∑ j : Fin 1024, f ⟨1024 + j.val, by omega⟩) + ∑ j : Fin 768, f ⟨2048 + j.val, by omega⟩ := by
  have h := Fin.sum_univ_add (a := 2048) (b := 768) (f := f)
  have h' := Fin.sum_univ_add (a := 1024) (b := 1024) (f := fun i : Fin 2048 => f (Fin.castAdd 768 i))
  exact h.trans (congrArg (· + _) h')

/-- THE TILE READ AT AN INDEX is the layer's row, the first matrix's gate and value columns and the second's rows given in three
    chunks each. -/
theorem tailV_apply (y : FVec Ideal Tile .f32) (x : Vec Ideal (Slab 256 1024) .f32) (g1 sh sc g2 : Vec Ideal Vec4 .f32)
    (lg0 lb0 lg1 lb1 : Vec Ideal (Slab 1 1024) .f32)
    (wg0 wu0 : Vec Ideal (Slab 1024 1024) .bf16) (wo0 : Vec Ideal (Slab 1024 1024) .bf16)
    (wg1 wu1 : Vec Ideal (Slab 1024 1024) .bf16) (wo1 : Vec Ideal (Slab 1024 1024) .bf16)
    (wg2 wu2 : Vec Ideal (Slab 1024 768) .bf16) (wo2 : Vec Ideal (Slab 768 1024) .bf16)
    (win : Fin 1024 → Fin 5632 → EReal) (wout : Fin 2816 → Fin 1024 → EReal)
    (hg0 : ∀ k (j : Fin 1024), wg0 (ix3 0 k j) = win k ⟨j.val, by omega⟩) (hu0 : ∀ k (j : Fin 1024), wu0 (ix3 0 k j) = win k ⟨2816 + j.val, by omega⟩)
    (ho0 : ∀ (j : Fin 1024) d, wo0 (ix3 0 j d) = wout ⟨j.val, by omega⟩ d)
    (hg1 : ∀ k (j : Fin 1024), wg1 (ix3 0 k j) = win k ⟨1024 + j.val, by omega⟩) (hu1 : ∀ k (j : Fin 1024), wu1 (ix3 0 k j) = win k ⟨2816 + (1024 + j.val), by omega⟩)
    (ho1 : ∀ (j : Fin 1024) d, wo1 (ix3 0 j d) = wout ⟨1024 + j.val, by omega⟩ d)
    (hg2 : ∀ k (j : Fin 768), wg2 (ix3 0 k j) = win k ⟨2048 + j.val, by omega⟩) (hu2 : ∀ k (j : Fin 768), wu2 (ix3 0 k j) = win k ⟨2816 + (2048 + j.val), by omega⟩)
    (ho2 : ∀ (j : Fin 768) d, wo2 (ix3 0 j d) = wout ⟨2048 + j.val, by omega⟩ d)
    (r : Fin 256) (d : Fin 1024) :
    tailV y x g1 sh sc g2 lg0 lb0 lg1 lb1 wg0 wu0 wo0 wg1 wu1 wo1 wg2 wu2 wo2 (ix3 0 r d)
      = layer (fun k => x (ix3 0 r k)) (fun k => y (ix2 r k)) (fun k => g1 (ix4 0 0 0 k)) (fun k => sh (ix4 0 0 0 k)) (fun k => sc (ix4 0 0 0 k))
          (fun k => g2 (ix4 0 0 0 k)) (fun k => lg0 (ix3 0 0 k)) (fun k => lb0 (ix3 0 0 k)) (fun k => lg1 (ix3 0 0 k)) (fun k => lb1 (ix3 0 0 k)) win wout d := by
  unfold tailV layer
  simp only [shapeCast_ab_1ab_apply, normV_apply, residV_apply, addf_apply, chunkV_apply, modulV_apply, row3_apply, row4_apply,
    shapeCast_1ab_ab_apply, hg0, hu0, ho0, hg1, hu1, ho1, hg2, hu2, ho2, sum_chunks, gated]

end Cert.Post

end
-- ==== Proof.Post.Blocks.lean ====
/- The layer tail over 256 rows, from the blocks of the windows it reads: both rows of the layer norms' gains and shifts,
   both feed-forward matrices whole. -/
module

public import proofs.«01_k».proof.Proof.Post.Rows
public import Idealize.ShloMosaic.Lib.Pipeline.ValueKit

@[expose] public section

set_option maxRecDepth 16384

noncomputable section

namespace Cert.Post

open Idealize.ShloMosaic hiding ix0 ix1 ix2 ix3 ix4 ix5 eq_ix1 eq_ix2 eq_ix3 eq_ix4 eq_ix5
open Idealize.ShloMosaic.ValueIdx

variable {F : FTy → Type} [FloatOps F]

/-- Equal coordinates, equal indices. -/
theorem ix3_of {A B C : Nat} {i : (⟨3, ![A, B, C]⟩ : Shape).Idx} {a : Fin A} {b : Fin B} {c : Fin C} (h0 : (i 0).val = a.val) (h1 : (i 1).val = b.val)
    (h2 : (i 2).val = c.val) : i = ix3 a b c := funext fun q => Fin.ext (match q with
  | ⟨0, _⟩ => h0
  | ⟨1, _⟩ => h1
  | ⟨2, _⟩ => h2)

theorem ix4_of {A B C D : Nat} {i : (⟨4, ![A, B, C, D]⟩ : Shape).Idx} {a : Fin A} {b : Fin B} {c : Fin C} {d : Fin D} (h0 : (i 0).val = a.val)
    (h1 : (i 1).val = b.val) (h2 : (i 2).val = c.val) (h3 : (i 3).val = d.val) : i = ix4 a b c d := funext fun q => Fin.ext (match q with
  | ⟨0, _⟩ => h0
  | ⟨1, _⟩ => h1
  | ⟨2, _⟩ => h2
  | ⟨3, _⟩ => h3)

/-- A rectangle of a matrix with a leading axis of extent one, from an offset. -/
abbrev cutR (A B a b oa ob : Nat) (h : ∀ i, (![0, oa, ob] : Fin 3 → Nat) i + ((Slab a b).size) i ≤ (Slab A B).size i) : Rect (Slab A B) :=
  Rect.unit (s := Slab A B) ![0, oa, ob] (Slab a b).size h

theorem ld_cut {e : EltTy} {Val : EltTy → Type} (A B a b oa ob : Nat) (h : ∀ i, (![0, oa, ob] : Fin 3 → Nat) i + ((Slab a b).size) i ≤ (Slab A B).size i)
    (v : (Slab A B).Idx → Val e) (r : Fin a) (d : Fin b) (r' : Fin A) (d' : Fin B) (hr : r'.val = oa + r.val) (hd : d'.val = ob + d.val) :
    (View.ld v (cutR A B a b oa ob h) : (Slab a b).Idx → Val e) (ix3 0 r d) = v (ix3 0 r' d') := by
  have e := View.ld_unit_apply_of v (![0, oa, ob] : Fin 3 → Nat) (Slab a b).size h (ix3 0 r d) (ix3 0 r' d') fun i => by
    match i with
    | ⟨0, _⟩ => rfl
    | ⟨1, _⟩ => exact hr
    | ⟨2, _⟩ => exact hd
  exact e

/-- The tail over one group of rows. -/
def tileV (y : FVec F Tile .f32) (x : Vec F (Slab 256 1024) .f32) (g1 sh sc g2 : Vec F Vec4 .f32) (lg lb : Vec F (Slab 2 1024) .f32)
    (win : Vec F (Slab 1024 5632) .bf16) (wout : Vec F (Slab 2816 1024) .bf16) : Vec F (Slab 256 1024) .f32 :=
  tailV y x g1 sh sc g2 (View.ld lg (cutR 2 1024 1 1024 0 0 (by decide))) (View.ld lb (cutR 2 1024 1 1024 0 0 (by decide)))
    (View.ld lg (cutR 2 1024 1 1024 1 0 (by decide))) (View.ld lb (cutR 2 1024 1 1024 1 0 (by decide)))
    (View.ld win (cutR 1024 5632 1024 1024 0 0 (by decide))) (View.ld win (cutR 1024 5632 1024 1024 0 2816 (by decide)))
    (View.ld wout (cutR 2816 1024 1024 1024 0 0 (by decide)))
    (View.ld win (cutR 1024 5632 1024 1024 0 1024 (by decide))) (View.ld win (cutR 1024 5632 1024 1024 0 3840 (by decide)))
    (View.ld wout (cutR 2816 1024 1024 1024 1024 0 (by decide)))
    (View.ld win (cutR 1024 5632 1024 768 0 2048 (by decide))) (View.ld win (cutR 1024 5632 1024 768 0 4864 (by decide)))
    (View.ld wout (cutR 2816 1024 768 1024 2048 0 (by decide)))

/-- ONE GROUP'S TAIL, read at an index, is the layer of its row. -/
theorem tileV_apply (y : FVec Ideal Tile .f32) (x : Vec Ideal (Slab 256 1024) .f32) (g1 sh sc g2 : Vec Ideal Vec4 .f32) (lg lb : Vec Ideal (Slab 2 1024) .f32)
    (win : Vec Ideal (Slab 1024 5632) .bf16) (wout : Vec Ideal (Slab 2816 1024) .bf16) (r : Fin 256) (d : Fin 1024) :
    tileV y x g1 sh sc g2 lg lb win wout (ix3 0 r d)
      = layer (fun k => x (ix3 0 r k)) (fun k => y (ix2 r k)) (fun k => g1 (ix4 0 0 0 k)) (fun k => sh (ix4 0 0 0 k)) (fun k => sc (ix4 0 0 0 k))
          (fun k => g2 (ix4 0 0 0 k)) (fun k => lg (ix3 0 0 k)) (fun k => lb (ix3 0 0 k)) (fun k => lg (ix3 0 1 k)) (fun k => lb (ix3 0 1 k))
          (fun k j => win (ix3 0 k j)) (fun j d => wout (ix3 0 j d)) d := by
  unfold tileV
  rw [tailV_apply (win := fun k j => win (ix3 0 k j)) (wout := fun j d => wout (ix3 0 j d))]
  · congr 1
    all_goals exact funext fun k => ld_cut _ _ _ _ _ _ _ _ _ _ _ _ rfl (Nat.zero_add _).symm
  all_goals intro a b; apply ld_cut
  all_goals first | exact (Nat.zero_add _).symm | rfl | (simp only []; omega)

end Cert.Post

end
-- ==== Proof.Out.Block.lean ====
/- What one grid point of the output projection's program leaves in its result block: the layer tail of each of its 1024
   rows. -/
module

public import proofs.«01_k».proof.Proof.Post.Blocks
public import proofs.«01_k».proof.Proof.Gen.OutIdeal.Frame

@[expose] public section

set_option maxRecDepth 16384

noncomputable section

namespace Cert.Proof.Out

open Idealize.ShloMosaic hiding ix0 ix1 ix2 ix3 ix4 ix5 eq_ix1 eq_ix2 eq_ix3 eq_ix4 eq_ix5
open Idealize.ShloMosaic.ValueIdx
open Cert.OutIdeal Cert.OutIdeal.Gen Cert.Post
open scoped BigOperators

/-- The tail of the 256 rows from row `o` on: the mixer's output is the attention's rows times the output projection. -/
def rowsV {F : FTy → Type} [FloatOps F] (o : Nat) (h : ∀ i, (![0, o, 0] : Fin 3 → Nat) i + ((Slab 256 1024).size) i ≤ (Slab 1024 1024).size i)
    (x0 : Vec F S1x1024x1024 .f32) (x1 : Vec F S1x1024x1024 .bf16) (x2 : Vec F S1x1024x1024 .bf16) (x3 x4 x5 x6 : Vec F S1x1x1x1024 .f32)
    (x7 x8 : Vec F S1x2x1024 .f32) (x9 : Vec F S1x1024x5632 .bf16) (x10 : Vec F S1x2816x1024 .bf16) : Vec F (Slab 256 1024) .f32 :=
  tileV (prodV 1024 (shapeCast Tile (View.ld x1 (cutR 1024 1024 256 1024 o 0 h)) (casts_slab 256 1024)) (View.ld x2 r0_1))
    (View.ld x0 (cutR 1024 1024 256 1024 o 0 h)) (View.ld x3 r0_2) (View.ld x4 r0_2) (View.ld x5 r0_2) (View.ld x6 r0_2) x7 x8 x9 x10

section
variable {F : FTy → Type} [FloatOps F] (x0 : Vec F S1x1024x1024 .f32) (x1 : Vec F S1x1024x1024 .bf16) (x2 : Vec F S1x1024x1024 .bf16)
  (x3 x4 x5 x6 : Vec F S1x1x1x1024 .f32) (x7 x8 : Vec F S1x2x1024 .f32) (x9 : Vec F S1x1024x5632 .bf16) (x10 : Vec F S1x2816x1024 .bf16)

theorem block_eq : out0_11 x0 x1 x2 x3 x4 x5 x6 x7 x8 x9 x10 =
    View.canon [⟨r0_15, rowsV 768 (by decide) x0 x1 x2 x3 x4 x5 x6 x7 x8 x9 x10⟩, ⟨r0_11, rowsV 512 (by decide) x0 x1 x2 x3 x4 x5 x6 x7 x8 x9 x10⟩,
      ⟨r0_7, rowsV 256 (by decide) x0 x1 x2 x3 x4 x5 x6 x7 x8 x9 x10⟩, ⟨r0_0, rowsV 0 (by decide) x0 x1 x2 x3 x4 x5 x6 x7 x8 x9 x10⟩] := by
  rfl

end

variable (x0 : Vec Ideal S1x1024x1024 .f32) (x1 : Vec Ideal S1x1024x1024 .bf16) (x2 : Vec Ideal S1x1024x1024 .bf16)
  (x3 x4 x5 x6 : Vec Ideal S1x1x1x1024 .f32) (x7 x8 : Vec Ideal S1x2x1024 .f32) (x9 : Vec Ideal S1x1024x5632 .bf16) (x10 : Vec Ideal S1x2816x1024 .bf16)

/-- The block's contents: the layer of each row. -/
def blockG (r : Fin 1024) (d : Fin 1024) : EReal :=
  layer (fun k => x0 (ix3 0 r k)) (fun k => ∑ e : Fin 1024, x1 (ix3 0 r e) * x2 (ix3 0 e k)) (fun k => x3 (ix4 0 0 0 k)) (fun k => x4 (ix4 0 0 0 k))
    (fun k => x5 (ix4 0 0 0 k)) (fun k => x6 (ix4 0 0 0 k)) (fun k => x7 (ix3 0 0 k)) (fun k => x8 (ix3 0 0 k)) (fun k => x7 (ix3 0 1 k))
    (fun k => x8 (ix3 0 1 k)) (fun k j => x9 (ix3 0 k j)) (fun j d => x10 (ix3 0 j d)) d

theorem ld_whole (v : Vec Ideal S1x1x1x1024 .f32) : View.ld v r0_2 = v :=
  View.ld_unit_lit _ v (by decide)

theorem rowsV_apply (o : Nat) (h) (r : Fin 256) (d : Fin 1024) (r' : Fin 1024) (hr : r'.val = o + r.val) :
    rowsV o h x0 x1 x2 x3 x4 x5 x6 x7 x8 x9 x10 (ix3 0 r d) = blockG x0 x1 x2 x3 x4 x5 x6 x7 x8 x9 x10 r' d := by
  unfold rowsV blockG
  rw [tileV_apply, ld_whole, ld_whole, ld_whole, ld_whole]
  congr 1
  · exact funext fun k => ld_cut _ _ _ _ _ _ _ _ _ _ _ _ hr (Nat.zero_add _).symm
  · funext k
    rw [prodV_apply]
    refine Finset.sum_congr rfl fun e _ => ?_
    rw [shapeCast_1ab_ab_apply]
    congr 1
    · exact ld_cut _ _ _ _ _ _ _ _ _ _ _ _ hr (Nat.zero_add _).symm
    · exact ld_cut 1024 1024 1024 1024 0 0 (by decide) x2 e k e k (Nat.zero_add _).symm (Nat.zero_add _).symm

/-- THE BLOCK, read at an index. -/
theorem block_apply (r d : Fin 1024) : out0_11 x0 x1 x2 x3 x4 x5 x6 x7 x8 x9 x10 (ix3 0 r d) = blockG x0 x1 x2 x3 x4 x5 x6 x7 x8 x9 x10 r d := by
  rw [block_eq]
  refine View.canon_apply_of_pieces (Val := Elt Ideal) (fun y : S1x1024x1024.Idx => blockG x0 x1 x2 x3 x4 x5 x6 x7 x8 x9 x10 (y 1) (y 2)) _ (fun p hp => ?_) _
    (cover0_11 _ _ _ _ _)
  have key : ∀ (o : Nat) (h : ∀ i, (![0, o, 0] : Fin 3 → Nat) i + ((Slab 256 1024).size) i ≤ (Slab 1024 1024).size i) (z : (Slab 256 1024).Idx),
      rowsV o h x0 x1 x2 x3 x4 x5 x6 x7 x8 x9 x10 z = blockG x0 x1 x2 x3 x4 x5 x6 x7 x8 x9 x10
        (((cutR 1024 1024 256 1024 o 0 h).emb z) 1) (((cutR 1024 1024 256 1024 o 0 h).emb z) 2) := fun o h z => by
    obtain ⟨a, r, d, rfl⟩ : ∃ a r d, z = ix3 a r d := ⟨z 0, z 1, z 2, eq_ix3 z⟩
    obtain rfl : a = 0 := Subsingleton.elim _ _
    have e1 : (((cutR 1024 1024 256 1024 o 0 h).emb (ix3 0 r d)) 1 : Nat) = o + r.val := Rect.idx_unit_val ..
    have e2 : ((cutR 1024 1024 256 1024 o 0 h).emb (ix3 0 r d)) 2 = d := Fin.ext ((Rect.idx_unit_val ..).trans (Nat.zero_add _))
    rw [e2]
    exact rowsV_apply x0 x1 x2 x3 x4 x5 x6 x7 x8 x9 x10 o h r d _ e1
  simp only [List.mem_cons, List.not_mem_nil, or_false] at hp
  rcases hp with rfl | rfl | rfl | rfl
  all_goals exact key _ _

end Cert.Proof.Out

end
-- ==== Proof.Out.Array.lean ====
/- The result array of the output projection's program: at every index the layer tail of the arguments' row. -/
module

public import proofs.«01_k».proof.Proof.Out.Block
public import proofs.«01_k».proof.Proof.Gen.OutIdeal.Value

@[expose] public section

set_option maxRecDepth 16384

noncomputable section

namespace Cert.Proof.Out

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.OutIdeal Cert.OutIdeal.Gen Cert.Post
open scoped BigOperators

/-- The layer of one row of the batch: `g1`, the shift, the scale and `g2` are the modulation's last four groups of columns. -/
def outRow (a0 a1 : (⟨3, ![16, 2048, 1024]⟩ : Shape).Idx → EReal) (a2 : (Slab 1024 1024).Idx → EReal) (a3 : (⟨4, ![2, 24, 1, 6144]⟩ : Shape).Idx → EReal)
    (a4 a5 : (⟨3, ![2, 2, 1024]⟩ : Shape).Idx → EReal) (a6 : (⟨3, ![2, 1024, 5632]⟩ : Shape).Idx → EReal)
    (a7 : (⟨3, ![2, 2816, 1024]⟩ : Shape).Idx → EReal) (b : Fin 16) (t : Fin 2048) (d : Fin 1024) : EReal :=
  layer (fun k => a0 (ix3 b t k)) (fun k => ∑ e : Fin 1024, a1 (ix3 b t e) * a2 (ix3 0 e k))
    (fun k => a3 (ix4 0 ⟨b.val, by omega⟩ 0 ⟨2048 + k.val, by omega⟩)) (fun k => a3 (ix4 0 ⟨b.val, by omega⟩ 0 ⟨3072 + k.val, by omega⟩))
    (fun k => a3 (ix4 0 ⟨b.val, by omega⟩ 0 ⟨4096 + k.val, by omega⟩)) (fun k => a3 (ix4 0 ⟨b.val, by omega⟩ 0 ⟨5120 + k.val, by omega⟩))
    (fun k => a4 (ix3 0 0 k)) (fun k => a5 (ix3 0 0 k)) (fun k => a4 (ix3 0 1 k)) (fun k => a5 (ix3 0 1 k))
    (fun k j => a6 (ix3 0 k j)) (fun j d => a7 (ix3 0 j d)) d

variable (m : (ℓ : Loc nD τ sig) → Buf (Elt Ideal) ℓ) (ρ : Dev nD → PrngReg)

/-- The copy of the projection in the shorter format holds its numbers. -/
theorem V_main_v0 (c : Dev nD) : V m c main_v0 = m ((c : Thread nD τ).loc main_arg2) := by
  rfl

/-! ## The blocks, read at an index -/

section
variable (c : Dev nD) (t : Fin cfg0.N) (b : Fin 16) (hb : b.val = (grid0.coords t 0).val)
include hb

theorem blk0 (r k : Fin 1024) (u : Fin 2048) (hu : u.val = (grid0.coords t 1).val * 1024 + r.val) :
    iblk m c 0 t (ix3 0 r k) = V m c main_arg0 (ix3 b u k) := by
  refine congrArg (V m c main_arg0) (funext fun a => Fin.ext ((win0_0.rect_emb_val t _ a).trans ?_))
  rw [(by decide +kernel : ∀ t : Fin grid0.N, win0_0.index t = ![(grid0.coords t 0).val, (grid0.coords t 1).val, 0]) t]
  match a with
  | ⟨0, _⟩ => exact (Nat.mul_one _).trans hb.symm
  | ⟨1, _⟩ => exact hu.symm
  | ⟨2, _⟩ => exact Nat.zero_add _

theorem blk1 (r k : Fin 1024) (u : Fin 2048) (hu : u.val = (grid0.coords t 1).val * 1024 + r.val) :
    iblk m c 1 t (ix3 0 r k) = V m c main_arg1 (ix3 b u k) := by
  refine congrArg (V m c main_arg1) (funext fun a => Fin.ext ((win0_1.rect_emb_val t _ a).trans ?_))
  rw [(by decide +kernel : ∀ t : Fin grid0.N, win0_1.index t = ![(grid0.coords t 0).val, (grid0.coords t 1).val, 0]) t]
  match a with
  | ⟨0, _⟩ => exact (Nat.mul_one _).trans hb.symm
  | ⟨1, _⟩ => exact hu.symm
  | ⟨2, _⟩ => exact Nat.zero_add _

theorem blk3 (k : Fin 1024) : iblk m c 3 t (ix4 0 0 0 k) = V m c main_arg3 (ix4 0 ⟨b.val, by omega⟩ 0 ⟨2048 + k.val, by omega⟩) := by
  refine congrArg (V m c main_arg3) (funext fun a => Fin.ext ((win0_3.rect_emb_val t _ a).trans ?_))
  rw [(by decide +kernel : ∀ t : Fin grid0.N, win0_3.index t = ![0, (grid0.coords t 0).val, 0, 2]) t]
  match a with
  | ⟨1, _⟩ => exact (Nat.mul_one _).trans hb.symm
  | ⟨0, _⟩ | ⟨2, _⟩ | ⟨3, _⟩ => rfl

theorem blk4 (k : Fin 1024) : iblk m c 4 t (ix4 0 0 0 k) = V m c main_arg3 (ix4 0 ⟨b.val, by omega⟩ 0 ⟨3072 + k.val, by omega⟩) := by
  refine congrArg (V m c main_arg3) (funext fun a => Fin.ext ((win0_4.rect_emb_val t _ a).trans ?_))
  rw [(by decide +kernel : ∀ t : Fin grid0.N, win0_4.index t = ![0, (grid0.coords t 0).val, 0, 3]) t]
  match a with
  | ⟨1, _⟩ => exact (Nat.mul_one _).trans hb.symm
  | ⟨0, _⟩ | ⟨2, _⟩ | ⟨3, _⟩ => rfl

theorem blk5 (k : Fin 1024) : iblk m c 5 t (ix4 0 0 0 k) = V m c main_arg3 (ix4 0 ⟨b.val, by omega⟩ 0 ⟨4096 + k.val, by omega⟩) := by
  refine congrArg (V m c main_arg3) (funext fun a => Fin.ext ((win0_5.rect_emb_val t _ a).trans ?_))
  rw [(by decide +kernel : ∀ t : Fin grid0.N, win0_5.index t = ![0, (grid0.coords t 0).val, 0, 4]) t]
  match a with
  | ⟨1, _⟩ => exact (Nat.mul_one _).trans hb.symm
  | ⟨0, _⟩ | ⟨2, _⟩ | ⟨3, _⟩ => rfl

theorem blk6 (k : Fin 1024) : iblk m c 6 t (ix4 0 0 0 k) = V m c main_arg3 (ix4 0 ⟨b.val, by omega⟩ 0 ⟨5120 + k.val, by omega⟩) := by
  refine congrArg (V m c main_arg3) (funext fun a => Fin.ext ((win0_6.rect_emb_val t _ a).trans ?_))
  rw [(by decide +kernel : ∀ t : Fin grid0.N, win0_6.index t = ![0, (grid0.coords t 0).val, 0, 5]) t]
  match a with
  | ⟨1, _⟩ => exact (Nat.mul_one _).trans hb.symm
  | ⟨0, _⟩ | ⟨2, _⟩ | ⟨3, _⟩ => rfl

end

section
variable (c : Dev nD) (t : Fin cfg0.N)

theorem blk2 (r k : Fin 1024) : iblk m c 2 t (ix3 0 r k) = V m c main_v0 (ix3 0 r k) :=
  congrArg (V m c main_v0) (funext fun a => Fin.ext (win0_2.rect_emb_val_of_index_zero t a
    ((by decide +kernel : ∀ (t : Fin grid0.N) a, win0_2.index t a = 0) t a) _))

theorem blk7 (r : Fin 2) (k : Fin 1024) : iblk m c 7 t (ix3 0 r k) = V m c main_arg4 (ix3 0 r k) := by
  refine congrArg (V m c main_arg4) (funext fun a => Fin.ext ((win0_7.rect_emb_val_of_index_zero t a
    ((by decide +kernel : ∀ (t : Fin grid0.N) a, win0_7.index t a = 0) t a) _).trans ?_))
  match a with
  | ⟨0, _⟩ | ⟨1, _⟩ | ⟨2, _⟩ => rfl

theorem blk8 (r : Fin 2) (k : Fin 1024) : iblk m c 8 t (ix3 0 r k) = V m c main_arg5 (ix3 0 r k) := by
  refine congrArg (V m c main_arg5) (funext fun a => Fin.ext ((win0_8.rect_emb_val_of_index_zero t a
    ((by decide +kernel : ∀ (t : Fin grid0.N) a, win0_8.index t a = 0) t a) _).trans ?_))
  match a with
  | ⟨0, _⟩ | ⟨1, _⟩ | ⟨2, _⟩ => rfl

theorem blk9 (r : Fin 1024) (k : Fin 5632) : iblk m c 9 t (ix3 0 r k) = V m c main_arg6 (ix3 0 r k) := by
  refine congrArg (V m c main_arg6) (funext fun a => Fin.ext ((win0_9.rect_emb_val_of_index_zero t a
    ((by decide +kernel : ∀ (t : Fin grid0.N) a, win0_9.index t a = 0) t a) _).trans ?_))
  match a with
  | ⟨0, _⟩ | ⟨1, _⟩ | ⟨2, _⟩ => rfl

theorem blk10 (r : Fin 2816) (k : Fin 1024) : iblk m c 10 t (ix3 0 r k) = V m c main_arg7 (ix3 0 r k) := by
  refine congrArg (V m c main_arg7) (funext fun a => Fin.ext ((win0_10.rect_emb_val_of_index_zero t a
    ((by decide +kernel : ∀ (t : Fin grid0.N) a, win0_10.index t a = 0) t a) _).trans ?_))
  match a with
  | ⟨0, _⟩ | ⟨1, _⟩ | ⟨2, _⟩ => rfl

/-- Where an entry of the result's block lies in the result. -/
theorem emb11 (r d : Fin 1024) : ((cfg0.win 11).blk t).view.emb (ix3 0 r d)
    = ix3 ⟨(grid0.coords t 0).val, (grid0.coords t 0).isLt⟩
        ⟨(grid0.coords t 1).val * 1024 + r.val, by have h : (grid0.coords t 1).val < 2 := (grid0.coords t 1).isLt; omega⟩ d := by
  refine funext fun a => Fin.ext ((win0_11.rect_emb_val t _ a).trans ?_)
  rw [(by decide +kernel : ∀ t : Fin grid0.N, win0_11.index t = ![(grid0.coords t 0).val, (grid0.coords t 1).val, 0]) t]
  match a with
  | ⟨0, _⟩ => exact Nat.mul_one _
  | ⟨1, _⟩ => rfl
  | ⟨2, _⟩ => exact Nat.zero_add _

end

/-- A point's block of the result, read at an index. -/
theorem after_apply (c : Dev nD) (t : Fin cfg0.N) (b : Fin 16) (hb : b.val = (grid0.coords t 0).val) (r d : Fin 1024) (u : Fin 2048)
    (hu : u.val = (grid0.coords t 1).val * 1024 + r.val) :
    out0_11 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (ix3 0 r d)
      = outRow (V m c main_arg0) (V m c main_arg1) (V m c main_v0) (V m c main_arg3) (V m c main_arg4) (V m c main_arg5) (V m c main_arg6)
          (V m c main_arg7) b u d := by
  refine (block_apply ..).trans ?_
  unfold blockG outRow
  congr 1
  · exact funext fun k => blk0 m c t b hb r k u hu
  · exact funext fun k => Finset.sum_congr rfl fun e _ => congrArg₂ (· * ·) (blk1 m c t b hb r e u hu) (blk2 m c t e k)
  · exact funext fun k => blk3 m c t b hb k
  · exact funext fun k => blk4 m c t b hb k
  · exact funext fun k => blk5 m c t b hb k
  · exact funext fun k => blk6 m c t b hb k
  · exact funext fun k => blk7 m c t 0 k
  · exact funext fun k => blk8 m c t 0 k
  · exact funext fun k => blk7 m c t 1 k
  · exact funext fun k => blk8 m c t 1 k
  · exact funext fun k => funext fun j => blk9 m c t k j
  · exact funext fun k => funext fun j => blk10 m c t k j

/-- THE RESULT ARRAY after the run. -/
theorem final (c : Dev nD) : (dats m 0 c).arrAt 11 cfg0.N = fun i : S16x2048x1024.Idx =>
    outRow (V m c main_arg0) (V m c main_arg1) (V m c main_v0) (V m c main_arg3) (V m c main_arg4) (V m c main_arg5) (V m c main_arg6)
      (V m c main_arg7) (i 0) (i 1) (i 2) := by
  refine (dats m 0 c).arrAt_eq_of_covers 11 _ (by decide +kernel) fun t hf y => ?_
  obtain ⟨a, r, d, rfl⟩ : ∃ (a : Fin 1) (r d : Fin 1024), y = ix3 a r d := ⟨y 0, y 1, y 2, eq_ix3 y⟩
  obtain rfl : a = 0 := Subsingleton.elim _ _
  rw [emb11]
  blk_simp
  rw [after0_11]
  exact after_apply m c t _ rfl r d _ rfl

end Cert.Proof.Out

end
-- ==== Proof.Out.Ref.lean ====
/- What the reference of the output projection computes, read at an index: the layer of each row. -/
module

public import proofs.«01_k».proof.Proof.Out.Array
public import proofs.«01_k».proof.Proof.Gen.OutRefIdeal.Read

@[expose] public section

set_option maxRecDepth 16384

noncomputable section

namespace Cert.Proof.Out.Ref

open Idealize.ShloMosaic hiding ix0 ix1 ix2 ix3 ix4 ix5 eq_ix1 eq_ix2 eq_ix3 eq_ix4 eq_ix5
open Idealize.ShloMosaic.ValueIdx
open Cert.OutRefIdeal Cert.OutRefIdeal.Read Cert.Post
open scoped BigOperators

variable (x0 : (⟨S16x2048x1024, .f32⟩ : BufTy).Contents (Elt Ideal)) (x1 : (⟨S16x2048x1024, .bf16⟩ : BufTy).Contents (Elt Ideal))
  (x2 : (⟨S1x1024x1024, .f32⟩ : BufTy).Contents (Elt Ideal)) (x3 : (⟨S2x24x1x6144, .f32⟩ : BufTy).Contents (Elt Ideal))
  (x4 x5 : (⟨S2x2x1024, .f32⟩ : BufTy).Contents (Elt Ideal)) (x6 : (⟨S2x1024x5632, .bf16⟩ : BufTy).Contents (Elt Ideal))
  (x7 : (⟨S2x2816x1024, .bf16⟩ : BufTy).Contents (Elt Ideal)) (b : Fin 16) (t : Fin 2048)

/-- The attention's row times the output projection. -/
theorem proj (k : Fin 1024) : val_main_v2 x1 x2 (ix3 b t k) = ∑ e : Fin 1024, (x1 (ix3 b t e) : EReal) * x2 (ix3 0 e k) := by
  rw [val_main_v2_apply]
  refine Finset.sum_congr rfl fun e _ => ?_
  rw [val_main_v1_apply]
  congr 1
  · exact congrArg x1 (ix3_of rfl rfl rfl)
  · refine congrArg x2 (ix3_of rfl ?_ ?_)
    · show (e.val * 1024 + k.val) / 1024 % 1024 = e.val; omega
    · show (e.val * 1024 + k.val) % 1024 = k.val; omega

/-! ## The modulation's columns -/

theorem cond (o : Fin 6144) : val_main_v4 x3 (ix3 b 0 o) = x3 (ix4 0 ⟨b.val, by omega⟩ 0 o) := by
  rw [val_main_v4_apply, val_main_v3_apply]
  refine congrArg x3 (ix4_of rfl ?_ rfl ?_)
  · show ((b.val * 1 + 0) * 6144 + o.val) / 6144 % 16 = b.val; omega
  · show ((b.val * 1 + 0) * 6144 + o.val) % 6144 = o.val; omega

theorem gate1 (k : Fin 1024) : val_main_v23 x3 (ix3 b t k) = x3 (ix4 0 ⟨b.val, by omega⟩ 0 ⟨2048 + k.val, by omega⟩) := by
  rw [val_main_v23_apply, val_main_v7_apply]
  exact (congrArg _ (ix3_of rfl rfl rfl)).trans (cond x3 b _)

theorem shift (k : Fin 1024) : val_main_v60 x3 (ix3 b t k) = x3 (ix4 0 ⟨b.val, by omega⟩ 0 ⟨3072 + k.val, by omega⟩) := by
  rw [val_main_v60_apply, val_main_v8_apply]
  exact (congrArg _ (ix3_of rfl rfl rfl)).trans (cond x3 b _)

theorem scale (k : Fin 1024) : val_main_v58 x3 (ix3 b t k)
    = Ideal.ofBits .f32 0x3F800000#32 + x3 (ix4 0 ⟨b.val, by omega⟩ 0 ⟨4096 + k.val, by omega⟩) := by
  rw [val_main_v58_apply, val_main_v57_apply, val_main_v56_apply, val_main_v9_apply]
  exact congrArg (_ + ·) ((congrArg _ (ix3_of rfl rfl rfl)).trans (cond x3 b _))

theorem gate2 (k : Fin 1024) : val_main_v68 x3 (ix3 b t k) = x3 (ix4 0 ⟨b.val, by omega⟩ 0 ⟨5120 + k.val, by omega⟩) := by
  rw [val_main_v68_apply, val_main_v10_apply]
  exact (congrArg _ (ix3_of rfl rfl rfl)).trans (cond x3 b _)

/-! ## The layer norms' rows and the feed-forward matrices -/

theorem gain0 (k : Fin 1024) : val_main_v49 x4 (ix3 b t k) = x4 (ix3 0 0 k) := by
  rw [val_main_v49_apply, val_main_v48_apply, val_main_v27_apply, val_main_v26_apply, val_main_v12_apply, val_main_v11_apply]
  refine congrArg x4 (ix3_of rfl ?_ ?_) <;> (simp [ix3]; try omega)

theorem bias0 (k : Fin 1024) : val_main_v52 x5 (ix3 b t k) = x5 (ix3 0 0 k) := by
  rw [val_main_v52_apply, val_main_v51_apply, val_main_v29_apply, val_main_v28_apply, val_main_v14_apply, val_main_v13_apply]
  refine congrArg x5 (ix3_of rfl ?_ ?_) <;> (simp [ix3]; try omega)

theorem gain1 (k : Fin 1024) : val_main_v94 x4 (ix3 b t k) = x4 (ix3 0 1 k) := by
  rw [val_main_v94_apply, val_main_v93_apply, val_main_v72_apply, val_main_v71_apply, val_main_v12_apply, val_main_v11_apply]
  refine congrArg x4 (ix3_of rfl ?_ ?_) <;> (simp [ix3]; try omega)

theorem bias1 (k : Fin 1024) : val_main_v97 x5 (ix3 b t k) = x5 (ix3 0 1 k) := by
  rw [val_main_v97_apply, val_main_v96_apply, val_main_v74_apply, val_main_v73_apply, val_main_v14_apply, val_main_v13_apply]
  refine congrArg x5 (ix3_of rfl ?_ ?_) <;> (simp [ix3]; try omega)

theorem first (k : Fin 1024) (j : Fin 5632) : val_main_v17 x6 (ix2 k j) = x6 (ix3 0 k j) := by
  rw [val_main_v17_apply, val_main_v16_apply, val_main_v15_apply]
  refine congrArg x6 (ix3_of rfl ?_ ?_)
  · show (k.val * 5632 + j.val) / 5632 % 1024 = k.val; omega
  · show (k.val * 5632 + j.val) % 5632 = j.val; omega

theorem second (j : Fin 2816) (d : Fin 1024) : val_main_v20 x7 (ix2 j d) = x7 (ix3 0 j d) := by
  rw [val_main_v20_apply, val_main_v19_apply, val_main_v18_apply]
  refine congrArg x7 (ix3_of rfl ?_ ?_)
  · show (j.val * 1024 + d.val) / 1024 % 2816 = j.val; omega
  · show (j.val * 1024 + d.val) % 1024 = d.val; omega

/-! ## The first residual and its norm -/

theorem resid0 (k : Fin 1024) : val_main_v25 x0 x1 x2 x3 (ix3 b t k) = Ideal.ofBits .f32 0x3FB504F3#32 * x0 (ix3 b t k)
    + x3 (ix4 0 ⟨b.val, by omega⟩ 0 ⟨2048 + k.val, by omega⟩) * ∑ e : Fin 1024, (x1 (ix3 b t e) : EReal) * x2 (ix3 0 e k) := by
  rw [val_main_v25_apply, val_main_v24_apply, gate1, proj, val_main_v22_apply, val_main_v21_apply]
  rfl

theorem mean0 : val_main_v33 x0 x1 x2 x3 (ix3 b t 0) = mean (fun k => val_main_v25 x0 x1 x2 x3 (ix3 b t k)) := by
  rw [val_main_v33_apply, val_main_v31_apply, val_main_v30_apply]
  refine congrArg (Ideal.div · _) ?_
  show Ideal.ofBits .f32 0x00000000#32 + _ = _
  rw [Ideal.ofBits_zero_f32, zero_add]
  exact Finset.sum_congr rfl fun k _ => congrArg _ (ix3_of rfl rfl rfl)

theorem dev0 (k : Fin 1024) : val_main_v35 x0 x1 x2 x3 (ix3 b t k) = dev (fun k => val_main_v25 x0 x1 x2 x3 (ix3 b t k)) k := by
  rw [val_main_v35_apply, val_main_v34_apply]
  exact congrArg (_ - ·) ((congrArg _ (ix3_of rfl rfl rfl)).trans (mean0 x0 x1 x2 x3 b t))

theorem var0 : val_main_v40 x0 x1 x2 x3 (ix3 b t 0)
    = mean (fun k => dev (fun k => val_main_v25 x0 x1 x2 x3 (ix3 b t k)) k * dev (fun k => val_main_v25 x0 x1 x2 x3 (ix3 b t k)) k) := by
  rw [val_main_v40_apply, val_main_v38_apply, val_main_v37_apply]
  refine congrArg (Ideal.div · _) ?_
  show Ideal.ofBits .f32 0x00000000#32 + _ = _
  rw [Ideal.ofBits_zero_f32, zero_add]
  refine Finset.sum_congr rfl fun k _ => (congrArg _ (ix3_of (a := b) (b := t) (c := k) rfl rfl rfl)).trans ?_
  rw [val_main_v36_apply, dev0]
  rfl

theorem norm0 (k : Fin 1024) : val_main_v53 x0 x1 x2 x3 x4 x5 (ix3 b t k)
    = lnorm (fun k => val_main_v25 x0 x1 x2 x3 (ix3 b t k)) (fun k => x4 (ix3 0 0 k)) (fun k => x5 (ix3 0 0 k)) k := by
  rw [val_main_v53_apply, val_main_v50_apply, val_main_v47_apply, gain0, bias0, val_main_v46_apply, val_main_v45_apply, val_main_v44_apply]
  unfold lnorm
  refine congrArg (· + _) (congrArg (· * _) (congrArg₂ (· * ·) (dev0 x0 x1 x2 x3 b t k) ?_))
  refine congrArg (fun z => Ideal.rsqrt (z + _)) ?_
  exact (congrArg _ (ix3_of rfl rfl rfl)).trans (var0 x0 x1 x2 x3 b t)

/-! ## The feed-forward product -/

theorem modul0 (k : Fin 1024) : val_main_v61 x0 x1 x2 x3 x4 x5 (ix3 b t k) = modul (fun k => val_main_v53 x0 x1 x2 x3 x4 x5 (ix3 b t k))
    (fun k => x3 (ix4 0 ⟨b.val, by omega⟩ 0 ⟨3072 + k.val, by omega⟩)) (fun k => x3 (ix4 0 ⟨b.val, by omega⟩ 0 ⟨4096 + k.val, by omega⟩)) k := by
  rw [val_main_v61_apply, val_main_v59_apply, scale, shift]
  rfl

theorem columns (j : Fin 5632) : val_main_v62 x0 x1 x2 x3 x4 x5 x6 (ix3 b t j)
    = ∑ k : Fin 1024, val_main_v61 x0 x1 x2 x3 x4 x5 (ix3 b t k) * x6 (ix3 0 k j) := by
  rw [val_main_v62_apply]
  refine Finset.sum_congr rfl fun k _ => congrArg₂ (· * ·) (congrArg _ (ix3_of rfl rfl rfl)) (Eq.trans ?_ (first x6 k j))
  refine congrArg _ (funext fun q => Fin.ext (match q with
    | ⟨0, _⟩ => rfl
    | ⟨1, _⟩ => rfl))

theorem activ (j : Fin 2816) : val_main_v66 x0 x1 x2 x3 x4 x5 x6 (ix3 b t j)
    = gated (fun k => val_main_v61 x0 x1 x2 x3 x4 x5 (ix3 b t k)) (fun k j => x6 (ix3 0 k j)) j := by
  have e1 : val_main_v63 x0 x1 x2 x3 x4 x5 x6 (ix3 b t j) = ∑ k : Fin 1024, val_main_v61 x0 x1 x2 x3 x4 x5 (ix3 b t k) * x6 (ix3 0 k ⟨j.val, by omega⟩) := by
    rw [val_main_v63_apply]
    exact (congrArg _ (ix3_of rfl rfl rfl)).trans (columns x0 x1 x2 x3 x4 x5 x6 b t _)
  have e2 : val_main_v64 x0 x1 x2 x3 x4 x5 x6 (ix3 b t j) = ∑ k : Fin 1024, val_main_v61 x0 x1 x2 x3 x4 x5 (ix3 b t k) * x6 (ix3 0 k ⟨2816 + j.val, by omega⟩) := by
    rw [val_main_v64_apply]
    exact (congrArg _ (ix3_of rfl rfl rfl)).trans (columns x0 x1 x2 x3 x4 x5 x6 b t _)
  unfold gated silu
  rw [← e1, ← e2, val_main_v66_apply]
  rfl

theorem ffn (d : Fin 1024) : val_main_v67 x0 x1 x2 x3 x4 x5 x6 x7 (ix3 b t d)
    = ∑ j : Fin 2816, gated (fun k => val_main_v61 x0 x1 x2 x3 x4 x5 (ix3 b t k)) (fun k j => x6 (ix3 0 k j)) j * x7 (ix3 0 j d) := by
  rw [val_main_v67_apply]
  refine Finset.sum_congr rfl fun j _ => congrArg₂ (· * ·) ((congrArg _ (ix3_of rfl rfl rfl)).trans (activ x0 x1 x2 x3 x4 x5 x6 b t j)) (Eq.trans ?_ (second x7 j d))
  refine congrArg _ (funext fun q => Fin.ext (match q with
    | ⟨0, _⟩ => rfl
    | ⟨1, _⟩ => rfl))

/-! ## The second residual and its norm -/

theorem resid1 (k : Fin 1024) : val_main_v70 x0 x1 x2 x3 x4 x5 x6 x7 (ix3 b t k)
    = Ideal.ofBits .f32 0x3FB504F3#32 * val_main_v53 x0 x1 x2 x3 x4 x5 (ix3 b t k)
      + x3 (ix4 0 ⟨b.val, by omega⟩ 0 ⟨5120 + k.val, by omega⟩) * val_main_v67 x0 x1 x2 x3 x4 x5 x6 x7 (ix3 b t k) := by
  rw [val_main_v70_apply, val_main_v69_apply, gate2, val_main_v55_apply, val_main_v54_apply]
  rfl

theorem mean1 : val_main_v78 x0 x1 x2 x3 x4 x5 x6 x7 (ix3 b t 0) = mean (fun k => val_main_v70 x0 x1 x2 x3 x4 x5 x6 x7 (ix3 b t k)) := by
  rw [val_main_v78_apply, val_main_v76_apply, val_main_v75_apply]
  refine congrArg (Ideal.div · _) ?_
  show Ideal.ofBits .f32 0x00000000#32 + _ = _
  rw [Ideal.ofBits_zero_f32, zero_add]
  exact Finset.sum_congr rfl fun k _ => congrArg _ (ix3_of rfl rfl rfl)

theorem dev1 (k : Fin 1024) : val_main_v80 x0 x1 x2 x3 x4 x5 x6 x7 (ix3 b t k) = dev (fun k => val_main_v70 x0 x1 x2 x3 x4 x5 x6 x7 (ix3 b t k)) k := by
  rw [val_main_v80_apply, val_main_v79_apply]
  exact congrArg (_ - ·) ((congrArg _ (ix3_of rfl rfl rfl)).trans (mean1 x0 x1 x2 x3 x4 x5 x6 x7 b t))

theorem var1 : val_main_v85 x0 x1 x2 x3 x4 x5 x6 x7 (ix3 b t 0)
    = mean (fun k => dev (fun k => val_main_v70 x0 x1 x2 x3 x4 x5 x6 x7 (ix3 b t k)) k * dev (fun k => val_main_v70 x0 x1 x2 x3 x4 x5 x6 x7 (ix3 b t k)) k) := by
  rw [val_main_v85_apply, val_main_v83_apply, val_main_v82_apply]
  refine congrArg (Ideal.div · _) ?_
  show Ideal.ofBits .f32 0x00000000#32 + _ = _
  rw [Ideal.ofBits_zero_f32, zero_add]
  refine Finset.sum_congr rfl fun k _ => (congrArg _ (ix3_of (a := b) (b := t) (c := k) rfl rfl rfl)).trans ?_
  rw [val_main_v81_apply, dev1]
  rfl

theorem norm1 (k : Fin 1024) : val_main_v98 x0 x1 x2 x3 x4 x5 x6 x7 (ix3 b t k)
    = lnorm (fun k => val_main_v70 x0 x1 x2 x3 x4 x5 x6 x7 (ix3 b t k)) (fun k => x4 (ix3 0 1 k)) (fun k => x5 (ix3 0 1 k)) k := by
  rw [val_main_v98_apply, val_main_v95_apply, val_main_v92_apply, gain1, bias1, val_main_v91_apply, val_main_v90_apply, val_main_v89_apply]
  unfold lnorm
  refine congrArg (· + _) (congrArg (· * _) (congrArg₂ (· * ·) (dev1 x0 x1 x2 x3 x4 x5 x6 x7 b t k) ?_))
  refine congrArg (fun z => Ideal.rsqrt (z + _)) ?_
  exact (congrArg _ (ix3_of rfl rfl rfl)).trans (var1 x0 x1 x2 x3 x4 x5 x6 x7 b t)

/-- THE REFERENCE, read at an index. -/
theorem value (d : Fin 1024) : val_main_v98 x0 x1 x2 x3 x4 x5 x6 x7 (ix3 b t d) = outRow x0 x1 x2 x3 x4 x5 x6 x7 b t d := by
  rw [norm1]
  simp only [resid1, ffn, modul0, norm0, resid0]
  rfl

end Cert.Proof.Out.Ref

end
-- ==== Proof.Out.Claim.lean ====
/- The output projection's program and its reference end with the same array. -/
module

public import proofs.«01_k».proof.Defs
public import proofs.«01_k».proof.Proof.Out.Ref
public import proofs.«01_k».proof.Proof.Gen.OutRefIdeal.Run

@[expose] public section

noncomputable section

namespace Cert.Proof.Out

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem

/-- The common result, of the arguments as launched. -/
def result (m : (ℓ : Loc Cert.OutIdeal.nD Cert.OutIdeal.τ Cert.OutIdeal.sig) → Buf (Elt Ideal) ℓ) (c : Dev Cert.OutIdeal.nD) :
    Buf (Elt Ideal) ((c.tc : Thread Cert.OutIdeal.nD Cert.OutIdeal.τ).loc Cert.OutIdeal.main_v1) :=
  fun i : Cert.OutIdeal.S16x2048x1024.Idx =>
    outRow (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5))
      (m ((c.tc : Thread Cert.OutIdeal.nD Cert.OutIdeal.τ).loc Cert.OutIdeal.main_arg6))
      (m ((c.tc : Thread Cert.OutIdeal.nD Cert.OutIdeal.τ).loc Cert.OutIdeal.main_arg7)) (i 0) (i 1) (i 2)

theorem kernel_eq (m) (c : Dev Cert.OutIdeal.nD) :
    (Cert.OutIdeal.Gen.dats (F := Ideal) m 0 c).arrAt 11 Cert.OutIdeal.cfg0.N = result m c := by
  refine (final m c).trans ?_
  rw [Cert.OutIdeal.Gen.V_main_arg0, Cert.OutIdeal.Gen.V_main_arg1, V_main_v0, Cert.OutIdeal.Gen.V_main_arg3, Cert.OutIdeal.Gen.V_main_arg4,
    Cert.OutIdeal.Gen.V_main_arg5, Cert.OutIdeal.Gen.V_main_arg6, Cert.OutIdeal.Gen.V_main_arg7]
  rfl

/-- THE VALUE CLAIM of the output projection's program. -/
theorem claim : Cert.algebraic_OutIdeal_OutRefIdeal (hOutIdeal := Cert.OutIdeal.Gen.facts) (hOutRefIdeal := Cert.OutRefIdeal.Gen.facts) := by
  intro m g m' g' _ hag
  refine ⟨result m, (θ_run _ _ _).mono (fun r h c => ⟨(h c).1.trans (kernel_eq m c), (h c).2⟩) (Cert.OutIdeal.Value.run_blocks m g),
    (θ_run _ _ _).mono (fun r h c => ⟨(h c).1.trans ?_, (h c).2⟩) (Cert.OutRefIdeal.Value.run m' g')⟩
  refine (Cert.OutRefIdeal.Read.val_main_v98_eq (F := Ideal) _).trans ?_
  funext i
  obtain ⟨b, t, d, rfl⟩ : ∃ b t d, i = ix3 b t d := ⟨i 0, i 1, i 2, eq_ix3 i⟩
  refine (Ref.value _ _ _ _ _ _ _ _ b t d).trans ?_
  obtain ⟨h0, h1, h2, h3, h4, h5, h6, h7⟩ := hag c
  simp only [StableHlo.launchContents_devRef]
  unfold result
  rw [← h0, ← h1, ← h2, ← h3, ← h4, ← h5, ← h6, ← h7]

end Cert.Proof.Out

end
-- ==== Proof.Pool.Group.lean ====
/- The pooling of 256 rows: the rows with eight neighbours on each side, the windows' sums over them, each divided by the
   number of rows it holds, less the row itself; the four channel groups through their own matrices. -/
module

public import proofs.«01_k».proof.Proof.Post.Blocks

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx
open Cert.Post
open scoped BigOperators

variable {F : FTy → Type} [FloatOps F]

abbrev Pad : Shape := ⟨2, ![272, 1024]⟩
abbrev Sq : Shape := ⟨2, ![256, 256]⟩

theorem casts_self (s : Shape) : s.ShapeCasts s := rfl

/-- One more than the scale row. -/
def gainV (sc : Vec F Vec4 .f32) : FVec F Row .f32 := addf (broadcast Row (Scalar.ofBits .f32 0x3F800000#32)) (row4 sc)

/-- `n` rows modulated. -/
def modRowsV (n : Nat) (h : Row.Broadcasts (Mat n 1024)) (x : Vec F (Slab n 1024) .f32) (sh sc : Vec F Vec4 .f32) : FVec F (Mat n 1024) .f32 :=
  addf (mulf (shapeCast (Mat n 1024) x (casts_slab n 1024)) (broadcastTo (Mat n 1024) (gainV sc) h)) (broadcastTo (Mat n 1024) (row4 sh) h)

/-- Eight rows, or zeros where there are none. -/
def edgeV (b : BitVec 1) (x : FVec F (Mat 8 1024) .f32) : FVec F (Mat 8 1024) .f32 :=
  Scalar.select b x (broadcast (Mat 8 1024) (Scalar.ofBits .f32 0x00000000#32))

/-- Eight rows, 256 rows, eight rows, one below the other. -/
def padV (top : FVec F (Mat 8 1024) .f32) (mid : FVec F (Mat 256 1024) .f32) (bot : FVec F (Mat 8 1024) .f32) : Vec F Pad .f32 :=
  View.canon [⟨Rect.unit (s := Pad) ![264, 0] (Mat 8 1024).size (by decide), shapeCast (Mat 8 1024) bot (casts_self _)⟩,
    ⟨Rect.unit (s := Pad) ![8, 0] (Mat 256 1024).size (by decide), shapeCast (Mat 256 1024) mid (casts_self _)⟩,
    ⟨Rect.unit (s := Pad) ![0, 0] (Mat 8 1024).size (by decide), shapeCast (Mat 8 1024) top (casts_self _)⟩]

/-- The 256 × 256 window at row `o`, column `c`. -/
def winV (e : Vec F Pad .f32) (o c : Nat) (h : ∀ i, (![o, c] : Fin 2 → Nat) i + Sq.size i ≤ Pad.size i) : FVec F Sq .f32 :=
  View.ld e (Rect.unit (s := Pad) ![o, c] Sq.size h)

theorem inb {o c : Nat} (ho : o + 256 ≤ 272) (hc : c + 256 ≤ 1024) : ∀ i, (![o, c] : Fin 2 → Nat) i + Sq.size i ≤ Pad.size i
  | ⟨0, _⟩ => ho
  | ⟨1, _⟩ => hc

/-- The sum of `n + 1` windows, one row further down each. -/
def sumV (e : Vec F Pad .f32) (o c : Nat) (hc : c + 256 ≤ 1024) : (n : Nat) → o + n + 256 ≤ 272 → FVec F Sq .f32
  | 0, h => winV e o c (inb h hc)
  | n + 1, h => addf (sumV e o c hc n (by omega)) (winV e (o + (n + 1)) c (inb h hc))

/-- The rows' positions in the sequence. -/
def timeV (i o : BitVec 32) : IVec Col 32 :=
  addi (broadcast Col (Scalar.addi (Scalar.muli i 1024#32) o)) (iota .tc Col 32 [0] (by decide))

/-- How many rows of the sequence a window of half width `h` holds. -/
def countV (t : IVec Col 32) (h : BitVec 32) : IVec Col 32 :=
  subi (minsi (addi t (broadcast Col h)) (broadcast Col 2048#32)) (maxsi (subi t (broadcast Col h)) (broadcast Col 0#32))

def pooledV (e : Vec F Pad .f32) (t : IVec Col 32) (h : BitVec 32) (o n c : Nat) (hc : c + 256 ≤ 1024) (ho : o + n + 256 ≤ 272) : FVec F Sq .bf16 :=
  truncf .bf16 (subf (divf (sumV e o c hc n ho) (broadcastTo Sq (sitofp .f32 (countV t h)) (by decide))) (winV e 8 c (inb (by decide) hc))) (by decide)

abbrev Mats : Shape := ⟨4, ![1, 4, 256, 256]⟩
abbrev Mats1 : Shape := ⟨4, ![1, 1, 256, 256]⟩

theorem casts_mats : Mats1.ShapeCasts Sq := by decide

def mixOneV (p : FVec F Sq .bf16) (w : Vec F Mats .bf16) (g : Nat) (h : ∀ i, (![0, g, 0, 0] : Fin 4 → Nat) i + Mats1.size i ≤ Mats.size i) : FVec F Sq .f32 :=
  matmul (DotDims.plain 256 256 256) none p (shapeCast Sq (View.ld w (Rect.unit (s := Mats) ![0, g, 0, 0] Mats1.size h)) casts_mats)
    (constant Sq .f32 0x00000000#32)

theorem four_squares : Shape.Concatenates [Sq, Sq, Sq, Sq] Tile 1 := by decide

/-- The four groups' products side by side. -/
def catV (e : Vec F Pad .f32) (t : IVec Col 32) (w : Vec F Mats .bf16) : FVec F Tile .f32 :=
  concatenate Tile 1 [⟨Sq, mixOneV (pooledV e t 1#32 7 1 0 (by decide) (by decide)) w 0 (by decide)⟩,
    ⟨Sq, mixOneV (pooledV e t 2#32 6 3 256 (by decide) (by decide)) w 1 (by decide)⟩,
    ⟨Sq, mixOneV (pooledV e t 4#32 4 7 512 (by decide) (by decide)) w 2 (by decide)⟩,
    ⟨Sq, mixOneV (pooledV e t 8#32 0 15 768 (by decide) (by decide)) w 3 (by decide)⟩] four_squares

/-- The mixer's output rows. -/
def mixV (e : Vec F Pad .f32) (t : IVec Col 32) (w : Vec F Mats .bf16) (s : FVec F Row .f32) : FVec F Tile .f32 :=
  mulf (catV e t w) (broadcastTo Tile s (by decide))

theorem mixV_cat (e : Vec F Pad .f32) (t : IVec Col 32) (w : Vec F Mats .bf16) (s : FVec F Row .f32) :
    mixV e t w s = mulf (catV e t w) (broadcastTo Tile s (by decide)) := rfl

/-- Rows less their means, over their standard deviations. -/
def unitV (x : FVec F Tile .f32) : FVec F Tile .f32 :=
  mulf (devV x) (broadcastTo Tile (rsqrt (addf (meanV (mulf (devV x) (devV x))) (broadcast Col (Scalar.ofBits .f32 0x3727C5AC#32)))) (by decide))

/-- The layer from the first normalised rows on. -/
def restV (u : FVec F Tile .f32) (sh sc g2 : Vec F Vec4 .f32) (lg lb : Vec F (Slab 2 1024) .f32)
    (win : Vec F (Slab 1024 5632) .bf16) (wout : Vec F (Slab 2816 1024) .bf16) : Vec F (Slab 256 1024) .f32 :=
  let x1 := addf (mulf u (broadcastTo Tile (row3 (View.ld lg (cutR 2 1024 1 1024 0 0 (by decide)))) (by decide)))
    (broadcastTo Tile (row3 (View.ld lb (cutR 2 1024 1 1024 0 0 (by decide)))) (by decide))
  let h := modulV x1 (row4 sh) (row4 sc)
  shapeCast (Slab 256 1024) (normV (residV x1 (addf (addf
      (chunkV 1024 h (View.ld win (cutR 1024 5632 1024 1024 0 0 (by decide))) (View.ld win (cutR 1024 5632 1024 1024 0 2816 (by decide)))
        (View.ld wout (cutR 2816 1024 1024 1024 0 0 (by decide))))
      (chunkV 1024 h (View.ld win (cutR 1024 5632 1024 1024 0 1024 (by decide))) (View.ld win (cutR 1024 5632 1024 1024 0 3840 (by decide)))
        (View.ld wout (cutR 2816 1024 1024 1024 1024 0 (by decide)))))
      (chunkV 768 h (View.ld win (cutR 1024 5632 1024 768 0 2048 (by decide))) (View.ld win (cutR 1024 5632 1024 768 0 4864 (by decide)))
        (View.ld wout (cutR 2816 1024 768 1024 2048 0 (by decide)))))
    (row4 g2)) (row3 (View.ld lg (cutR 2 1024 1 1024 1 0 (by decide)))) (row3 (View.ld lb (cutR 2 1024 1 1024 1 0 (by decide))))) (by decide)

/-- The first residual sum. -/
def startV (y : FVec F Tile .f32) (x : Vec F (Slab 256 1024) .f32) (g1 : Vec F Vec4 .f32) : FVec F Tile .f32 :=
  residV (shapeCast Tile x (casts_slab 256 1024)) y (row4 g1)

theorem start_cat (e : Vec F Pad .f32) (t : IVec Col 32) (w : Vec F Mats .bf16) (s : FVec F Row .f32) (x : Vec F (Slab 256 1024) .f32) (g1 : Vec F Vec4 .f32) :
    startV (mixV e t w s) x g1 = startV (mulf (catV e t w) (broadcastTo Tile s (by decide))) x g1 := rfl

theorem tile_rest (y : FVec F Tile .f32) (x : Vec F (Slab 256 1024) .f32) (g1 sh sc g2 : Vec F Vec4 .f32) (lg lb : Vec F (Slab 2 1024) .f32)
    (win : Vec F (Slab 1024 5632) .bf16) (wout : Vec F (Slab 2816 1024) .bf16) :
    tileV y x g1 sh sc g2 lg lb win wout
      = restV (unitV (startV y x g1)) sh sc g2 lg lb win wout := rfl

end Cert.Proof.Pool

end
-- ==== Proof.Pool.Block.lean ====
module

public import proofs.«01_k».proof.Proof.Pool.Group
public import proofs.«01_k».proof.Proof.Gen.PoolIdeal.Frame

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx Idealize.ShloMosaic.TcCoe Idealize.ShloMosaic.Tactic
open Cert.PoolIdeal Cert.PoolIdeal.Gen Cert.Post
open scoped BigOperators
variable {F : FTy → Type} [FloatOps F]
variable (m : (ℓ : Loc nD τ sig) → Buf (Elt F) ℓ) (ρ : Dev nD → PrngReg)

section
variable (i : BitVec 32) (x0 : Vec F S1x1024x1024 .f32) (x1 x2 : Vec F S1x8x1024 .f32) (x3 x4 : Vec F S1x1x1x1024 .f32) (x5 : Vec F S1x4x256x256 .bf16)
  (x6 : Vec F S1x1024 .f32) (x7 x8 x9 x10 : Vec F S1x1x1x1024 .f32) (x11 x12 : Vec F S1x2x1024 .f32) (x13 : Vec F S1x1024x5632 .bf16)
  (x14 : Vec F S1x2816x1024 .bf16)

/-- A whole block as the load of it reads. -/
abbrev ld4 (v : Vec F S1x1x1x1024 .f32) : Vec F S1x1x1x1024 .f32 :=
  View.ld v (Rect.unit (s := S1x1x1x1024) ![0, 0, 0, 0] ![1, 1, 1, 1024] inb_S1x1x1x1024_S1x1x1x1024_0_0_0_0)

/-- The eight rows above the block's first, and below its last. -/
def topV : FVec F (Mat 8 1024) .f32 :=
  edgeV (Scalar.cmpi .sgt i 0#32) (modRowsV 8 (by decide) (View.ld x1 (cutR 8 1024 8 1024 0 0 (by decide))) (ld4 x3) (ld4 x4))
def botV : FVec F (Mat 8 1024) .f32 :=
  edgeV (Scalar.cmpi .slt i 1#32) (modRowsV 8 (by decide) (View.ld x2 (cutR 8 1024 8 1024 0 0 (by decide))) (ld4 x3) (ld4 x4))
/-- `n` of the block's rows from row `o` on. -/
def ownV (n o : Nat) (hb : Row.Broadcasts (Mat n 1024)) (h : ∀ i, (![0, o, 0] : Fin 3 → Nat) i + ((Slab n 1024).size) i ≤ (Slab 1024 1024).size i) : FVec F (Mat n 1024) .f32 :=
  modRowsV n hb (View.ld x0 (cutR 1024 1024 n 1024 o 0 h)) (ld4 x3) (ld4 x4)

/-- The result of 256 rows, from the padded rows `e`. -/
def rowsV (e : Vec F Pad .f32) (o : Nat) (h : ∀ i, (![0, o, 0] : Fin 3 → Nat) i + ((Slab 256 1024).size) i ≤ (Slab 1024 1024).size i) : Vec F (Slab 256 1024) .f32 :=
  tileV (mixV e (timeV i (BitVec.ofNat 32 o)) x5 (View.ld x6 (Rect.unit (s := S1x1024) ![0, 0] ![1, 1024] (by decide))))
    (View.ld x0 (cutR 1024 1024 256 1024 o 0 h)) (ld4 x7) (ld4 x8) (ld4 x9) (ld4 x10) x11 x12 x13 x14

/-- The four groups of 256 rows with their neighbours. -/
def pad0 : Vec F Pad .f32 := padV (topV i x1 x3 x4) (ownV x0 x3 x4 256 0 (by decide) (by decide)) (ownV x0 x3 x4 8 256 (by decide) (by decide))
def pad1 : Vec F Pad .f32 := padV (ownV x0 x3 x4 8 248 (by decide) (by decide)) (ownV x0 x3 x4 256 256 (by decide) (by decide)) (ownV x0 x3 x4 8 512 (by decide) (by decide))
def pad2 : Vec F Pad .f32 := padV (ownV x0 x3 x4 8 504 (by decide) (by decide)) (ownV x0 x3 x4 256 512 (by decide) (by decide)) (ownV x0 x3 x4 8 768 (by decide) (by decide))
def pad3 : Vec F Pad .f32 := padV (ownV x0 x3 x4 8 760 (by decide) (by decide)) (ownV x0 x3 x4 256 768 (by decide) (by decide)) (botV i x2 x3 x4)

def blockV : Vec F S1x1024x1024 .f32 :=
  View.canon [⟨cutR 1024 1024 256 1024 768 0 (by decide), rowsV i x0 x5 x6 x7 x8 x9 x10 x11 x12 x13 x14 (pad3 i x0 x2 x3 x4) 768 (by decide)⟩,
    ⟨cutR 1024 1024 256 1024 512 0 (by decide), rowsV i x0 x5 x6 x7 x8 x9 x10 x11 x12 x13 x14 (pad2 x0 x3 x4) 512 (by decide)⟩,
    ⟨cutR 1024 1024 256 1024 256 0 (by decide), rowsV i x0 x5 x6 x7 x8 x9 x10 x11 x12 x13 x14 (pad1 x0 x3 x4) 256 (by decide)⟩,
    ⟨cutR 1024 1024 256 1024 0 0 (by decide), rowsV i x0 x5 x6 x7 x8 x9 x10 x11 x12 x13 x14 (pad0 i x0 x1 x3 x4) 0 (by decide)⟩]
end

theorem readCov_ld {Val : EltTy → Type} [∀ e, Nonempty (Val e)] {sg : RefSig} {κ : Kind} {sp : Space} {s : Shape} {e : EltTy} (v : View sg κ sp s e) (L : List (View.Piece Val s e)) (r : Rect s) :
    v.readCov L r.toLoadRect = View.ld (View.canon L) r := View.readCov_eq_canon' v L _

set_option maxHeartbeats 4000000 in
theorem block_eq (c : Dev nD) (t : Fin cfg0.N) : outsAt0 m c t =
    blockV (BitVec.ofNat 32 (grid0.coords t 1).val) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) := by
  unfold outsAt0 out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, readCov_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  unfold blockV
  refine congrArg View.canon (congrArg₂ List.cons (congrArg (Sigma.mk _) ?_) (congrArg₂ List.cons (congrArg (Sigma.mk _) ?_) (congrArg₂ List.cons (congrArg (Sigma.mk _) ?_) (congrArg₂ List.cons (congrArg (Sigma.mk _) ?_) rfl))))
  · unfold rowsV
    rw [tile_rest]
    generalize he : View.canon [(_ : View.Piece (Elt F) S272x1024 .f32), _, _] = e
    have he' : pad3 (BitVec.ofNat 32 (grid0.coords t 1).val) (iblk m c 0 t) (iblk m c 2 t) (iblk m c 3 t) (iblk m c 4 t) = e := he ▸ rfl
    rw [he']
    clear he he'
    generalize hx : k0_pay94 (F := F) _ _ _ _ _ _ _ _ _ _ _ = z
    have hx' : startV (mixV e (timeV (BitVec.ofNat 32 (grid0.coords t 1).val) (BitVec.ofNat 32 768)) (iblk m c 5 t) (View.ld (iblk m c 6 t) (Rect.unit (s := S1x1024) ![0, 0] ![1, 1024] (by decide))))
      (View.ld (iblk m c 0 t) (cutR 1024 1024 256 1024 768 0 (by decide))) (ld4 (iblk m c 7 t)) = z := hx ▸ rfl
    refine Eq.trans ?_ (congrArg (fun z => restV (unitV z) _ _ _ _ _ _ _) hx').symm
    clear hx hx'
    rfl
  · unfold rowsV
    rw [tile_rest]
    generalize he : View.canon [(_ : View.Piece (Elt F) S272x1024 .f32), _, _] = e
    have he' : pad2 (iblk m c 0 t) (iblk m c 3 t) (iblk m c 4 t) = e := he ▸ rfl
    rw [he']
    clear he he'
    unfold k0_pay71
    dsimp only
    generalize hx : k0_pay68 (F := F) _ _ _ _ _ _ _ _ _ _ = z
    have hx' : startV (mixV e (timeV (BitVec.ofNat 32 (grid0.coords t 1).val) (BitVec.ofNat 32 512)) (iblk m c 5 t) (View.ld (iblk m c 6 t) (Rect.unit (s := S1x1024) ![0, 0] ![1, 1024] (by decide))))
      (View.ld (iblk m c 0 t) (cutR 1024 1024 256 1024 512 0 (by decide))) (ld4 (iblk m c 7 t)) = z := hx ▸ rfl
    refine Eq.trans ?_ (congrArg (fun z => restV (unitV z) _ _ _ _ _ _ _) hx').symm
    clear hx hx'
    rfl
  · unfold rowsV
    rw [tile_rest, mixV_cat]
    generalize he : View.canon [(_ : View.Piece (Elt F) S272x1024 .f32), _, _] = e
    have he' : pad1 (iblk m c 0 t) (iblk m c 3 t) (iblk m c 4 t) = e := he ▸ rfl
    rw [he']
    clear he he'
    generalize hx : k0_pay45 (F := F) _ _ _ _ _ _ _ _ = z
    have hx' : catV e (timeV (BitVec.ofNat 32 (grid0.coords t 1).val) (BitVec.ofNat 32 256)) (iblk m c 5 t) = z := hx ▸ rfl
    rw [hx']
    clear hx hx'
    rfl
  · unfold rowsV
    rw [tile_rest]
    generalize he : View.canon [(_ : View.Piece (Elt F) S272x1024 .f32), _, _] = e
    have he' : pad0 (BitVec.ofNat 32 (grid0.coords t 1).val) (iblk m c 0 t) (iblk m c 1 t) (iblk m c 3 t) (iblk m c 4 t) = e := he ▸ rfl
    rw [he']
    clear he he'
    generalize hx : k0_pay26 (F := F) _ _ _ _ _ _ _ _ = z
    have hx' : unitV (startV (mixV e (timeV (BitVec.ofNat 32 (grid0.coords t 1).val) (BitVec.ofNat 32 0)) (iblk m c 5 t) (View.ld (iblk m c 6 t) (Rect.unit (s := S1x1024) ![0, 0] ![1, 1024] (by decide))))
      (View.ld (iblk m c 0 t) (cutR 1024 1024 256 1024 0 0 (by decide))) (ld4 (iblk m c 7 t))) = z := hx ▸ rfl
    refine Eq.trans ?_ (congrArg (fun z => restV z _ _ _ _ _ _ _) hx').symm
    clear hx hx'
    rfl

end Cert.Proof.Pool
-- ==== Proof.Pool.Rows.lean ====
/- The pooling of a sequence of rows as plain arithmetic, and the vector operations over 256 rows of `Group` read at an index. -/
module

public import proofs.«01_k».proof.Proof.Pool.Group
public import Idealize.ShloMosaic.Lib.ValueIdx

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx
open Cert.Post
open scoped BigOperators

/-- The half width of a channel group's window. -/
def half (g : Fin 4) : Nat := 2 ^ g.val

/-- How many of the sequence's 2048 rows lie less than `h` before row `t`, or at most `h` ahead of it counted from it. -/
def rowsIn (t h : Nat) : Nat := min (t + h) 2048 - (t - h)

/-- A channel group's pooled row: the mean over its window less the row itself. `H` holds the sequence's rows from place 8 on, and zeros
    before and after them. -/
def pool (H : Nat → Fin 1024 → EReal) (t : Nat) (g : Fin 4) (k : Fin 1024) : EReal :=
  Ideal.div (∑ j ∈ Finset.range (2 * half g), H (t + 8 - half g + j) k) (((rowsIn t (half g) : ℤ) : ℝ) : EReal) - H (t + 8) k

/-- The group of a channel. -/
def grp (d : Fin 1024) : Fin 4 := ⟨d.val / 256, by omega⟩

/-- The mixer's row: each group's pooled channels through its matrix, scaled. -/
def mix (H : Nat → Fin 1024 → EReal) (w : Fin 4 → Fin 256 → Fin 256 → EReal) (s : Fin 1024 → EReal) (t : Nat) (d : Fin 1024) : EReal :=
  (∑ q : Fin 256, pool H t (grp d) ⟨256 * (d.val / 256) + q.val, by omega⟩ * w (grp d) q ⟨d.val % 256, by omega⟩) * s d

theorem half_le (g : Fin 4) : half g ≤ 8 := by revert g; decide
theorem half_pos (g : Fin 4) : 0 < half g := by revert g; decide

/-! ## The counts -/

/-- The printed count of a window's rows, in words, is the count. -/
theorem count_word : ∀ (t : Fin 2048) (g : Fin 4),
    (IntOp.subi (IntOp.minsi (IntOp.addi (BitVec.ofNat 32 t.val) (BitVec.ofNat 32 (half g))) 2048#32)
      (IntOp.maxsi (IntOp.subi (BitVec.ofNat 32 t.val) (BitVec.ofNat 32 (half g))) 0#32)).toInt = (rowsIn t.val (half g) : ℤ) := by
  decide +kernel

theorem word_time (i o r : Nat) : IntOp.addi (Scalar.addi (Scalar.muli (BitVec.ofNat 32 i) 1024#32) (BitVec.ofNat 32 o)) (BitVec.ofNat 32 r)
    = BitVec.ofNat 32 (i * 1024 + o + r) := by
  show BitVec.ofNat 32 i * BitVec.ofNat 32 1024 + BitVec.ofNat 32 o + BitVec.ofNat 32 r = _
  rw [← BitVec.ofNat_mul, ← BitVec.ofNat_add, ← BitVec.ofNat_add]

theorem timeV_apply (i o : Nat) (r : Fin 256) : timeV (BitVec.ofNat 32 i) (BitVec.ofNat 32 o) (ix2 r 0) = BitVec.ofNat 32 (i * 1024 + o + r.val) := by
  refine Eq.trans ?_ (word_time i o r.val)
  unfold timeV
  refine congrArg (IntOp.addi _) ?_
  exact congrArg (BitVec.ofNat 32) (show 0 * 256 + r.val = r.val by omega)

theorem countV_apply (tv : IVec Col 32) (g : Fin 4) (r : Fin 256) (t : Nat) (ht : t < 2048) (h : tv (ix2 r 0) = BitVec.ofNat 32 t) :
    (sitofp .f32 (countV tv (BitVec.ofNat 32 (half g))) : FVec Ideal Col .f32) (ix2 r 0) = (((rowsIn t (half g) : ℤ) : ℝ) : EReal) := by
  have e := count_word ⟨t, ht⟩ g
  rw [sitofp_apply]
  unfold countV
  show (((IntOp.subi (IntOp.minsi (IntOp.addi (tv (ix2 r 0)) _) _) (IntOp.maxsi (IntOp.subi (tv (ix2 r 0)) _) _)).toInt : ℝ) : EReal) = _
  rw [h]
  exact congrArg (fun z : ℤ => ((z : ℝ) : EReal)) e

/-! ## The windows -/

section
variable (e : Vec Ideal Pad .f32) (H : Nat → Fin 1024 → EReal) (B : Nat) (he : ∀ (p : Fin 272) (k : Fin 1024), e (ix2 p k) = H (B + p.val) k)
include he

theorem winV_apply (o c : Nat) (h) (r k : Fin 256) (k' : Fin 1024) (hk : k'.val = c + k.val) : winV e o c h (ix2 r k) = H (B + (o + r.val)) k' := by
  have ho : o + 256 ≤ 272 := h 0
  refine (View.ld_unit_apply_of e (![o, c] : Fin 2 → Nat) Sq.size h (ix2 r k) (ix2 ⟨o + r.val, by omega⟩ k') fun i => ?_).trans (he _ _)
  match i with
  | ⟨0, _⟩ => rfl
  | ⟨1, _⟩ => exact hk

theorem sumV_apply (o c : Nat) (hc : c + 256 ≤ 1024) (r k : Fin 256) (k' : Fin 1024) (hk : k'.val = c + k.val) : ∀ (n : Nat) (h : o + n + 256 ≤ 272),
    sumV e o c hc n h (ix2 r k) = ∑ j ∈ Finset.range (n + 1), H (B + (o + j + r.val)) k'
  | 0, h => by
    rw [Finset.sum_range_one]
    exact winV_apply e H B he o c _ r k k' hk
  | n + 1, h => by
    rw [Finset.sum_range_succ, ← sumV_apply o c hc r k k' hk n (by omega)]
    refine congrArg (_ + ·) ?_
    exact (winV_apply e H B he (o + (n + 1)) c _ r k k' hk)

theorem sq_col_apply (v : FVec Ideal Col .f32) (h : Col.Broadcasts Sq) (r k : Fin 256) : broadcastTo Sq v h (ix2 r k) = v (ix2 r 0) :=
  broadcastTo_apply v h _ _ (fun a => match a with
    | ⟨0, _⟩ => rfl
    | ⟨1, _⟩ => rfl)

theorem pooledV_apply (tv : IVec Col 32) (g : Fin 4) (o n c : Nat) (hc : c + 256 ≤ 1024) (ho : o + n + 256 ≤ 272) (h8 : o + half g = 8)
    (hn : n + 1 = 2 * half g) (r k : Fin 256) (k' : Fin 1024) (hk : k'.val = c + k.val) (t : Nat) (ht : t < 2048) (htv : tv (ix2 r 0) = BitVec.ofNat 32 t)
    (hB : B + r.val = t) : pooledV e tv (BitVec.ofNat 32 (half g)) o n c hc ho (ix2 r k) = pool H t g k' := by
  unfold pooledV pool
  rw [truncf_apply, subf_apply, divf_apply, sq_col_apply (e := e) (H := H) (B := B) he, countV_apply tv g r t ht htv, sumV_apply e H B he o c hc r k k' hk,
    winV_apply e H B he 8 c _ r k k' hk, hn]
  refine congrArg₂ (fun a b => Ideal.div a _ - b) (Finset.sum_congr rfl fun j _ => congrArg (H · k') ?_) (congrArg (H · k') ?_)
  all_goals omega

end

theorem mixOneV_apply (p : FVec Ideal Sq .bf16) (w : Vec Ideal Mats .bf16) (g : Fin 4) (h) (r q' : Fin 256) :
    mixOneV p w g.val h (ix2 r q') = ∑ q : Fin 256, (p (ix2 r q) : EReal) * w (ix4 0 g q q') := by
  unfold mixOneV
  refine (Ideal.matmul_plain_apply none p _ _ r q').trans ?_
  rw [constant_apply, Ideal.ofBits_zero_f32, zero_add]
  refine Finset.sum_congr rfl fun q _ => congrArg (_ * ·) ?_
  refine (shapeCast_apply _ _ (ix2 q q') (ix4 0 0 q q') (by rw [Shape.rowMajor_val_four, Shape.rowMajor_val_two]; show ((0 * 1 + 0) * 256 + q.val) * 256 + q'.val = q.val * 256 + q'.val; omega)).trans ?_
  refine View.ld_unit_apply_of w (![0, g.val, 0, 0] : Fin 4 → Nat) Mats1.size h (ix4 0 0 q q') (ix4 0 g q q') fun i => ?_
  match i with
  | ⟨0, _⟩ | ⟨1, _⟩ => rfl
  | ⟨2, _⟩ | ⟨3, _⟩ => exact (Nat.zero_add _).symm

/-- THE MIXER'S ROWS, read at an index. -/
theorem mixV_apply (e : Vec Ideal Pad .f32) (H : Nat → Fin 1024 → EReal) (B : Nat) (he : ∀ (p : Fin 272) (k : Fin 1024), e (ix2 p k) = H (B + p.val) k)
    (tv : IVec Col 32) (w : Vec Ideal Mats .bf16) (s : FVec Ideal Row .f32) (r : Fin 256) (d : Fin 1024) (t : Nat) (ht : t < 2048)
    (htv : tv (ix2 r 0) = BitVec.ofNat 32 t) (hB : B + r.val = t) :
    mixV e tv w s (ix2 r d) = mix H (fun g q q' => w (ix4 0 g q q')) (fun k => s (ix2 0 k)) t d := by
  unfold mixV mix
  rw [mulf_apply, broadcastTo_1b_ab_apply]
  refine congrArg (· * _) ?_
  unfold catV
  let f : Fin 4 → (Sq.Idx → EReal) := ![mixOneV (pooledV e tv 1#32 7 1 0 (by decide) (by decide)) w 0 (by decide),
    mixOneV (pooledV e tv 2#32 6 3 256 (by decide) (by decide)) w 1 (by decide),
    mixOneV (pooledV e tv 4#32 4 7 512 (by decide) (by decide)) w 2 (by decide),
    mixOneV (pooledV e tv 8#32 0 15 768 (by decide) (by decide)) w 3 (by decide)]
  refine (concatenate_ofFn_apply (t := Tile) (s₁ := Sq) 1 f four_squares rfl 256 rfl (ix2 r d) (grp d) rfl (ix2 r ⟨d.val % 256, by omega⟩) rfl
    (fun b hb => ?_)).trans ?_
  · match b with
    | ⟨0, _⟩ => rfl
    | ⟨1, _⟩ => exact absurd rfl hb
  have key : ∀ (g : Fin 4) (o n c : Nat) (hc : c + 256 ≤ 1024) (ho : o + n + 256 ≤ 272) (h) (h8 : o + half g = 8) (hn : n + 1 = 2 * half g)
      (hg : g = grp d) (hcg : c = 256 * g.val),
      mixOneV (pooledV e tv (BitVec.ofNat 32 (half g)) o n c hc ho) w g.val h (ix2 r ⟨d.val % 256, by omega⟩)
        = ∑ q : Fin 256, pool H t (grp d) ⟨256 * (d.val / 256) + q.val, by omega⟩ * w (ix4 0 (grp d) q ⟨d.val % 256, by omega⟩) := by
    intro g o n c hc ho h h8 hn hg hcg
    rw [mixOneV_apply]
    subst hg
    refine Finset.sum_congr rfl fun q _ => congrArg (· * _) ?_
    exact pooledV_apply e H B he tv (grp d) o n c hc ho h8 hn r q _ (by rw [hcg]; rfl) t ht htv hB
  generalize hg : grp d = g
  match g, hg with
  | 0, hg => exact (key 0 7 1 0 _ _ _ rfl rfl hg.symm rfl).trans (by rw [hg])
  | 1, hg => exact (key 1 6 3 256 _ _ _ rfl rfl hg.symm rfl).trans (by rw [hg])
  | 2, hg => exact (key 2 4 7 512 _ _ _ rfl rfl hg.symm rfl).trans (by rw [hg])
  | 3, hg => exact (key 3 0 15 768 _ _ _ rfl rfl hg.symm rfl).trans (by rw [hg])

end Cert.Proof.Pool

end
-- ==== Proof.Pool.Pads.lean ====
/- What one grid point of the pooling program leaves in its result block, as numbers: the layer of each of its 1024 rows. -/
module

public import proofs.«01_k».proof.Proof.Pool.Block
public import proofs.«01_k».proof.Proof.Pool.Rows

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx
open Cert.PoolIdeal Cert.PoolIdeal.Gen Cert.Post
open scoped BigOperators

theorem modRowsV_apply (n : Nat) (h : Row.Broadcasts (Mat n 1024)) (x : Vec Ideal (Slab n 1024) .f32) (sh sc : Vec Ideal Vec4 .f32) (r : Fin n) (k : Fin 1024) :
    modRowsV n h x sh sc (ix2 r k) = modul (fun k => x (ix3 0 r k)) (fun k => sh (ix4 0 0 0 k)) (fun k => sc (ix4 0 0 0 k)) k := by
  unfold modRowsV gainV modul
  rw [addf_apply, mulf_apply, broadcastTo_1b_ab_apply, broadcastTo_1b_ab_apply, addf_apply, row4_apply, row4_apply, shapeCast_1ab_ab_apply]
  rfl

/-- The pieces of a padded group, read at an index. -/
theorem padV_apply (top : FVec Ideal (Mat 8 1024) .f32) (mid : FVec Ideal (Mat 256 1024) .f32) (bot : FVec Ideal (Mat 8 1024) .f32)
    (H : Nat → Fin 1024 → EReal) (B : Nat) (ht : ∀ (p : Fin 8) k, top (ix2 p k) = H (B + p.val) k) (hm : ∀ (p : Fin 256) k, mid (ix2 p k) = H (B + (8 + p.val)) k)
    (hb : ∀ (p : Fin 8) k, bot (ix2 p k) = H (B + (264 + p.val)) k) (p : Fin 272) (k : Fin 1024) : padV top mid bot (ix2 p k) = H (B + p.val) k := by
  unfold padV
  refine View.canon_apply_of_pieces (Val := Elt Ideal) (e := .f32) (fun y : Pad.Idx => H (B + (y 0).val) (y 1)) _ (fun q hq => ?_) (ix2 p k) ?_
  · have key : ∀ (n o : Nat) (h : ∀ i, (![o, 0] : Fin 2 → Nat) i + ((Mat n 1024).size) i ≤ Pad.size i) (v : FVec Ideal (Mat n 1024) .f32)
        (_ : ∀ (p : Fin n) k, v (ix2 p k) = H (B + (o + p.val)) k) (x : (Mat n 1024).Idx),
        shapeCast (Mat n 1024) v (casts_self _) x = H (B + ((Rect.unit (s := Pad) ![o, 0] (Mat n 1024).size h).emb x 0).val)
          ((Rect.unit (s := Pad) ![o, 0] (Mat n 1024).size h).emb x 1) := by
      intro n o h v hv x
      obtain ⟨r, d, rfl⟩ : ∃ r d, x = ix2 r d := ⟨x 0, x 1, eq_ix2 x⟩
      have e1 : (((Rect.unit (s := Pad) ![o, 0] (Mat n 1024).size h).emb (ix2 r d)) 0 : Nat) = o + r.val := Rect.idx_unit_val ..
      have e2 : ((Rect.unit (s := Pad) ![o, 0] (Mat n 1024).size h).emb (ix2 r d)) 1 = d := Fin.ext ((Rect.idx_unit_val ..).trans (Nat.zero_add _))
      rw [e1, e2]
      exact (shapeCast_apply v _ _ (ix2 r d) rfl).trans (hv r d)
    simp only [List.mem_cons, List.not_mem_nil, or_false] at hq
    rcases hq with rfl | rfl | rfl
    · exact key 8 264 (by decide) bot hb
    · exact key 256 8 (by decide) mid hm
    · exact key 8 0 (by decide) top (fun p k => (ht p k).trans (congrArg (fun n => H (B + n) k) (Nat.zero_add _).symm))
  · have mem : ∀ (n o : Nat) (h : ∀ i, (![o, 0] : Fin 2 → Nat) i + ((Mat n 1024).size) i ≤ Pad.size i), o ≤ p.val → p.val < o + n →
        (ix2 p k : Pad.Idx) ∈ (Rect.unit (s := Pad) ![o, 0] (Mat n 1024).size h).set := fun n o h h1 h2 => by
      refine Rect.mem_set_unit.mpr fun a => ?_
      match a with
      | ⟨0, _⟩ => exact ⟨h1, h2⟩
      | ⟨1, _⟩ => exact ⟨Nat.zero_le _, by have := k.isLt; show k.val < 0 + 1024; omega⟩
    rcases Nat.lt_or_ge p.val 8 with h | h
    · exact ⟨_, .tail _ (.tail _ (.head _)), mem 8 0 (by decide) (Nat.zero_le _) (by omega)⟩
    rcases Nat.lt_or_ge p.val 264 with h' | h'
    · exact ⟨_, .tail _ (.head _), mem 256 8 (by decide) h (by omega)⟩
    · exact ⟨_, .head _, mem 8 264 (by decide) h' (by have := p.isLt; omega)⟩

section
variable (x0 : Vec Ideal S1x1024x1024 .f32) (x1 x2 : Vec Ideal S1x8x1024 .f32) (x3 x4 : Vec Ideal S1x1x1x1024 .f32) (x5 : Vec Ideal S1x4x256x256 .bf16)
  (x6 : Vec Ideal S1x1024 .f32) (x7 x8 x9 x10 : Vec Ideal S1x1x1x1024 .f32) (x11 x12 : Vec Ideal S1x2x1024 .f32) (x13 : Vec Ideal S1x1024x5632 .bf16)
  (x14 : Vec Ideal S1x2816x1024 .bf16)

theorem ld4_eq (v : Vec Ideal S1x1x1x1024 .f32) : ld4 v = v :=
  View.ld_unit_lit _ v (by decide)

/-- The layer of the block's row `r`, which is the sequence's row `t`. -/
def blockG (H : Nat → Fin 1024 → EReal) (r : Fin 1024) (t : Nat) (d : Fin 1024) : EReal :=
  layer (fun k => x0 (ix3 0 r k)) (mix H (fun g q q' => x5 (ix4 0 g q q')) (fun k => x6 (ix2 0 k)) t) (fun k => x7 (ix4 0 0 0 k)) (fun k => x8 (ix4 0 0 0 k))
    (fun k => x9 (ix4 0 0 0 k)) (fun k => x10 (ix4 0 0 0 k)) (fun k => x11 (ix3 0 0 k)) (fun k => x12 (ix3 0 0 k)) (fun k => x11 (ix3 0 1 k))
    (fun k => x12 (ix3 0 1 k)) (fun k j => x13 (ix3 0 k j)) (fun j d => x14 (ix3 0 j d)) d

variable (i : Nat) (hi : i < 2) (H : Nat → Fin 1024 → EReal)
  (htop : ∀ (p : Fin 8) k, topV (BitVec.ofNat 32 i) x1 x3 x4 (ix2 p k) = H (i * 1024 + p.val) k)
  (hown : ∀ (n : Fin 1024) k, modul (fun k => x0 (ix3 0 n k)) (fun k => x3 (ix4 0 0 0 k)) (fun k => x4 (ix4 0 0 0 k)) k = H (i * 1024 + (8 + n.val)) k)
  (hbot : ∀ (p : Fin 8) k, botV (BitVec.ofNat 32 i) x2 x3 x4 (ix2 p k) = H (i * 1024 + (1032 + p.val)) k)

section
include hown
theorem ownV_apply (n o : Nat) (hb) (h) (r : Fin n) (k : Fin 1024) (ho : o + n ≤ 1024) :
    ownV x0 x3 x4 n o hb h (ix2 r k) = H (i * 1024 + (8 + (o + r.val))) k := by
  unfold ownV
  rw [modRowsV_apply, ld4_eq, ld4_eq]
  refine Eq.trans ?_ (hown ⟨o + r.val, by have := r.isLt; omega⟩ k)
  congr 1
  exact funext fun k => ld_cut 1024 1024 n 1024 o 0 h x0 r k _ k rfl (Nat.zero_add _).symm
end

include hi in
theorem rowsV_apply (e : Vec Ideal Pad .f32) (o : Nat) (h) (he : ∀ (p : Fin 272) (k : Fin 1024), e (ix2 p k) = H (i * 1024 + o + p.val) k)
    (r : Fin 256) (d : Fin 1024) (r' : Fin 1024) (hr : r'.val = o + r.val) :
    rowsV (BitVec.ofNat 32 i) x0 x5 x6 x7 x8 x9 x10 x11 x12 x13 x14 e o h (ix3 0 r d)
      = blockG x0 x5 x6 x7 x8 x9 x10 x11 x12 x13 x14 H r' (i * 1024 + r'.val) d := by
  unfold rowsV blockG
  rw [tileV_apply, ld4_eq, ld4_eq, ld4_eq, ld4_eq]
  congr 1
  · exact funext fun k => ld_cut 1024 1024 256 1024 o 0 h x0 r k r' k hr (Nat.zero_add _).symm
  · funext k
    have := r'.isLt
    rw [View.ld_unit_lit _ x6 (by decide)]
    refine mixV_apply e H (i * 1024 + o) he _ x5 x6 r k (i * 1024 + r'.val) (by omega) ?_ (by omega)
    rw [timeV_apply]
    exact congrArg (BitVec.ofNat 32) (by omega)

include hi htop hown hbot in
/-- THE BLOCK, read at an index. -/
theorem block_apply (r d : Fin 1024) : blockV (BitVec.ofNat 32 i) x0 x1 x2 x3 x4 x5 x6 x7 x8 x9 x10 x11 x12 x13 x14 (ix3 0 r d)
    = blockG x0 x5 x6 x7 x8 x9 x10 x11 x12 x13 x14 H r (i * 1024 + r.val) d := by
  unfold blockV
  refine View.canon_apply_of_pieces (Val := Elt Ideal) (e := .f32)
    (fun y : S1x1024x1024.Idx => blockG x0 x5 x6 x7 x8 x9 x10 x11 x12 x13 x14 H (y 1) (i * 1024 + (y 1).val) (y 2)) _ (fun p hp => ?_) (ix3 0 r d) ?_
  · have key : ∀ (e : Vec Ideal Pad .f32) (o : Nat) (h : ∀ i, (![0, o, 0] : Fin 3 → Nat) i + ((Slab 256 1024).size) i ≤ (Slab 1024 1024).size i)
        (_ : ∀ (p : Fin 272) (k : Fin 1024), e (ix2 p k) = H (i * 1024 + o + p.val) k) (z : (Slab 256 1024).Idx),
        rowsV (BitVec.ofNat 32 i) x0 x5 x6 x7 x8 x9 x10 x11 x12 x13 x14 e o h z = blockG x0 x5 x6 x7 x8 x9 x10 x11 x12 x13 x14 H
          (((cutR 1024 1024 256 1024 o 0 h).emb z) 1) (i * 1024 + (((cutR 1024 1024 256 1024 o 0 h).emb z) 1).val) (((cutR 1024 1024 256 1024 o 0 h).emb z) 2) :=
      fun e o h he z => by
        obtain ⟨a, r, d, rfl⟩ : ∃ a r d, z = ix3 a r d := ⟨z 0, z 1, z 2, eq_ix3 z⟩
        obtain rfl : a = 0 := Subsingleton.elim _ _
        have e1 : (((cutR 1024 1024 256 1024 o 0 h).emb (ix3 0 r d)) 1 : Nat) = o + r.val := Rect.idx_unit_val ..
        have e2 : ((cutR 1024 1024 256 1024 o 0 h).emb (ix3 0 r d)) 2 = d := Fin.ext ((Rect.idx_unit_val ..).trans (Nat.zero_add _))
        rw [e2]
        exact rowsV_apply x0 x5 x6 x7 x8 x9 x10 x11 x12 x13 x14 i hi H e o h he r d _ e1
    have own := ownV_apply x0 x3 x4 i H hown
    have at' : ∀ {a b : Nat} (k : Fin 1024), a = b → H a k = H b k := fun k h => congrArg (H · k) h
    simp only [List.mem_cons, List.not_mem_nil, or_false] at hp
    rcases hp with rfl | rfl | rfl | rfl
    · exact key _ _ _ (padV_apply _ _ _ H _ (fun p k => (own 8 760 _ _ p k (by decide)).trans (at' k (by omega)))
        (fun p k => (own 256 768 _ _ p k (by decide)).trans (at' k (by omega))) (fun p k => (hbot p k).trans (at' k (by omega))))
    · exact key _ _ _ (padV_apply _ _ _ H _ (fun p k => (own 8 504 _ _ p k (by decide)).trans (at' k (by omega)))
        (fun p k => (own 256 512 _ _ p k (by decide)).trans (at' k (by omega))) (fun p k => (own 8 768 _ _ p k (by decide)).trans (at' k (by omega))))
    · exact key _ _ _ (padV_apply _ _ _ H _ (fun p k => (own 8 248 _ _ p k (by decide)).trans (at' k (by omega)))
        (fun p k => (own 256 256 _ _ p k (by decide)).trans (at' k (by omega))) (fun p k => (own 8 512 _ _ p k (by decide)).trans (at' k (by omega))))
    · exact key _ _ _ (padV_apply _ _ _ H _ (fun p k => (htop p k).trans (at' k (by omega)))
        (fun p k => (own 256 0 _ _ p k (by decide)).trans (at' k (by omega))) (fun p k => (own 8 256 _ _ p k (by decide)).trans (at' k (by omega))))
  · have mem : ∀ (o : Nat) (h : ∀ i, (![0, o, 0] : Fin 3 → Nat) i + ((Slab 256 1024).size) i ≤ (Slab 1024 1024).size i), o ≤ r.val → r.val < o + 256 →
        (ix3 0 r d : S1x1024x1024.Idx) ∈ (cutR 1024 1024 256 1024 o 0 h).set := fun o h h1 h2 => by
      refine Rect.mem_set_unit.mpr fun a => ?_
      match a with
      | ⟨0, _⟩ => exact ⟨Nat.zero_le _, Nat.one_pos⟩
      | ⟨1, _⟩ => exact ⟨h1, h2⟩
      | ⟨2, _⟩ => exact ⟨Nat.zero_le _, by have := d.isLt; show d.val < 0 + 1024; omega⟩
    rcases Nat.lt_or_ge r.val 256 with h | h
    · exact ⟨_, .tail _ (.tail _ (.tail _ (.head _))), mem 0 (by decide) (Nat.zero_le _) (by omega)⟩
    rcases Nat.lt_or_ge r.val 512 with h' | h'
    · exact ⟨_, .tail _ (.tail _ (.head _)), mem 256 (by decide) h (by omega)⟩
    rcases Nat.lt_or_ge r.val 768 with h'' | h''
    · exact ⟨_, .tail _ (.head _), mem 512 (by decide) h' (by omega)⟩
    · exact ⟨_, .head _, mem 768 (by decide) h'' (by have := r.isLt; omega)⟩

end

end Cert.Proof.Pool

end
-- ==== Proof.Pool.Array.lean ====
/- The result array of the pooling program: at every index the layer of the arguments' row. -/
module

public import proofs.«01_k».proof.Proof.Pool.Pads
public import proofs.«01_k».proof.Proof.Gen.PoolIdeal.Value

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.PoolIdeal Cert.PoolIdeal.Gen Cert.Post
open scoped BigOperators

/-- The modulated rows of one sequence with eight rows of zeros before and after them. -/
def hrow (a0 : (⟨3, ![16, 2048, 1024]⟩ : Shape).Idx → EReal) (a3 : (⟨4, ![2, 24, 1, 6144]⟩ : Shape).Idx → EReal) (b : Fin 16) (n : Nat) (k : Fin 1024) : EReal :=
  if h : 8 ≤ n ∧ n < 2056 then
    modul (fun k => a0 (ix3 b ⟨n - 8, by omega⟩ k)) (fun k => a3 (ix4 1 ⟨b.val, by omega⟩ 0 ⟨k.val, by omega⟩))
      (fun k => a3 (ix4 1 ⟨b.val, by omega⟩ 0 ⟨1024 + k.val, by omega⟩)) k
  else 0

/-- The layer of one row of the batch, its mixer the pooled rows through the group's projection. -/
def poolRow (a0 : (⟨3, ![16, 2048, 1024]⟩ : Shape).Idx → EReal) (a1 : (⟨4, ![1, 4, 256, 256]⟩ : Shape).Idx → EReal) (a2 : (Mat 1 1024).Idx → EReal)
    (a3 : (⟨4, ![2, 24, 1, 6144]⟩ : Shape).Idx → EReal)
    (a4 a5 : (⟨3, ![2, 2, 1024]⟩ : Shape).Idx → EReal) (a6 : (⟨3, ![2, 1024, 5632]⟩ : Shape).Idx → EReal)
    (a7 : (⟨3, ![2, 2816, 1024]⟩ : Shape).Idx → EReal) (b : Fin 16) (t : Fin 2048) (d : Fin 1024) : EReal :=
  layer (fun k => a0 (ix3 b t k)) (mix (hrow a0 a3 b) (fun g q q' => a1 (ix4 0 g q q')) (fun k => a2 (ix2 0 k)) t.val)
    (fun k => a3 (ix4 1 ⟨b.val, by omega⟩ 0 ⟨2048 + k.val, by omega⟩)) (fun k => a3 (ix4 1 ⟨b.val, by omega⟩ 0 ⟨3072 + k.val, by omega⟩))
    (fun k => a3 (ix4 1 ⟨b.val, by omega⟩ 0 ⟨4096 + k.val, by omega⟩)) (fun k => a3 (ix4 1 ⟨b.val, by omega⟩ 0 ⟨5120 + k.val, by omega⟩))
    (fun k => a4 (ix3 1 0 k)) (fun k => a5 (ix3 1 0 k)) (fun k => a4 (ix3 1 1 k)) (fun k => a5 (ix3 1 1 k))
    (fun k j => a6 (ix3 1 k j)) (fun j d => a7 (ix3 1 j d)) d

variable (m : (ℓ : Loc nD τ sig) → Buf (Elt Ideal) ℓ) (ρ : Dev nD → PrngReg)

/-- The copy of the groups' projections in the shorter format holds their numbers. -/
theorem V_main_v0 (c : Dev nD) : V m c main_v0 = m ((c : Thread nD τ).loc main_arg1) := by
  rfl

/-! ## The blocks, read at an index -/

section
variable (c : Dev nD) (t : Fin cfg0.N) (b : Fin 16) (hb : b.val = (grid0.coords t 0).val)
include hb

theorem blk0 (r k : Fin 1024) (u : Fin 2048) (hu : u.val = (grid0.coords t 1).val * 1024 + r.val) :
    iblk m c 0 t (ix3 0 r k) = V m c main_arg0 (ix3 b u k) := by
  refine congrArg (V m c main_arg0) (funext fun a => Fin.ext ((win0_0.rect_emb_val t _ a).trans ?_))
  rw [(by decide +kernel : ∀ t : Fin grid0.N, win0_0.index t = ![(grid0.coords t 0).val, (grid0.coords t 1).val, 0]) t]
  match a with
  | ⟨0, _⟩ => exact (Nat.mul_one _).trans hb.symm
  | ⟨1, _⟩ => exact hu.symm
  | ⟨2, _⟩ => exact Nat.zero_add _

/-- The eight rows before a sequence's second half. -/
theorem blk1 (p : Fin 8) (k : Fin 1024) (u : Fin 2048) (ht : (grid0.coords t 1).val = 1) (hu : u.val = 1016 + p.val) :
    iblk m c 1 t (ix3 0 p k) = V m c main_arg0 (ix3 b u k) := by
  refine congrArg (V m c main_arg0) (funext fun a => Fin.ext ((win0_1.rect_emb_val t _ a).trans ?_))
  rw [(by decide +kernel : ∀ t : Fin grid0.N, (grid0.coords t 1).val = 1 → win0_1.index t = ![(grid0.coords t 0).val, 127, 0]) t ht]
  match a with
  | ⟨0, _⟩ => exact (Nat.mul_one _).trans hb.symm
  | ⟨1, _⟩ => exact hu.symm
  | ⟨2, _⟩ => exact Nat.zero_add _

/-- The eight rows after a sequence's first half. -/
theorem blk2 (p : Fin 8) (k : Fin 1024) (u : Fin 2048) (ht : (grid0.coords t 1).val = 0) (hu : u.val = 1024 + p.val) :
    iblk m c 2 t (ix3 0 p k) = V m c main_arg0 (ix3 b u k) := by
  refine congrArg (V m c main_arg0) (funext fun a => Fin.ext ((win0_2.rect_emb_val t _ a).trans ?_))
  rw [(by decide +kernel : ∀ t : Fin grid0.N, (grid0.coords t 1).val = 0 → win0_2.index t = ![(grid0.coords t 0).val, 128, 0]) t ht]
  match a with
  | ⟨0, _⟩ => exact (Nat.mul_one _).trans hb.symm
  | ⟨1, _⟩ => exact hu.symm
  | ⟨2, _⟩ => exact Nat.zero_add _

theorem blk3 (k : Fin 1024) : iblk m c 3 t (ix4 0 0 0 k) = V m c main_arg3 (ix4 1 ⟨b.val, by omega⟩ 0 ⟨k.val, by omega⟩) := by
  refine congrArg (V m c main_arg3) (funext fun a => Fin.ext ((win0_3.rect_emb_val t _ a).trans ?_))
  rw [(by decide +kernel : ∀ t : Fin grid0.N, win0_3.index t = ![1, (grid0.coords t 0).val, 0, 0]) t]
  match a with
  | ⟨1, _⟩ => exact (Nat.mul_one _).trans hb.symm
  | ⟨0, _⟩ | ⟨2, _⟩ => rfl
  | ⟨3, _⟩ => exact Nat.zero_add _

theorem blk4 (k : Fin 1024) : iblk m c 4 t (ix4 0 0 0 k) = V m c main_arg3 (ix4 1 ⟨b.val, by omega⟩ 0 ⟨1024 + k.val, by omega⟩) := by
  refine congrArg (V m c main_arg3) (funext fun a => Fin.ext ((win0_4.rect_emb_val t _ a).trans ?_))
  rw [(by decide +kernel : ∀ t : Fin grid0.N, win0_4.index t = ![1, (grid0.coords t 0).val, 0, 1]) t]
  match a with
  | ⟨1, _⟩ => exact (Nat.mul_one _).trans hb.symm
  | ⟨0, _⟩ | ⟨2, _⟩ | ⟨3, _⟩ => rfl

theorem blk7 (k : Fin 1024) : iblk m c 7 t (ix4 0 0 0 k) = V m c main_arg3 (ix4 1 ⟨b.val, by omega⟩ 0 ⟨2048 + k.val, by omega⟩) := by
  refine congrArg (V m c main_arg3) (funext fun a => Fin.ext ((win0_7.rect_emb_val t _ a).trans ?_))
  rw [(by decide +kernel : ∀ t : Fin grid0.N, win0_7.index t = ![1, (grid0.coords t 0).val, 0, 2]) t]
  match a with
  | ⟨1, _⟩ => exact (Nat.mul_one _).trans hb.symm
  | ⟨0, _⟩ | ⟨2, _⟩ | ⟨3, _⟩ => rfl

theorem blk8 (k : Fin 1024) : iblk m c 8 t (ix4 0 0 0 k) = V m c main_arg3 (ix4 1 ⟨b.val, by omega⟩ 0 ⟨3072 + k.val, by omega⟩) := by
  refine congrArg (V m c main_arg3) (funext fun a => Fin.ext ((win0_8.rect_emb_val t _ a).trans ?_))
  rw [(by decide +kernel : ∀ t : Fin grid0.N, win0_8.index t = ![1, (grid0.coords t 0).val, 0, 3]) t]
  match a with
  | ⟨1, _⟩ => exact (Nat.mul_one _).trans hb.symm
  | ⟨0, _⟩ | ⟨2, _⟩ | ⟨3, _⟩ => rfl

theorem blk9 (k : Fin 1024) : iblk m c 9 t (ix4 0 0 0 k) = V m c main_arg3 (ix4 1 ⟨b.val, by omega⟩ 0 ⟨4096 + k.val, by omega⟩) := by
  refine congrArg (V m c main_arg3) (funext fun a => Fin.ext ((win0_9.rect_emb_val t _ a).trans ?_))
  rw [(by decide +kernel : ∀ t : Fin grid0.N, win0_9.index t = ![1, (grid0.coords t 0).val, 0, 4]) t]
  match a with
  | ⟨1, _⟩ => exact (Nat.mul_one _).trans hb.symm
  | ⟨0, _⟩ | ⟨2, _⟩ | ⟨3, _⟩ => rfl

theorem blk10 (k : Fin 1024) : iblk m c 10 t (ix4 0 0 0 k) = V m c main_arg3 (ix4 1 ⟨b.val, by omega⟩ 0 ⟨5120 + k.val, by omega⟩) := by
  refine congrArg (V m c main_arg3) (funext fun a => Fin.ext ((win0_10.rect_emb_val t _ a).trans ?_))
  rw [(by decide +kernel : ∀ t : Fin grid0.N, win0_10.index t = ![1, (grid0.coords t 0).val, 0, 5]) t]
  match a with
  | ⟨1, _⟩ => exact (Nat.mul_one _).trans hb.symm
  | ⟨0, _⟩ | ⟨2, _⟩ | ⟨3, _⟩ => rfl

end

section
variable (c : Dev nD) (t : Fin cfg0.N)

theorem blk5 (g : Fin 4) (q q' : Fin 256) : iblk m c 5 t (ix4 0 g q q') = V m c main_v0 (ix4 0 g q q') :=
  congrArg (V m c main_v0) (funext fun a => Fin.ext (win0_5.rect_emb_val_of_index_zero t a
    ((by decide +kernel : ∀ (t : Fin grid0.N) a, win0_5.index t a = 0) t a) _))

theorem blk6 (k : Fin 1024) : iblk m c 6 t (ix2 0 k) = V m c main_arg2 (ix2 0 k) :=
  congrArg (V m c main_arg2) (funext fun a => Fin.ext (win0_6.rect_emb_val_of_index_zero t a
    ((by decide +kernel : ∀ (t : Fin grid0.N) a, win0_6.index t a = 0) t a) _))

theorem blk11 (r : Fin 2) (k : Fin 1024) : iblk m c 11 t (ix3 0 r k) = V m c main_arg4 (ix3 1 r k) := by
  refine congrArg (V m c main_arg4) (funext fun a => Fin.ext ((win0_11.rect_emb_val t _ a).trans ?_))
  rw [(by decide +kernel : ∀ t : Fin grid0.N, win0_11.index t = ![1, 0, 0]) t]
  match a with
  | ⟨0, _⟩ => rfl
  | ⟨1, _⟩ | ⟨2, _⟩ => exact Nat.zero_add _

theorem blk12 (r : Fin 2) (k : Fin 1024) : iblk m c 12 t (ix3 0 r k) = V m c main_arg5 (ix3 1 r k) := by
  refine congrArg (V m c main_arg5) (funext fun a => Fin.ext ((win0_12.rect_emb_val t _ a).trans ?_))
  rw [(by decide +kernel : ∀ t : Fin grid0.N, win0_12.index t = ![1, 0, 0]) t]
  match a with
  | ⟨0, _⟩ => rfl
  | ⟨1, _⟩ | ⟨2, _⟩ => exact Nat.zero_add _

theorem blk13 (r : Fin 1024) (k : Fin 5632) : iblk m c 13 t (ix3 0 r k) = V m c main_arg6 (ix3 1 r k) := by
  refine congrArg (V m c main_arg6) (funext fun a => Fin.ext ((win0_13.rect_emb_val t _ a).trans ?_))
  rw [(by decide +kernel : ∀ t : Fin grid0.N, win0_13.index t = ![1, 0, 0]) t]
  match a with
  | ⟨0, _⟩ => rfl
  | ⟨1, _⟩ | ⟨2, _⟩ => exact Nat.zero_add _

theorem blk14 (r : Fin 2816) (k : Fin 1024) : iblk m c 14 t (ix3 0 r k) = V m c main_arg7 (ix3 1 r k) := by
  refine congrArg (V m c main_arg7) (funext fun a => Fin.ext ((win0_14.rect_emb_val t _ a).trans ?_))
  rw [(by decide +kernel : ∀ t : Fin grid0.N, win0_14.index t = ![1, 0, 0]) t]
  match a with
  | ⟨0, _⟩ => rfl
  | ⟨1, _⟩ | ⟨2, _⟩ => exact Nat.zero_add _

/-- Where an entry of the result's block lies in the result. -/
theorem emb15 (r d : Fin 1024) : ((cfg0.win 15).blk t).view.emb (ix3 0 r d)
    = ix3 ⟨(grid0.coords t 0).val, (grid0.coords t 0).isLt⟩
        ⟨(grid0.coords t 1).val * 1024 + r.val, by have h : (grid0.coords t 1).val < 2 := (grid0.coords t 1).isLt; omega⟩ d := by
  refine funext fun a => Fin.ext ((win0_15.rect_emb_val t _ a).trans ?_)
  rw [(by decide +kernel : ∀ t : Fin grid0.N, win0_15.index t = ![(grid0.coords t 0).val, (grid0.coords t 1).val, 0]) t]
  match a with
  | ⟨0, _⟩ => exact Nat.mul_one _
  | ⟨1, _⟩ => rfl
  | ⟨2, _⟩ => exact Nat.zero_add _

end

section
variable (c : Dev nD) (t : Fin cfg0.N) (b : Fin 16) (hb : b.val = (grid0.coords t 0).val)
include hb

/-- The modulated row of a block, where the padded sequence has it. -/
theorem modul_eq (X : Fin 1024 → EReal) (u : Nat) (hu : u < 2048) (hX : ∀ k, X k = V m c main_arg0 (ix3 b ⟨u, hu⟩ k)) (n : Nat) (hn : n = u + 8) (k : Fin 1024) :
    modul X (fun k => iblk m c 3 t (ix4 0 0 0 k)) (fun k => iblk m c 4 t (ix4 0 0 0 k)) k = hrow (V m c main_arg0) (V m c main_arg3) b n k := by
  subst hn
  unfold hrow
  rw [dif_pos ⟨by omega, by omega⟩]
  congr 1
  · funext k
    rw [hX]
    rfl
  · exact funext fun k => blk3 m c t b hb k
  · exact funext fun k => blk4 m c t b hb k

theorem own_eq (n k : Fin 1024) : modul (fun k => iblk m c 0 t (ix3 0 n k)) (fun k => iblk m c 3 t (ix4 0 0 0 k)) (fun k => iblk m c 4 t (ix4 0 0 0 k)) k
    = hrow (V m c main_arg0) (V m c main_arg3) b ((grid0.coords t 1).val * 1024 + (8 + n.val)) k := by
  have h : (grid0.coords t 1).val < 2 := (grid0.coords t 1).isLt
  exact modul_eq m c t b hb _ ((grid0.coords t 1).val * 1024 + n.val) (by omega) (fun k => blk0 m c t b hb n k _ rfl) _ (by omega) k

theorem top_eq (p : Fin 8) (k : Fin 1024) : topV (BitVec.ofNat 32 (grid0.coords t 1).val) (iblk m c 1 t) (iblk m c 3 t) (iblk m c 4 t) (ix2 p k)
    = hrow (V m c main_arg0) (V m c main_arg3) b ((grid0.coords t 1).val * 1024 + p.val) k := by
  have h : (grid0.coords t 1).val < 2 := (grid0.coords t 1).isLt
  unfold topV
  rcases (by omega : (grid0.coords t 1).val = 0 ∨ (grid0.coords t 1).val = 1) with e | e
  · rw [e]
    refine Eq.trans (b := 0) Ideal.ofBits_zero_f32 ?_
    unfold hrow
    rw [dif_neg (by omega)]
  · refine Eq.trans ?_ (modul_eq m c t b hb (fun k => iblk m c 1 t (ix3 0 p k)) (1016 + p.val) (by omega) (fun k => blk1 m c t b hb p k _ e rfl) _ (by omega) k)
    rw [e]
    refine (modRowsV_apply 8 (by decide) _ _ _ p k).trans ?_
    rw [ld4_eq, ld4_eq]
    congr 1
    exact funext fun k => ld_cut 8 1024 8 1024 0 0 (by decide) (iblk m c 1 t) p k p k (Nat.zero_add _).symm (Nat.zero_add _).symm

theorem bot_eq (p : Fin 8) (k : Fin 1024) : botV (BitVec.ofNat 32 (grid0.coords t 1).val) (iblk m c 2 t) (iblk m c 3 t) (iblk m c 4 t) (ix2 p k)
    = hrow (V m c main_arg0) (V m c main_arg3) b ((grid0.coords t 1).val * 1024 + (1032 + p.val)) k := by
  have h : (grid0.coords t 1).val < 2 := (grid0.coords t 1).isLt
  unfold botV
  rcases (by omega : (grid0.coords t 1).val = 1 ∨ (grid0.coords t 1).val = 0) with e | e
  · rw [e]
    refine Eq.trans (b := 0) Ideal.ofBits_zero_f32 ?_
    unfold hrow
    rw [dif_neg (by omega)]
  · refine Eq.trans ?_ (modul_eq m c t b hb (fun k => iblk m c 2 t (ix3 0 p k)) (1024 + p.val) (by omega) (fun k => blk2 m c t b hb p k _ e rfl) _ (by omega) k)
    rw [e]
    refine (modRowsV_apply 8 (by decide) _ _ _ p k).trans ?_
    rw [ld4_eq, ld4_eq]
    congr 1
    exact funext fun k => ld_cut 8 1024 8 1024 0 0 (by decide) (iblk m c 2 t) p k p k (Nat.zero_add _).symm (Nat.zero_add _).symm

/-- A point's block of the result, read at an index. -/
theorem after_apply (r d : Fin 1024) (u : Fin 2048) (hu : u.val = (grid0.coords t 1).val * 1024 + r.val) :
    outsAt0 m c t (ix3 0 r d)
      = poolRow (V m c main_arg0) (V m c main_v0) (V m c main_arg2) (V m c main_arg3) (V m c main_arg4) (V m c main_arg5) (V m c main_arg6)
          (V m c main_arg7) b u d := by
  rw [block_eq]
  refine (block_apply _ _ _ _ _ _ _ _ _ _ _ _ _ _ _ _ (grid0.coords t 1).isLt _ (top_eq m c t b hb) (own_eq m c t b hb) (bot_eq m c t b hb) r d).trans ?_
  unfold blockG poolRow
  congr 1
  · exact funext fun k => blk0 m c t b hb r k u hu
  · rw [hu]
    congr 1
    · exact funext fun g => funext fun q => funext fun q' => blk5 m c t g q q'
    · exact funext fun k => blk6 m c t k
  · exact funext fun k => blk7 m c t b hb k
  · exact funext fun k => blk8 m c t b hb k
  · exact funext fun k => blk9 m c t b hb k
  · exact funext fun k => blk10 m c t b hb k
  · exact funext fun k => blk11 m c t 0 k
  · exact funext fun k => blk12 m c t 0 k
  · exact funext fun k => blk11 m c t 1 k
  · exact funext fun k => blk12 m c t 1 k
  · exact funext fun k => funext fun j => blk13 m c t k j
  · exact funext fun k => funext fun j => blk14 m c t k j

end

/-- THE RESULT ARRAY after the run. -/
theorem final (c : Dev nD) : (dats m 0 c).arrAt 15 cfg0.N = fun i : S16x2048x1024.Idx =>
    poolRow (V m c main_arg0) (V m c main_v0) (V m c main_arg2) (V m c main_arg3) (V m c main_arg4) (V m c main_arg5) (V m c main_arg6)
      (V m c main_arg7) (i 0) (i 1) (i 2) := by
  refine (dats m 0 c).arrAt_eq_of_covers 15 _ (by decide +kernel) fun t hf y => ?_
  obtain ⟨a, r, d, rfl⟩ : ∃ (a : Fin 1) (r d : Fin 1024), y = ix3 a r d := ⟨y 0, y 1, y 2, eq_ix3 y⟩
  obtain rfl : a = 0 := Subsingleton.elim _ _
  rw [emb15]
  blk_simp
  rw [after0_15]
  exact after_apply m c t _ rfl r d _ rfl

end Cert.Proof.Pool

end
-- ==== Proof.Pool.Cum.lean ====
/- The running sum of a sequence of rows and the rows taken out of it at given places, read at an index; the window's sum as a difference of
   two running sums. -/
module

public import proofs.«01_k».proof.Proof.Pool.Rows

@[expose] public section

set_option maxRecDepth 16384

noncomputable section

namespace Cert.Proof.Pool

open Idealize.ShloMosaic hiding ix0 ix1 ix2 ix3 ix4 ix5 eq_ix1 eq_ix2 eq_ix3 eq_ix4 eq_ix5
open Idealize.ShloMosaic.ValueIdx
open Cert.Post
open scoped BigOperators

/-- A batch of sequences of `n` rows of `d` numbers. -/
abbrev Seqs (n d : Nat) : Shape := ⟨3, ![16, n, d]⟩

/-! ## The running sum -/

theorem foldl_add_list {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The last `t + 1` of 2048 places are the places of the first `t + 1` rows. -/
theorem sum_last (f : Nat → EReal) (t : Nat) (ht : t < 2048) :
    ∑ n ∈ Finset.range 2048, (if 2047 ≤ t + n then f (t + n - 2047) else 0) = ∑ j ∈ Finset.range (t + 1), f j := by
  have e : (2048 : Nat) = (2047 - t) + (t + 1) := by omega
  rw [e, Finset.sum_range_add, Finset.sum_eq_zero, zero_add]
  · refine Finset.sum_congr rfl fun j _ => ?_
    rw [if_pos (by omega)]
    exact congrArg f (by omega)
  · intro n hn
    have := Finset.mem_range.mp hn
    rw [if_neg (by omega)]

theorem running_apply (x : (Seqs 2048 1024).Idx → EReal) (h) (b : Fin 16) (t : Fin 2048) (k : Fin 1024) (f : Nat → EReal)
    (hf : ∀ j : Fin 2048, x (ix3 b j k) = f j.val) :
    Ideal.hostReduceWindowAdd (t := Seqs 2048 1024) ![1, 2048, 1] ![1, 1, 1] ![0, 2047, 0] ![0, 0, 0] h x 0 (ix3 b t k)
      = ∑ j ∈ Finset.range (t.val + 1), f j := by
  have ht := t.isLt
  unfold Ideal.hostReduceWindowAdd Host.reduceWindow
  refine (foldl_add_list _ _ _).trans ?_
  rw [zero_add, ← Fin.sum_univ_def]
  have key : ∀ (p : (⟨3, ![1, 2048, 1]⟩ : Shape).Idx)
      (dec : Decidable (∀ a : Fin 3, (![0, 2047, 0] : Fin 3 → Nat) a ≤ ((ix3 b t k : (Seqs 2048 1024).Idx) a).val * (![1, 1, 1] : Fin 3 → Nat) a + (p a).val
          ∧ ((ix3 b t k : (Seqs 2048 1024).Idx) a).val * (![1, 1, 1] : Fin 3 → Nat) a + (p a).val - (![0, 2047, 0] : Fin 3 → Nat) a < (Seqs 2048 1024).size a)),
      (if hin : ∀ a : Fin 3, (![0, 2047, 0] : Fin 3 → Nat) a ≤ ((ix3 b t k : (Seqs 2048 1024).Idx) a).val * (![1, 1, 1] : Fin 3 → Nat) a + (p a).val
          ∧ ((ix3 b t k : (Seqs 2048 1024).Idx) a).val * (![1, 1, 1] : Fin 3 → Nat) a + (p a).val - (![0, 2047, 0] : Fin 3 → Nat) a < (Seqs 2048 1024).size a then
        x (fun a => ⟨((ix3 b t k : (Seqs 2048 1024).Idx) a).val * (![1, 1, 1] : Fin 3 → Nat) a + (p a).val - (![0, 2047, 0] : Fin 3 → Nat) a, (hin a).2⟩) else 0)
      = (fun n => if 2047 ≤ t.val + n then f (t.val + n - 2047) else 0) (p 1).val := fun p dec => by
    have h0 : (p 0).val < 1 := (p 0).isLt
    have h1 : (p 1).val < 2048 := (p 1).isLt
    have h2 : (p 2).val < 1 := (p 2).isLt
    have hb := b.isLt
    have hk := k.isLt
    dsimp only
    by_cases hc : 2047 ≤ t.val + (p 1).val
    · rw [if_pos hc, dif_pos (fun a => by
        match a with
        | ⟨0, _⟩ => exact ⟨Nat.zero_le _, by show b.val * 1 + (p 0).val - 0 < 16; omega⟩
        | ⟨1, _⟩ => exact ⟨by show 2047 ≤ t.val * 1 + (p 1).val; omega, by show t.val * 1 + (p 1).val - 2047 < 2048; omega⟩
        | ⟨2, _⟩ => exact ⟨Nat.zero_le _, by show k.val * 1 + (p 2).val - 0 < 1024; omega⟩)]
      refine (congrArg x ?_).trans (hf ⟨t.val + (p 1).val - 2047, by omega⟩)
      refine ix3_of ?_ ?_ ?_
      · show b.val * 1 + (p 0).val - 0 = b.val; omega
      · show t.val * 1 + (p 1).val - 2047 = t.val + (p 1).val - 2047; omega
      · show k.val * 1 + (p 2).val - 0 = k.val; omega
    · rw [if_neg hc, dif_neg fun hin => hc (by have h := (hin 1).1; change 2047 ≤ t.val * 1 + (p 1).val at h; omega)]
  refine (Finset.sum_congr rfl fun i _ => key ((Shape.rowMajor ⟨3, ![1, 2048, 1]⟩).symm i) _).trans ?_
  rw [Equiv.sum_comp (Shape.rowMajor ⟨3, ![1, 2048, 1]⟩).symm (fun p : (⟨3, ![1, 2048, 1]⟩ : Shape).Idx =>
    (fun n => if 2047 ≤ t.val + n then f (t.val + n - 2047) else 0) (p 1).val), sum_idx3, Fin.sum_univ_one]
  refine Eq.trans (Finset.sum_congr rfl fun j _ => Fin.sum_univ_one _) ?_
  exact (Fin.sum_univ_eq_sum_range (fun n => if 2047 ≤ t.val + n then f (t.val + n - 2047) else 0) 2048).trans (sum_last f t.val ht)

/-! ## The rows taken at given places -/

/-- Taking rows of a batch of sequences of 2049 rows of 256 numbers, at 2048 places. -/
abbrev takeAt (wf : GatherDims.WF (Seqs 2049 256) (Mat 2048 1) (Seqs 2048 256) [0, 2] [1] [] [1] [] 1 ![16, 1, 256]) :
    GatherDims (Seqs 2049 256) (Mat 2048 1) (Seqs 2048 256) where
  offsetDims := [0, 2]
  collapsedSliceDims := [1]
  operandBatchingDims := []
  startIndicesBatchingDims := []
  startIndexMap := [1]
  indexVectorDim := 1
  sliceSizes := ![16, 1, 256]
  wf := wf

theorem word_nat : ∀ n : Fin 2049, (BitVec.ofNat 32 n.val).toInt.toNat = n.val := by
  decide +kernel

theorem take_apply (wf) (x : (Seqs 2049 256).Idx → EReal) (idx : IVec (Mat 2048 1) 32) (b : Fin 16) (t : Fin 2048) (q : Fin 256) (n : Fin 2049)
    (hn : idx (ix2 t 0) = BitVec.ofNat 32 n.val) : Host.gather (takeAt wf) x idx (ix3 b t q) = x (ix3 b n q) := by
  unfold Host.gather
  refine congrArg x (funext fun a => Fin.ext ?_)
  show (takeAt wf).start (ix3 b t q) idx a + (takeAt wf).batchCoord (ix3 b t q) a + (takeAt wf).offCoord (ix3 b t q) a = _
  rw [GatherDims.batchCoord_eq_zero _ _ _ (fun h => by simp at h), Nat.add_zero]
  have h012 : a = 1 ∨ a = 0 ∨ a = 2 := by
    match a with
    | ⟨0, _⟩ => exact Or.inr (Or.inl rfl)
    | ⟨1, _⟩ => exact Or.inl rfl
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ (takeAt wf).startIndexMap from List.mem_singleton.mpr rfl)]
    have hsi : (takeAt wf).siIdx (ix3 b t q) ⟨List.idxOf (1 : Fin 3) (takeAt wf).startIndexMap, List.idxOf_lt_length_iff.2 (List.mem_singleton.mpr rfl)⟩
        = ix2 t 0 := by
      funext b
      refine Fin.ext ?_
      match b with
      | ⟨0, _⟩ => rfl
      | ⟨1, _⟩ => rfl
    rw [hsi, hn]
    have := n.isLt
    show min (BitVec.ofNat 32 n.val).toInt.toNat (2049 - 1) = n.val
    rw [word_nat n]
    omega
  · unfold GatherDims.start
    rw [dif_neg (by simp), Nat.zero_add]
    rfl
  · unfold GatherDims.start
    rw [dif_neg (by simp), Nat.zero_add]
    rfl

theorem coe_sum (s : Finset Nat) (r : Nat → ℝ) : ((∑ j ∈ s, r j : ℝ) : EReal) = ∑ j ∈ s, (r j : EReal) := by
  classical
  induction s using Finset.induction_on with
  | empty => rfl
  | insert a s ha ih => rw [Finset.sum_insert ha, Finset.sum_insert ha, EReal.coe_add, ih]

/-- A window's sum, as the running sum at its end less the running sum at its start. -/
theorem window_sum (H : Nat → EReal) (hH : ∀ n, n < 2048 → ∃ r : ℝ, H (n + 8) = (r : EReal)) (hz : ∀ n, n < 8 ∨ 2056 ≤ n → H n = 0)
    (t h : Nat) (ht : t < 2048) (hh : h ≤ 8) :
    ∑ j ∈ Finset.range (min (t + h) 2048), H (j + 8) - ∑ j ∈ Finset.range (t - h), H (j + 8) = ∑ j ∈ Finset.range (2 * h), H (t + 8 - h + j) := by
  choose! r hr using hH
  have e : ∀ n, n ≤ 2048 → ∑ j ∈ Finset.range n, H (j + 8) = ((∑ j ∈ Finset.range n, r j : ℝ) : EReal) := fun n hn => by
    rw [coe_sum]
    exact Finset.sum_congr rfl fun j hj => hr j (by have := Finset.mem_range.mp hj; omega)
  rw [e _ (by omega), e _ (by omega), ← EReal.coe_sub, ← Finset.sum_Ico_eq_sub _ (by omega), coe_sum]
  have e2 : ∑ j ∈ Finset.Ico (t - h) (min (t + h) 2048), ((r j : ℝ) : EReal) = ∑ j ∈ Finset.Ico (t - h) (min (t + h) 2048), H (j + 8) :=
    Finset.sum_congr rfl fun j hj => (hr j (by have := Finset.mem_Ico.mp hj; omega)).symm
  rw [e2, Finset.sum_Ico_add' H]
  have e3 : ∑ j ∈ Finset.range (2 * h), H (t + 8 - h + j) = ∑ j ∈ Finset.Ico (t + 8 - h) (t + 8 + h), H j := by
    rw [Finset.sum_Ico_eq_sum_range]
    exact congrArg (fun n => ∑ j ∈ Finset.range n, H (t + 8 - h + j)) (by omega)
  rw [e3]
  refine Finset.sum_subset (fun j hj => ?_) (fun j hj hn => hz j ?_)
  · rw [Finset.mem_Ico] at hj ⊢
    omega
  · rw [Finset.mem_Ico] at hj hn
    omega

end Cert.Proof.Pool

end
-- ==== Proof.Pool.RefMix.lean ====
/- The mixer of the pooling program's reference, read at an index: the running sum's differences are the windows' sums. -/
module

public import proofs.«01_k».proof.Proof.Pool.Array
public import proofs.«01_k».proof.Proof.Pool.Cum
public import proofs.«01_k».proof.Proof.Gen.PoolRefIdeal.Read

@[expose] public section

set_option maxRecDepth 16384

noncomputable section

namespace Cert.Proof.Pool.Ref

open Idealize.ShloMosaic hiding ix0 ix1 ix2 ix3 ix4 ix5 eq_ix1 eq_ix2 eq_ix3 eq_ix4 eq_ix5
open Idealize.ShloMosaic.ValueIdx
open Cert.PoolRefIdeal Cert.PoolRefIdeal.Read Cert.Post
open scoped BigOperators

/-! ## The places a window starts and ends at, in words -/

theorem lo_word : ∀ (t : Fin 2048) (g : Fin 4),
    IntOp.minsi 2048#32 (IntOp.maxsi 0#32 (IntOp.subi (BitVec.ofNat 32 t.val) (BitVec.ofNat 32 (half g)))) = BitVec.ofNat 32 (t.val - half g) := by
  decide +kernel

theorem hi_word : ∀ (t : Fin 2048) (g : Fin 4),
    IntOp.minsi 2048#32 (IntOp.maxsi 0#32 (IntOp.subi (IntOp.addi (BitVec.ofNat 32 t.val) (BitVec.ofNat 32 (2 * half g))) (BitVec.ofNat 32 (half g))))
      = BitVec.ofNat 32 (min (t.val + half g) 2048) := by
  decide +kernel

/-- A place is not negative, so the wrap of negative places leaves it. -/
theorem wrap_word : ∀ n : Fin 2049,
    Scalar.select (IntOp.cmpi .slt (BitVec.ofNat 32 n.val) 0#32) (IntOp.addi (BitVec.ofNat 32 n.val) 2049#32) (BitVec.ofNat 32 n.val) = BitVec.ofNat 32 n.val := by
  decide +kernel

theorem size_word : ∀ (t : Fin 2048) (g : Fin 4),
    (IntOp.subi (BitVec.ofNat 32 (min (t.val + half g) 2048)) (BitVec.ofNat 32 (t.val - half g))).toInt = (rowsIn t.val (half g) : ℤ) := by
  decide +kernel

/-- The wrap applied to a window's start. -/
theorem lo_wrap (t : Fin 2048) (g : Fin 4) (w : BitVec 32) (h : w = BitVec.ofNat 32 (t.val - half g)) :
    Scalar.select (IntOp.cmpi .slt w 0#32) (IntOp.addi w 2049#32) w = BitVec.ofNat 32 (t.val - half g) := by
  subst h
  exact wrap_word ⟨t.val - half g, by omega⟩

/-- The wrap applied to a window's end. -/
theorem hi_wrap (t : Fin 2048) (g : Fin 4) (w : BitVec 32) (h : w = BitVec.ofNat 32 (min (t.val + half g) 2048)) :
    Scalar.select (IntOp.cmpi .slt w 0#32) (IntOp.addi w 2049#32) w = BitVec.ofNat 32 (min (t.val + half g) 2048) := by
  subst h
  exact wrap_word ⟨min (t.val + half g) 2048, by omega⟩

variable (x0 : (⟨S16x2048x1024, .f32⟩ : BufTy).Contents (Elt Ideal)) (x1 : (⟨S1x4x256x256, .f32⟩ : BufTy).Contents (Elt Ideal))
  (x2 : (⟨S1x1024, .f32⟩ : BufTy).Contents (Elt Ideal)) (x3 : (⟨S2x24x1x6144, .f32⟩ : BufTy).Contents (Elt Ideal)) (b : Fin 16) (t : Fin 2048)

/-! ## The modulated rows and their running sum -/

theorem cond (o : Fin 6144) : val_main_v1 x3 (ix3 b 0 o) = x3 (ix4 1 ⟨b.val, by omega⟩ 0 o) := by
  rw [val_main_v1_apply, val_main_v0_apply]
  refine congrArg x3 (ix4_of rfl ?_ rfl ?_)
  · show ((b.val * 1 + 0) * 6144 + o.val) / 6144 % 16 = b.val; omega
  · show ((b.val * 1 + 0) * 6144 + o.val) % 6144 = o.val; omega

theorem rows (k : Fin 1024) : val_main_v13 x0 x3 (ix3 b t k) = hrow x0 x3 b (t.val + 8) k := by
  rw [val_main_v13_apply, val_main_v11_apply, val_main_v10_apply, val_main_v9_apply, val_main_v8_apply, val_main_v12_apply, val_main_v2_apply, val_main_v3_apply]
  have ht := t.isLt
  unfold hrow modul
  rw [dif_pos ⟨by omega, by omega⟩]
  refine congrArg₂ (· + ·) (congrArg₂ (· * ·) (congrArg x0 (ix3_of rfl ?_ rfl)) (congrArg (_ + ·) ?_)) ?_
  · show t.val = t.val + 8 - 8; omega
  · exact (congrArg _ (ix3_of rfl rfl rfl)).trans (cond x3 b _)
  · refine (congrArg _ (ix3_of rfl rfl ?_)).trans (cond x3 b ⟨k.val, by omega⟩)
    simp [ix3]

theorem sums (n : Fin 2049) (k : Fin 1024) : val_main_v18 x0 x3 (ix3 b n k) = ∑ j ∈ Finset.range n.val, hrow x0 x3 b (j + 8) k := by
  have hn := n.isLt
  unfold val_main_v18
  rcases Nat.eq_zero_or_pos n.val with h0 | h0
  · refine (concatenate_pair_apply_left (t := S16x2049x1024) (s₁ := S16x1x1024) (s₂ := S16x2048x1024) 1 _ _ _ (ix3 b n k) rfl (ix3 b 0 k) (fun a => ?_)).trans ?_
    · match a with
      | ⟨0, _⟩ | ⟨2, _⟩ => rfl
      | ⟨1, _⟩ => exact h0.symm
    · rw [h0, Finset.range_zero, Finset.sum_empty, val_main_v16_apply]
      exact Ideal.ofBits_zero_f32
  · refine (concatenate_pair_apply_right (t := S16x2049x1024) (s₁ := S16x1x1024) (s₂ := S16x2048x1024) 1 _ _ _ (ix3 b n k) rfl rfl (ix3 b ⟨n.val - 1, by omega⟩ k) (fun a ha => ?_) ?_).trans ?_
    · match a with
      | ⟨0, _⟩ | ⟨2, _⟩ => rfl
      | ⟨1, _⟩ => exact absurd rfl ha
    · show n.val - 1 + 1 = n.val; omega
    · unfold val_main_v17
      have e : val_main_call0_v0 (F := Ideal) (Shape.Idx.first (Facts₀.h_S_)) = 0 := by
        rw [val_main_call0_v0_apply]
        exact Ideal.ofBits_zero_f32
      unfold Host.reduceWindowAdd
      rw [e]
      refine (running_apply (val_main_v13 x0 x3) _ b ⟨n.val - 1, by omega⟩ k (fun j => hrow x0 x3 b (j + 8) k) (fun j => rows x0 x3 b j k)).trans ?_
      exact congrArg (fun n => ∑ j ∈ Finset.range n, hrow x0 x3 b (j + 8) k) (by show n.val - 1 + 1 = n.val; omega)

/-! ## Each group's places, as the program computes them -/

theorem lo0 : val_main_v22 (F := Ideal) (ix1 t) = BitVec.ofNat 32 (t.val - half 0) :=
  lo_word t 0

theorem hi0 : val_main_v27 (F := Ideal) (ix1 t) = BitVec.ofNat 32 (min (t.val + half 0) 2048) :=
  hi_word t 0

theorem lo1 : val_main_v53 (F := Ideal) (ix1 t) = BitVec.ofNat 32 (t.val - half 1) :=
  lo_word t 1

theorem hi1 : val_main_v58 (F := Ideal) (ix1 t) = BitVec.ofNat 32 (min (t.val + half 1) 2048) :=
  hi_word t 1

theorem lo2 : val_main_v84 (F := Ideal) (ix1 t) = BitVec.ofNat 32 (t.val - half 2) :=
  lo_word t 2

theorem hi2 : val_main_v89 (F := Ideal) (ix1 t) = BitVec.ofNat 32 (min (t.val + half 2) 2048) :=
  hi_word t 2

theorem lo3 : val_main_v115 (F := Ideal) (ix1 t) = BitVec.ofNat 32 (t.val - half 3) :=
  lo_word t 3

theorem hi3 : val_main_v120 (F := Ideal) (ix1 t) = BitVec.ofNat 32 (min (t.val + half 3) 2048) :=
  hi_word t 3

/-! ## One channel group -/

section
variable (hx0 : ∀ i, ∃ r : ℝ, x0 i = (r : EReal)) (hx3 : ∀ i, ∃ r : ℝ, x3 i = (r : EReal))
include hx0 hx3

/-- The modulated rows are real numbers. -/
theorem real_rows (n : Nat) (hn : n < 2048) (k : Fin 1024) : ∃ r : ℝ, hrow x0 x3 b (n + 8) k = (r : EReal) := by
  unfold hrow modul
  rw [dif_pos ⟨by omega, by omega⟩]
  obtain ⟨p, hp⟩ := hx0 (ix3 b ⟨n + 8 - 8, by omega⟩ k)
  obtain ⟨q, hq⟩ := hx3 (ix4 1 ⟨b.val, by omega⟩ 0 ⟨k.val, by omega⟩)
  obtain ⟨s, hs⟩ := hx3 (ix4 1 ⟨b.val, by omega⟩ 0 ⟨1024 + k.val, by omega⟩)
  refine ⟨p * (1 + s) + q, ?_⟩
  simp only []
  rw [hp, hq, hs, Ideal.ofBits_one_f32, EReal.coe_add, EReal.coe_mul, EReal.coe_add, EReal.coe_one]

theorem group_apply (g : Fin 4) (k : Fin 1024) (q : Fin 256) (wf) (cg : (Seqs 2049 256).Idx → EReal)
    (hcg : ∀ n : Fin 2049, cg (ix3 b n q) = val_main_v18 x0 x3 (ix3 b n k)) (lo hi : IVec (Mat 2048 1) 32)
    (hlo : lo (ix2 t 0) = BitVec.ofNat 32 (t.val - half g)) (hhi : hi (ix2 t 0) = BitVec.ofNat 32 (min (t.val + half g) 2048)) :
    Host.gather (takeAt wf) cg hi (ix3 b t q) - Host.gather (takeAt wf) cg lo (ix3 b t q)
      = ∑ j ∈ Finset.range (2 * half g), hrow x0 x3 b (t.val + 8 - half g + j) k := by
  have ht := t.isLt
  rw [take_apply wf cg hi b t q ⟨min (t.val + half g) 2048, by omega⟩ hhi, take_apply wf cg lo b t q ⟨t.val - half g, by omega⟩ hlo, hcg, hcg, sums, sums]
  refine window_sum (fun n => hrow x0 x3 b n k) (fun n hn => real_rows x0 x3 b hx0 hx3 n hn k) (fun n hn => ?_) t.val (half g) ht (half_le g)
  show hrow x0 x3 b n k = 0
  unfold hrow
  rw [dif_neg (by omega)]

theorem pooled0 (q : Fin 256) (k : Fin 1024) (hk : k.val = 0 + q.val) : val_main_v50 x0 x3 (ix3 b t q) = pool (hrow x0 x3 b) t.val 0 k := by
  rw [val_main_v50_apply, val_main_v48_apply, val_main_v43_apply, val_main_v47_apply, val_main_v46_apply, val_main_v45_apply, val_main_v49_apply]
  unfold pool val_main_v35 val_main_v42
  refine congrArg₂ (· - ·) (congrArg₂ Ideal.div (group_apply x0 x3 b t hx0 hx3 0 k q _ (val_main_v28 x0 x3) (fun n => ?_) (val_main_v41 (F := Ideal))
    (val_main_v34 (F := Ideal)) ?_ ?_) (congrArg (fun z : ℤ => (((z : ℤ) : ℝ) : EReal)) ?_)) ?_
  · rw [val_main_v28_apply]
    exact congrArg _ (ix3_of rfl rfl (by first | exact hk.symm | (rw [hk]; simp [ix3])))
  · exact lo_wrap t 0 _ (lo0 t)
  · exact hi_wrap t 0 _ (hi0 t)
  · exact (congrArg BitVec.toInt (congrArg₂ IntOp.subi (hi0 t) (lo0 t))).trans (size_word t 0)
  · exact (congrArg _ (ix3_of rfl rfl (by first | exact hk.symm | (rw [hk]; simp [ix3])))).trans (rows x0 x3 b t k)

theorem pooled1 (q : Fin 256) (k : Fin 1024) (hk : k.val = 256 + q.val) : val_main_v81 x0 x3 (ix3 b t q) = pool (hrow x0 x3 b) t.val 1 k := by
  rw [val_main_v81_apply, val_main_v79_apply, val_main_v74_apply, val_main_v78_apply, val_main_v77_apply, val_main_v76_apply, val_main_v80_apply]
  unfold pool val_main_v66 val_main_v73
  refine congrArg₂ (· - ·) (congrArg₂ Ideal.div (group_apply x0 x3 b t hx0 hx3 1 k q _ (val_main_v59 x0 x3) (fun n => ?_) (val_main_v72 (F := Ideal))
    (val_main_v65 (F := Ideal)) ?_ ?_) (congrArg (fun z : ℤ => (((z : ℤ) : ℝ) : EReal)) ?_)) ?_
  · rw [val_main_v59_apply]
    exact congrArg _ (ix3_of rfl rfl (by first | exact hk.symm | (rw [hk]; simp [ix3])))
  · exact lo_wrap t 1 _ (lo1 t)
  · exact hi_wrap t 1 _ (hi1 t)
  · exact (congrArg BitVec.toInt (congrArg₂ IntOp.subi (hi1 t) (lo1 t))).trans (size_word t 1)
  · exact (congrArg _ (ix3_of rfl rfl (by first | exact hk.symm | (rw [hk]; simp [ix3])))).trans (rows x0 x3 b t k)

theorem pooled2 (q : Fin 256) (k : Fin 1024) (hk : k.val = 512 + q.val) : val_main_v112 x0 x3 (ix3 b t q) = pool (hrow x0 x3 b) t.val 2 k := by
  rw [val_main_v112_apply, val_main_v110_apply, val_main_v105_apply, val_main_v109_apply, val_main_v108_apply, val_main_v107_apply, val_main_v111_apply]
  unfold pool val_main_v97 val_main_v104
  refine congrArg₂ (· - ·) (congrArg₂ Ideal.div (group_apply x0 x3 b t hx0 hx3 2 k q _ (val_main_v90 x0 x3) (fun n => ?_) (val_main_v103 (F := Ideal))
    (val_main_v96 (F := Ideal)) ?_ ?_) (congrArg (fun z : ℤ => (((z : ℤ) : ℝ) : EReal)) ?_)) ?_
  · rw [val_main_v90_apply]
    exact congrArg _ (ix3_of rfl rfl (by first | exact hk.symm | (rw [hk]; simp [ix3])))
  · exact lo_wrap t 2 _ (lo2 t)
  · exact hi_wrap t 2 _ (hi2 t)
  · exact (congrArg BitVec.toInt (congrArg₂ IntOp.subi (hi2 t) (lo2 t))).trans (size_word t 2)
  · exact (congrArg _ (ix3_of rfl rfl (by first | exact hk.symm | (rw [hk]; simp [ix3])))).trans (rows x0 x3 b t k)

theorem pooled3 (q : Fin 256) (k : Fin 1024) (hk : k.val = 768 + q.val) : val_main_v143 x0 x3 (ix3 b t q) = pool (hrow x0 x3 b) t.val 3 k := by
  rw [val_main_v143_apply, val_main_v141_apply, val_main_v136_apply, val_main_v140_apply, val_main_v139_apply, val_main_v138_apply, val_main_v142_apply]
  unfold pool val_main_v128 val_main_v135
  refine congrArg₂ (· - ·) (congrArg₂ Ideal.div (group_apply x0 x3 b t hx0 hx3 3 k q _ (val_main_v121 x0 x3) (fun n => ?_) (val_main_v134 (F := Ideal))
    (val_main_v127 (F := Ideal)) ?_ ?_) (congrArg (fun z : ℤ => (((z : ℤ) : ℝ) : EReal)) ?_)) ?_
  · rw [val_main_v121_apply]
    exact congrArg _ (ix3_of rfl rfl (by first | exact hk.symm | (rw [hk]; simp [ix3])))
  · exact lo_wrap t 3 _ (lo3 t)
  · exact hi_wrap t 3 _ (hi3 t)
  · exact (congrArg BitVec.toInt (congrArg₂ IntOp.subi (hi3 t) (lo3 t))).trans (size_word t 3)
  · exact (congrArg _ (ix3_of rfl rfl (by first | exact hk.symm | (rw [hk]; simp [ix3])))).trans (rows x0 x3 b t k)

/-- The four groups' pooled rows, one below the other. -/
theorem stacked (g : Fin 4) (q : Fin 256) (k : Fin 1024) (hk : k.val = 256 * g.val + q.val) :
    val_main_v148 x0 x3 (ix4 b t g q) = pool (hrow x0 x3 b) t.val g k := by
  let f : Fin 4 → (S16x2048x1x256.Idx → EReal) := ![val_main_v144 x0 x3, val_main_v145 x0 x3, val_main_v146 x0 x3, val_main_v147 x0 x3]
  unfold val_main_v148
  refine (concatenate_ofFn_apply (t := S16x2048x4x256) (s₁ := S16x2048x1x256) 2 f _ rfl 1 rfl (ix4 b t g q) g (Nat.div_one _) (ix4 b t 0 q)
    (Nat.mod_one _).symm (fun a ha => ?_)).trans ?_
  · match a with
    | ⟨0, _⟩ | ⟨1, _⟩ | ⟨3, _⟩ => rfl
    | ⟨2, _⟩ => exact absurd rfl ha
  match g, hk with
  | 0, hk => exact ((val_main_v144_apply x0 x3 _).trans (congrArg _ (ix3_of rfl rfl rfl))).trans (pooled0 x0 x3 b t hx0 hx3 q k hk)
  | 1, hk => exact ((val_main_v145_apply x0 x3 _).trans (congrArg _ (ix3_of rfl rfl rfl))).trans (pooled1 x0 x3 b t hx0 hx3 q k hk)
  | 2, hk => exact ((val_main_v146_apply x0 x3 _).trans (congrArg _ (ix3_of rfl rfl rfl))).trans (pooled2 x0 x3 b t hx0 hx3 q k hk)
  | 3, hk => exact ((val_main_v147_apply x0 x3 _).trans (congrArg _ (ix3_of rfl rfl rfl))).trans (pooled3 x0 x3 b t hx0 hx3 q k hk)

/-- THE MIXER'S ROW. -/
theorem mixer (d : Fin 1024) : val_main_v154 x0 x1 x2 x3 (ix3 b t d)
    = mix (hrow x0 x3 b) (fun g q q' => x1 (ix4 0 g q q')) (fun k => x2 (ix2 0 k)) t.val d := by
  have hb := b.isLt
  have ht := t.isLt
  have hd := d.isLt
  rw [val_main_v154_apply, val_main_v151_apply, val_main_v150_apply, val_main_v149_apply, val_main_v153_apply, val_main_v152_apply, val_main_v15_apply]
  unfold mix
  refine congrArg₂ (· * ·) (Finset.sum_congr rfl fun q _ => (mul_comm _ _).trans (congrArg₂ (· * ·) ?_ ?_)) (congrArg x2 ?_)
  · refine (congrArg _ (ix4_of ?_ ?_ ?_ rfl)).trans (stacked x0 x3 b t hx0 hx3 (grp d) q _ rfl)
    · show ((b.val * 2048 + t.val) * 1024 + d.val) / 2097152 = b.val; omega
    · show ((b.val * 2048 + t.val) * 1024 + d.val) / 1024 % 2048 = t.val; omega
    · show ((b.val * 2048 + t.val) * 1024 + d.val) / 256 % 4 = d.val / 256; omega
  · rw [val_main_v14_apply]
    have hq := q.isLt
    have e1 : ((b.val * 2048 + t.val) * 1024 + d.val) / 256 % 4 = d.val / 256 := by omega
    have e2 : ((b.val * 2048 + t.val) * 1024 + d.val) % 256 = d.val % 256 := by omega
    refine congrArg x1 (ix4_of rfl ?_ ?_ ?_)
    · show ((((b.val * 2048 + t.val) * 1024 + d.val) / 256 % 4 * 256 + q.val) * 256 + ((b.val * 2048 + t.val) * 1024 + d.val) % 256) / 65536 % 4 = d.val / 256
      rw [e1, e2]; omega
    · show ((((b.val * 2048 + t.val) * 1024 + d.val) / 256 % 4 * 256 + q.val) * 256 + ((b.val * 2048 + t.val) * 1024 + d.val) % 256) / 256 % 256 = q.val
      rw [e1, e2]; omega
    · show ((((b.val * 2048 + t.val) * 1024 + d.val) / 256 % 4 * 256 + q.val) * 256 + ((b.val * 2048 + t.val) * 1024 + d.val) % 256) % 256 = d.val % 256
      rw [e1, e2]; omega
  · refine funext fun a => Fin.ext (match a with
      | ⟨0, _⟩ => rfl
      | ⟨1, _⟩ => Nat.mod_eq_of_lt hd)

end

end Cert.Proof.Pool.Ref

end
-- ==== Proof.Pool.Ref.lean ====
/- What the reference of the pooling program computes, read at an index: the layer of each row. -/
module

public import proofs.«01_k».proof.Proof.Pool.RefMix
public import proofs.«01_k».proof.Proof.Gen.PoolRefIdeal.Read

@[expose] public section

set_option maxRecDepth 16384

noncomputable section

namespace Cert.Proof.Pool.Ref

open Idealize.ShloMosaic hiding ix0 ix1 ix2 ix3 ix4 ix5 eq_ix1 eq_ix2 eq_ix3 eq_ix4 eq_ix5
open Idealize.ShloMosaic.ValueIdx
open Cert.PoolRefIdeal Cert.PoolRefIdeal.Read Cert.Post
open scoped BigOperators

variable (x0 : (⟨S16x2048x1024, .f32⟩ : BufTy).Contents (Elt Ideal)) (x1 : (⟨S1x4x256x256, .f32⟩ : BufTy).Contents (Elt Ideal))
  (x2 : (⟨S1x1024, .f32⟩ : BufTy).Contents (Elt Ideal)) (x3 : (⟨S2x24x1x6144, .f32⟩ : BufTy).Contents (Elt Ideal))
  (x4 x5 : (⟨S2x2x1024, .f32⟩ : BufTy).Contents (Elt Ideal)) (x6 : (⟨S2x1024x5632, .bf16⟩ : BufTy).Contents (Elt Ideal))
  (x7 : (⟨S2x2816x1024, .bf16⟩ : BufTy).Contents (Elt Ideal)) (b : Fin 16) (t : Fin 2048)

/-! ## The modulation's columns -/

theorem gate1 (k : Fin 1024) : val_main_v167 x3 (ix3 b t k) = x3 (ix4 1 ⟨b.val, by omega⟩ 0 ⟨2048 + k.val, by omega⟩) := by
  rw [val_main_v167_apply, val_main_v4_apply]
  exact (congrArg _ (ix3_of rfl rfl rfl)).trans (cond x3 b _)

theorem shift (k : Fin 1024) : val_main_v204 x3 (ix3 b t k) = x3 (ix4 1 ⟨b.val, by omega⟩ 0 ⟨3072 + k.val, by omega⟩) := by
  rw [val_main_v204_apply, val_main_v5_apply]
  exact (congrArg _ (ix3_of rfl rfl rfl)).trans (cond x3 b _)

theorem scale (k : Fin 1024) : val_main_v202 x3 (ix3 b t k)
    = Ideal.ofBits .f32 0x3F800000#32 + x3 (ix4 1 ⟨b.val, by omega⟩ 0 ⟨4096 + k.val, by omega⟩) := by
  rw [val_main_v202_apply, val_main_v201_apply, val_main_v200_apply, val_main_v6_apply]
  exact congrArg (_ + ·) ((congrArg _ (ix3_of rfl rfl rfl)).trans (cond x3 b _))

theorem gate2 (k : Fin 1024) : val_main_v212 x3 (ix3 b t k) = x3 (ix4 1 ⟨b.val, by omega⟩ 0 ⟨5120 + k.val, by omega⟩) := by
  rw [val_main_v212_apply, val_main_v7_apply]
  exact (congrArg _ (ix3_of rfl rfl rfl)).trans (cond x3 b _)

/-! ## The layer norms' rows and the feed-forward matrices -/

theorem gain0 (k : Fin 1024) : val_main_v193 x4 (ix3 b t k) = x4 (ix3 1 0 k) := by
  rw [val_main_v193_apply, val_main_v192_apply, val_main_v171_apply, val_main_v170_apply, val_main_v156_apply, val_main_v155_apply]
  refine congrArg x4 (ix3_of rfl ?_ ?_) <;> (simp [ix3]; try omega)

theorem bias0 (k : Fin 1024) : val_main_v196 x5 (ix3 b t k) = x5 (ix3 1 0 k) := by
  rw [val_main_v196_apply, val_main_v195_apply, val_main_v173_apply, val_main_v172_apply, val_main_v158_apply, val_main_v157_apply]
  refine congrArg x5 (ix3_of rfl ?_ ?_) <;> (simp [ix3]; try omega)

theorem gain1 (k : Fin 1024) : val_main_v238 x4 (ix3 b t k) = x4 (ix3 1 1 k) := by
  rw [val_main_v238_apply, val_main_v237_apply, val_main_v216_apply, val_main_v215_apply, val_main_v156_apply, val_main_v155_apply]
  refine congrArg x4 (ix3_of rfl ?_ ?_) <;> (simp [ix3]; try omega)

theorem bias1 (k : Fin 1024) : val_main_v241 x5 (ix3 b t k) = x5 (ix3 1 1 k) := by
  rw [val_main_v241_apply, val_main_v240_apply, val_main_v218_apply, val_main_v217_apply, val_main_v158_apply, val_main_v157_apply]
  refine congrArg x5 (ix3_of rfl ?_ ?_) <;> (simp [ix3]; try omega)

theorem first (k : Fin 1024) (j : Fin 5632) : val_main_v161 x6 (ix2 k j) = x6 (ix3 1 k j) := by
  rw [val_main_v161_apply, val_main_v160_apply, val_main_v159_apply]
  refine congrArg x6 (ix3_of rfl ?_ ?_)
  · show (k.val * 5632 + j.val) / 5632 % 1024 = k.val; omega
  · show (k.val * 5632 + j.val) % 5632 = j.val; omega

theorem second (j : Fin 2816) (d : Fin 1024) : val_main_v164 x7 (ix2 j d) = x7 (ix3 1 j d) := by
  rw [val_main_v164_apply, val_main_v163_apply, val_main_v162_apply]
  refine congrArg x7 (ix3_of rfl ?_ ?_)
  · show (j.val * 1024 + d.val) / 1024 % 2816 = j.val; omega
  · show (j.val * 1024 + d.val) % 1024 = d.val; omega

/-! ## The first residual and its norm -/

theorem resid0 (hx0 : ∀ i, ∃ r : ℝ, x0 i = (r : EReal)) (hx3 : ∀ i, ∃ r : ℝ, x3 i = (r : EReal)) (k : Fin 1024) : val_main_v169 x0 x1 x2 x3 (ix3 b t k) = Ideal.ofBits .f32 0x3FB504F3#32 * x0 (ix3 b t k)
    + x3 (ix4 1 ⟨b.val, by omega⟩ 0 ⟨2048 + k.val, by omega⟩) * mix (hrow x0 x3 b) (fun g q q' => x1 (ix4 0 g q q')) (fun k => x2 (ix2 0 k)) t.val k := by
  rw [val_main_v169_apply, val_main_v168_apply, gate1, mixer x0 x1 x2 x3 b t hx0 hx3, val_main_v166_apply, val_main_v165_apply]
  rfl

theorem mean0 : val_main_v177 x0 x1 x2 x3 (ix3 b t 0) = mean (fun k => val_main_v169 x0 x1 x2 x3 (ix3 b t k)) := by
  rw [val_main_v177_apply, val_main_v175_apply, val_main_v174_apply]
  refine congrArg (Ideal.div · _) ?_
  show Ideal.ofBits .f32 0x00000000#32 + _ = _
  rw [Ideal.ofBits_zero_f32, zero_add]
  exact Finset.sum_congr rfl fun k _ => congrArg _ (ix3_of rfl rfl rfl)

theorem dev0 (k : Fin 1024) : val_main_v179 x0 x1 x2 x3 (ix3 b t k) = dev (fun k => val_main_v169 x0 x1 x2 x3 (ix3 b t k)) k := by
  rw [val_main_v179_apply, val_main_v178_apply]
  exact congrArg (_ - ·) ((congrArg _ (ix3_of rfl rfl rfl)).trans (mean0 x0 x1 x2 x3 b t))

theorem var0 : val_main_v184 x0 x1 x2 x3 (ix3 b t 0)
    = mean (fun k => dev (fun k => val_main_v169 x0 x1 x2 x3 (ix3 b t k)) k * dev (fun k => val_main_v169 x0 x1 x2 x3 (ix3 b t k)) k) := by
  rw [val_main_v184_apply, val_main_v182_apply, val_main_v181_apply]
  refine congrArg (Ideal.div · _) ?_
  show Ideal.ofBits .f32 0x00000000#32 + _ = _
  rw [Ideal.ofBits_zero_f32, zero_add]
  refine Finset.sum_congr rfl fun k _ => (congrArg _ (ix3_of (a := b) (b := t) (c := k) rfl rfl rfl)).trans ?_
  rw [val_main_v180_apply, dev0]
  rfl

theorem norm0 (k : Fin 1024) : val_main_v197 x0 x1 x2 x3 x4 x5 (ix3 b t k)
    = lnorm (fun k => val_main_v169 x0 x1 x2 x3 (ix3 b t k)) (fun k => x4 (ix3 1 0 k)) (fun k => x5 (ix3 1 0 k)) k := by
  rw [val_main_v197_apply, val_main_v194_apply, val_main_v191_apply, gain0, bias0, val_main_v190_apply, val_main_v189_apply, val_main_v188_apply]
  unfold lnorm
  refine congrArg (· + _) (congrArg (· * _) (congrArg₂ (· * ·) (dev0 x0 x1 x2 x3 b t k) ?_))
  refine congrArg (fun z => Ideal.rsqrt (z + _)) ?_
  exact (congrArg _ (ix3_of rfl rfl rfl)).trans (var0 x0 x1 x2 x3 b t)

/-! ## The feed-forward product -/

theorem modul0 (k : Fin 1024) : val_main_v205 x0 x1 x2 x3 x4 x5 (ix3 b t k) = modul (fun k => val_main_v197 x0 x1 x2 x3 x4 x5 (ix3 b t k))
    (fun k => x3 (ix4 1 ⟨b.val, by omega⟩ 0 ⟨3072 + k.val, by omega⟩)) (fun k => x3 (ix4 1 ⟨b.val, by omega⟩ 0 ⟨4096 + k.val, by omega⟩)) k := by
  rw [val_main_v205_apply, val_main_v203_apply, scale, shift]
  rfl

theorem columns (j : Fin 5632) : val_main_v206 x0 x1 x2 x3 x4 x5 x6 (ix3 b t j)
    = ∑ k : Fin 1024, val_main_v205 x0 x1 x2 x3 x4 x5 (ix3 b t k) * x6 (ix3 1 k j) := by
  rw [val_main_v206_apply]
  refine Finset.sum_congr rfl fun k _ => congrArg₂ (· * ·) (congrArg _ (ix3_of rfl rfl rfl)) (Eq.trans ?_ (first x6 k j))
  refine congrArg _ (funext fun q => Fin.ext (match q with
    | ⟨0, _⟩ => rfl
    | ⟨1, _⟩ => rfl))

theorem activ (j : Fin 2816) : val_main_v210 x0 x1 x2 x3 x4 x5 x6 (ix3 b t j)
    = gated (fun k => val_main_v205 x0 x1 x2 x3 x4 x5 (ix3 b t k)) (fun k j => x6 (ix3 1 k j)) j := by
  have e1 : val_main_v207 x0 x1 x2 x3 x4 x5 x6 (ix3 b t j) = ∑ k : Fin 1024, val_main_v205 x0 x1 x2 x3 x4 x5 (ix3 b t k) * x6 (ix3 1 k ⟨j.val, by omega⟩) := by
    rw [val_main_v207_apply]
    exact (congrArg _ (ix3_of rfl rfl rfl)).trans (columns x0 x1 x2 x3 x4 x5 x6 b t _)
  have e2 : val_main_v208 x0 x1 x2 x3 x4 x5 x6 (ix3 b t j) = ∑ k : Fin 1024, val_main_v205 x0 x1 x2 x3 x4 x5 (ix3 b t k) * x6 (ix3 1 k ⟨2816 + j.val, by omega⟩) := by
    rw [val_main_v208_apply]
    exact (congrArg _ (ix3_of rfl rfl rfl)).trans (columns x0 x1 x2 x3 x4 x5 x6 b t _)
  unfold gated silu
  rw [← e1, ← e2, val_main_v210_apply]
  rfl

theorem ffn (d : Fin 1024) : val_main_v211 x0 x1 x2 x3 x4 x5 x6 x7 (ix3 b t d)
    = ∑ j : Fin 2816, gated (fun k => val_main_v205 x0 x1 x2 x3 x4 x5 (ix3 b t k)) (fun k j => x6 (ix3 1 k j)) j * x7 (ix3 1 j d) := by
  rw [val_main_v211_apply]
  refine Finset.sum_congr rfl fun j _ => congrArg₂ (· * ·) ((congrArg _ (ix3_of rfl rfl rfl)).trans (activ x0 x1 x2 x3 x4 x5 x6 b t j)) (Eq.trans ?_ (second x7 j d))
  refine congrArg _ (funext fun q => Fin.ext (match q with
    | ⟨0, _⟩ => rfl
    | ⟨1, _⟩ => rfl))

/-! ## The second residual and its norm -/

theorem resid1 (k : Fin 1024) : val_main_v214 x0 x1 x2 x3 x4 x5 x6 x7 (ix3 b t k)
    = Ideal.ofBits .f32 0x3FB504F3#32 * val_main_v197 x0 x1 x2 x3 x4 x5 (ix3 b t k)
      + x3 (ix4 1 ⟨b.val, by omega⟩ 0 ⟨5120 + k.val, by omega⟩) * val_main_v211 x0 x1 x2 x3 x4 x5 x6 x7 (ix3 b t k) := by
  rw [val_main_v214_apply, val_main_v213_apply, gate2, val_main_v199_apply, val_main_v198_apply]
  rfl

theorem mean1 : val_main_v222 x0 x1 x2 x3 x4 x5 x6 x7 (ix3 b t 0) = mean (fun k => val_main_v214 x0 x1 x2 x3 x4 x5 x6 x7 (ix3 b t k)) := by
  rw [val_main_v222_apply, val_main_v220_apply, val_main_v219_apply]
  refine congrArg (Ideal.div · _) ?_
  show Ideal.ofBits .f32 0x00000000#32 + _ = _
  rw [Ideal.ofBits_zero_f32, zero_add]
  exact Finset.sum_congr rfl fun k _ => congrArg _ (ix3_of rfl rfl rfl)

theorem dev1 (k : Fin 1024) : val_main_v224 x0 x1 x2 x3 x4 x5 x6 x7 (ix3 b t k) = dev (fun k => val_main_v214 x0 x1 x2 x3 x4 x5 x6 x7 (ix3 b t k)) k := by
  rw [val_main_v224_apply, val_main_v223_apply]
  exact congrArg (_ - ·) ((congrArg _ (ix3_of rfl rfl rfl)).trans (mean1 x0 x1 x2 x3 x4 x5 x6 x7 b t))

theorem var1 : val_main_v229 x0 x1 x2 x3 x4 x5 x6 x7 (ix3 b t 0)
    = mean (fun k => dev (fun k => val_main_v214 x0 x1 x2 x3 x4 x5 x6 x7 (ix3 b t k)) k * dev (fun k => val_main_v214 x0 x1 x2 x3 x4 x5 x6 x7 (ix3 b t k)) k) := by
  rw [val_main_v229_apply, val_main_v227_apply, val_main_v226_apply]
  refine congrArg (Ideal.div · _) ?_
  show Ideal.ofBits .f32 0x00000000#32 + _ = _
  rw [Ideal.ofBits_zero_f32, zero_add]
  refine Finset.sum_congr rfl fun k _ => (congrArg _ (ix3_of (a := b) (b := t) (c := k) rfl rfl rfl)).trans ?_
  rw [val_main_v225_apply, dev1]
  rfl

theorem norm1 (k : Fin 1024) : val_main_v242 x0 x1 x2 x3 x4 x5 x6 x7 (ix3 b t k)
    = lnorm (fun k => val_main_v214 x0 x1 x2 x3 x4 x5 x6 x7 (ix3 b t k)) (fun k => x4 (ix3 1 1 k)) (fun k => x5 (ix3 1 1 k)) k := by
  rw [val_main_v242_apply, val_main_v239_apply, val_main_v236_apply, gain1, bias1, val_main_v235_apply, val_main_v234_apply, val_main_v233_apply]
  unfold lnorm
  refine congrArg (· + _) (congrArg (· * _) (congrArg₂ (· * ·) (dev1 x0 x1 x2 x3 x4 x5 x6 x7 b t k) ?_))
  refine congrArg (fun z => Ideal.rsqrt (z + _)) ?_
  exact (congrArg _ (ix3_of rfl rfl rfl)).trans (var1 x0 x1 x2 x3 x4 x5 x6 x7 b t)

/-- THE REFERENCE, read at an index. -/
theorem value (hx0 : ∀ i, ∃ r : ℝ, x0 i = (r : EReal)) (hx3 : ∀ i, ∃ r : ℝ, x3 i = (r : EReal)) (d : Fin 1024) : val_main_v242 x0 x1 x2 x3 x4 x5 x6 x7 (ix3 b t d) = poolRow x0 x1 x2 x3 x4 x5 x6 x7 b t d := by
  rw [norm1]
  simp only [resid1, ffn, modul0, norm0, resid0 x0 x1 x2 x3 b t hx0 hx3]
  rfl

end Cert.Proof.Pool.Ref

end
-- ==== Proof.Pool.Claim.lean ====
/- The pooling layer's program and its reference end with the same array. -/
module

public import proofs.«01_k».proof.Defs
public import proofs.«01_k».proof.Proof.Pool.Ref
public import proofs.«01_k».proof.Proof.Pool.Pre
public import proofs.«01_k».proof.Proof.Gen.PoolRefIdeal.Run

@[expose] public section

noncomputable section

namespace Cert.Proof.Pool

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem

/-- The common result, of the arguments as launched. -/
def result (m : (ℓ : Loc Cert.PoolIdeal.nD Cert.PoolIdeal.τ Cert.PoolIdeal.sig) → Buf (Elt Ideal) ℓ) (c : Dev Cert.PoolIdeal.nD) :
    Buf (Elt Ideal) ((c.tc : Thread Cert.PoolIdeal.nD Cert.PoolIdeal.τ).loc Cert.PoolIdeal.main_v1) :=
  fun i : Cert.PoolIdeal.S16x2048x1024.Idx =>
    poolRow (m ((c.tc : Thread Cert.PoolIdeal.nD Cert.PoolIdeal.τ).loc Cert.PoolIdeal.main_arg0))
      (m ((c.tc : Thread Cert.PoolIdeal.nD Cert.PoolIdeal.τ).loc Cert.PoolIdeal.main_arg1))
      (m ((c.tc : Thread Cert.PoolIdeal.nD Cert.PoolIdeal.τ).loc Cert.PoolIdeal.main_arg2))
      (m ((c.tc : Thread Cert.PoolIdeal.nD Cert.PoolIdeal.τ).loc Cert.PoolIdeal.main_arg3))
      (m ((c.tc : Thread Cert.PoolIdeal.nD Cert.PoolIdeal.τ).loc Cert.PoolIdeal.main_arg4))
      (m ((c.tc : Thread Cert.PoolIdeal.nD Cert.PoolIdeal.τ).loc Cert.PoolIdeal.main_arg5))
      (m ((c.tc : Thread Cert.PoolIdeal.nD Cert.PoolIdeal.τ).loc Cert.PoolIdeal.main_arg6))
      (m ((c.tc : Thread Cert.PoolIdeal.nD Cert.PoolIdeal.τ).loc Cert.PoolIdeal.main_arg7)) (i 0) (i 1) (i 2)

theorem kernel_eq (m) (c : Dev Cert.PoolIdeal.nD) :
    (Cert.PoolIdeal.Gen.dats (F := Ideal) m 0 c).arrAt 15 Cert.PoolIdeal.cfg0.N = result m c := by
  refine (final m c).trans ?_
  rw [Cert.PoolIdeal.Gen.V_main_arg0, V_main_v0, Cert.PoolIdeal.Gen.V_main_arg2, Cert.PoolIdeal.Gen.V_main_arg3, Cert.PoolIdeal.Gen.V_main_arg4,
    Cert.PoolIdeal.Gen.V_main_arg5, Cert.PoolIdeal.Gen.V_main_arg6, Cert.PoolIdeal.Gen.V_main_arg7]
  rfl

/-- THE VALUE CLAIM of the pooling layer's program. -/
theorem claim : Cert.algebraic_PoolIdeal_PoolRefIdeal_pre_finite_pool (hPoolIdeal := Cert.PoolIdeal.Gen.facts) (hPoolRefIdeal := Cert.PoolRefIdeal.Gen.facts) (hPre_finite_pool := preFacts) := by
  intro m g m' g' hpre hag
  refine ⟨result m, (θ_run _ _ _).mono (fun r h c => ⟨(h c).1.trans (kernel_eq m c), (h c).2⟩) (Cert.PoolIdeal.Value.run_blocks m g),
    (θ_run _ _ _).mono (fun r h c => ⟨(h c).1.trans ?_, (h c).2⟩) (Cert.PoolRefIdeal.Value.run m' g')⟩
  refine (Cert.PoolRefIdeal.Read.val_main_v242_eq (F := Ideal) _).trans ?_
  funext i
  obtain ⟨b, t, d, rfl⟩ : ∃ b t d, i = ix3 b t d := ⟨i 0, i 1, i 2, eq_ix3 i⟩
  obtain ⟨h0, h1, h2, h3, h4, h5, h6, h7⟩ := hag c
  have hr := @pre_real preFacts m hpre c
  rw [← h0, ← h3] at hr
  refine (Ref.value _ _ _ _ _ _ _ _ b t hr.1 hr.2 d).trans ?_
  simp only [StableHlo.launchContents_devRef]
  unfold result
  rw [← h0, ← h1, ← h2, ← h3, ← h4, ← h5, ← h6, ← h7]

end Cert.Proof.Pool

end
-- ==== Proof.Attn.Block.lean ====
/- The attention program: what one block of the result holds, as the tiles of 128 queries a head. -/
module

public import proofs.«01_k».proof.Proof.Pool.Group
public import proofs.«01_k».proof.Proof.Gen.KernelIdeal.Frame

@[expose] public section

set_option maxRecDepth 16384

noncomputable section

namespace Cert.Proof.Attn

open Idealize.ShloMosaic hiding ix0 ix1 ix2 ix3 ix4 ix5 eq_ix1 eq_ix2 eq_ix3 eq_ix4 eq_ix5
open Idealize.ShloMosaic.ValueIdx Idealize.ShloMosaic.TcCoe Idealize.ShloMosaic.Tactic
open Cert.KernelIdeal Cert.KernelIdeal.Gen Cert.Post
open scoped BigOperators
variable {F : FTy → Type} [FloatOps F]
variable (m : (ℓ : Loc nD τ sig) → Buf (Elt F) ℓ) (ρ : Dev nD → PrngReg)

/-- The `a` by `b` part of a slab of `p` by `q` from row `o`, column `l` on. -/
abbrev cut (p q a b o l : Nat) (h : o + a ≤ p ∧ l + b ≤ q) : Rect (Slab p q) :=
  Rect.unit (s := Slab p q) ![0, o, l] (Slab a b).size (fun i => match i with | ⟨0, _⟩ => le_refl 1 | ⟨1, _⟩ => h.1 | ⟨2, _⟩ => h.2)

/-- One tile, of the keys, the values over the row of ones, and the queries of its head. -/
def scoresV (key : FVec F S2304x128 .bf16) (q : Vec F S1x128x128 .bf16) : FVec F S2304x256 .f32 := k0_pay14 k0_pay4 key q
def probsV (s : FVec F S2304x256 .f32) : FVec F S2304x256 .bf16 := k0_pay32 (shapeCast S2304x256 s shapeCasts_S2304x256_S2304x256) (k0_pay13 s)
def finishV (lam : FVec F S1x1 .f32) (gain : FVec F S128x1 .f32) (val : FVec F S144x2304 .bf16) (p : FVec F S2304x256 .bf16) : FVec F S1x128x128 .bf16 :=
  k0_pay35 gain (k0_pay33 lam val p) (k0_pay34 lam val p)

section
variable (x0 : Vec F S1x4x64 .f32) (x1 : Vec F S128x1 .f32) (x2 x3 : Vec F S1x2048x256 .bf16) (x4 : Vec F S1x256x256 .bf16) (x5 : Vec F S1x256x2048 .bf16)
  (x6 : Vec F S1x256x256 .bf16)

def lamV : FVec F S1x1 .f32 := k0_pay2 (View.ld x0 (Rect.unit (s := S1x4x64) ![0, 0, 0] S1x4x64.size (by decide)))
def gainV : FVec F S128x1 .f32 := k0_pay3 (View.ld x1 (Rect.unit (s := S128x1) ![0, 0] S128x1.size (by decide)))
/-- The keys of one head: the latent rows, then the context's. -/
def keyV (hd : Fin 2) : FVec F S2304x128 .bf16 :=
  k0_pay9 (View.ld x3 (cut 2048 256 2048 128 0 (128 * hd.val) (by omega))) (View.ld x4 (cut 256 256 256 128 0 (128 * hd.val) (by omega)))
/-- The values of one head by columns, over sixteen rows of which the first is ones. -/
def valueV (hd : Fin 2) : FVec F S144x2304 .bf16 :=
  k0_pay10 k0_pay5 (View.ld x5 (cut 256 2048 128 2048 (128 * hd.val) 0 (by omega))) (View.ld x6 (cut 256 256 128 256 (128 * hd.val) 0 (by omega)))
def tileV (hd : Fin 2) (r : Fin 16) : FVec F S1x128x128 .bf16 :=
  finishV (lamV x0) (gainV x1) (valueV x5 x6 hd) (probsV (scoresV (keyV x3 x4 hd) (View.ld x2 (cut 2048 256 128 128 (128 * r.val) (128 * hd.val) (by omega)))))

/-- The tile as the piece of the block it is stored to. -/
def pieceV (hd : Fin 2) (r : Fin 16) : View.Piece (Elt F) S1x2048x256 .bf16 :=
  ⟨cut 2048 256 128 128 (128 * r.val) (128 * hd.val) (by omega), tileV x0 x1 x2 x3 x4 x5 x6 hd r⟩

def piecesV : List (View.Piece (Elt F) S1x2048x256 .bf16) :=
  ([1, 0] : List (Fin 2)).flatMap fun hd => ([15, 14, 13, 12, 11, 10, 9, 8, 7, 6, 5, 4, 3, 2, 1, 0] : List (Fin 16)).map fun r => pieceV x0 x1 x2 x3 x4 x5 x6 hd r
end

theorem readCov_last {sg : RefSig} {κ : Kind} {sp : Space} {a b : Nat} {e : EltTy} (v : View sg κ sp (⟨2, ![a, b]⟩ : Shape) e)
    (h h' : ∀ i, (![0, 0] : Fin 2 → Nat) i + (![a, b] : Fin 2 → Nat) i ≤ (⟨2, ![a, b]⟩ : Shape).size i) (w : (⟨2, ![a, b]⟩ : Shape).Idx → Elt F e) (L : List (View.Piece (Elt F) ⟨2, ![a, b]⟩ e)) :
    v.readCov ((⟨Rect.unit (s := ⟨2, ![a, b]⟩) ![0, 0] ![a, b] h, w⟩ : View.Piece (Elt F) ⟨2, ![a, b]⟩ e) :: L)
      (Rect.unit (s := ⟨2, ![a, b]⟩) ![0, 0] ![a, b] h').toLoadRect = w :=
  View.readCov_cons_unit_lit' v h h' w L (Fin.forall_fin_two.2 ⟨rfl, rfl⟩) (Fin.forall_fin_two.2 ⟨rfl, rfl⟩)

set_option maxHeartbeats 4000000 in
theorem block_eq (c : Dev nD) (t : Fin cfg0.N) : outsAt0 m c t =
    View.canon (piecesV (iblk m c 0 t) (iblk m c 1 t) (iblk m c 2 t) (iblk m c 3 t) (iblk m c 4 t) (iblk m c 5 t) (iblk m c 6 t)) := by
  unfold outsAt0 out0_A_7
  rw [View.read_writes_eq_canon _ _ _ (cover0_A_7 c _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, readCov_last, (hs0_0 t).read_unread, (hs0_1 t).read_unread, (hs0_2 t).read_unread, (hs0_3 t).read_unread, (hs0_4 t).read_unread, (hs0_5 t).read_unread, (hs0_6 t).read_unread]
  refine congrArg View.canon ?_
  unfold piecesV
  simp only [List.flatMap_cons, List.flatMap_nil, List.map_cons, List.map_nil, List.cons_append, List.nil_append]
  repeat' refine congrArg₂ List.cons ?_ ?_
  all_goals rfl

end Cert.Proof.Attn
-- ==== Proof.Attn.Core.lean ====
/- The difference of two softmaxes over the reals: weights taken as powers of two over any reference points, divided after the
   product with the values, are the softmaxes' own. -/
module

public import Idealize.ShloMosaic.PureOps.Ideal
public import Idealize.ShloMosaic.PureOps.Ideal.Laws

@[expose] public section

noncomputable section

namespace Cert.Proof.Attn

open Idealize.ShloMosaic
open scoped BigOperators

variable {ι : Type} [Fintype ι]

theorem coe_sum (r : ι → ℝ) : ((∑ j, r j : ℝ) : EReal) = ∑ j, (r j : EReal) :=
  map_sum (⟨⟨fun r : ℝ => (r : EReal), EReal.coe_zero⟩, EReal.coe_add⟩ : ℝ →+ EReal) r Finset.univ

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- A normalised weight. -/
def weight (x : ι → ℝ) (j : ι) : ℝ := (2 : ℝ) ^ x j / ∑ k, (2 : ℝ) ^ x k

/-- The values under the difference of the two distributions. -/
def mixed (x0 x1 v : ι → ℝ) (lam : ℝ) : ℝ := ∑ j, v j * (weight x0 j - lam * weight x1 j)

section
variable [Nonempty ι]

theorem sum_pos (x : ι → ℝ) : 0 < ∑ k, (2 : ℝ) ^ x k :=
  Finset.sum_pos (fun _ _ => Real.rpow_pos_of_pos two_pos _) Finset.univ_nonempty

theorem shifted (x : ι → ℝ) (M : ℝ) (j : ι) : (2 : ℝ) ^ (x j - M) / ∑ k, (2 : ℝ) ^ (x k - M) = weight x j := by
  have h : (2 : ℝ) ^ M ≠ 0 := (Real.rpow_pos_of_pos two_pos _).ne'
  unfold weight
  simp only [Real.rpow_sub two_pos]
  rw [← Finset.sum_div, div_div_div_cancel_right₀ h]

/-- One half of the kernel's: the product with the values first, then the division. -/
theorem half_kernel (x v : ι → ℝ) (M t : ℝ) :
    (∑ j, (v j : EReal) * Ideal.exp2 ((x j : EReal) - (M : EReal))) * Ideal.div (t : EReal) (∑ j, (1 : EReal) * Ideal.exp2 ((x j : EReal) - (M : EReal)))
      = ((t * ∑ j, v j * weight x j : ℝ) : EReal) := by
  have e : ∀ j, Ideal.exp2 ((x j : EReal) - (M : EReal)) = (((2 : ℝ) ^ (x j - M) : ℝ) : EReal) := fun j => by rw [← EReal.coe_sub]; rfl
  simp only [e, one_mul, ← EReal.coe_mul, ← coe_sum]
  have hpos := sum_pos fun j => x j - M
  rw [div_coe _ _ hpos.ne', ← EReal.coe_mul]
  congr 1
  simp only [← shifted x M]
  simp only [mul_div_assoc', ← Finset.sum_div]
  ring

theorem head_kernel (x0 x1 v : ι → ℝ) (M0 M1 lam : ℝ) :
    (∑ j, (v j : EReal) * Ideal.exp2 ((x0 j : EReal) - (M0 : EReal))) * Ideal.div 1 (∑ j, (1 : EReal) * Ideal.exp2 ((x0 j : EReal) - (M0 : EReal)))
      - (∑ j, (v j : EReal) * Ideal.exp2 ((x1 j : EReal) - (M1 : EReal))) * Ideal.div (lam : EReal) (∑ j, (1 : EReal) * Ideal.exp2 ((x1 j : EReal) - (M1 : EReal)))
      = ((mixed x0 x1 v lam : ℝ) : EReal) := by
  have h0 := half_kernel x0 v M0 1
  rw [EReal.coe_one] at h0
  rw [h0, half_kernel x1 v M1 lam, ← EReal.coe_sub]
  congr 1
  unfold mixed
  rw [one_mul, Finset.mul_sum, ← Finset.sum_sub_distrib]
  exact Finset.sum_congr rfl fun j _ => by ring

/-- A softmax entry of scores in natural units. -/
theorem soft_ref (x : ι → ℝ) (N : ℝ) (j : ι) :
    Ideal.div (Ideal.exp (((Real.log 2 * x j : ℝ) : EReal) - (N : EReal))) (∑ k, Ideal.exp (((Real.log 2 * x k : ℝ) : EReal) - (N : EReal)))
      = ((weight x j : ℝ) : EReal) := by
  have e : ∀ j, Ideal.exp (((Real.log 2 * x j : ℝ) : EReal) - (N : EReal)) = (((2 : ℝ) ^ (x j - N / Real.log 2) : ℝ) : EReal) := fun j => by
    rw [← EReal.coe_sub, Real.rpow_def_of_pos two_pos, mul_sub, mul_div_cancel₀ _ (Real.log_pos one_lt_two).ne']
    rfl
  simp only [e, ← coe_sum]
  rw [div_coe _ _ (sum_pos fun j => x j - N / Real.log 2).ne', shifted]

end

theorem head_ref (x0 x1 v : ι → ℝ) (lam : ℝ) :
    ∑ j, (v j : EReal) * ((weight x0 j : EReal) - (lam : EReal) * (weight x1 j : EReal)) = ((mixed x0 x1 v lam : ℝ) : EReal) := by
  simp only [← EReal.coe_mul, ← EReal.coe_sub, ← coe_sum]
  rfl

/-- The same under another order of the keys. -/
theorem mixed_equiv {κ : Type} [Fintype κ] (f : κ ≃ ι) (x0 x1 v : ι → ℝ) (lam : ℝ) :
    mixed (fun j => x0 (f j)) (fun j => x1 (f j)) (fun j => v (f j)) lam = mixed x0 x1 v lam := by
  unfold mixed weight
  rw [← Equiv.sum_comp f, Equiv.sum_comp f fun k => (2 : ℝ) ^ x0 k, Equiv.sum_comp f fun k => (2 : ℝ) ^ x1 k]

/-! ## A maximum of reals is real -/

theorem fold_real {α : Type} (f : α → EReal) (hf : ∀ a, ∃ r : ℝ, f a = r) : ∀ (l : List α) (z : EReal), (∃ r : ℝ, z = r) →
    ∃ r : ℝ, l.foldl (fun s a => max s (f a)) z = r
  | [], z, hz => hz
  | a :: l, z, hz => fold_real f hf l _ (by
      obtain ⟨r, rfl⟩ := hz
      obtain ⟨s, hs⟩ := hf a
      exact ⟨max r s, by simp only [hs, EReal.coe_strictMono.monotone.map_max]⟩)

theorem fold_bot_real {α : Type} (f : α → EReal) (hf : ∀ a, ∃ r : ℝ, f a = r) (l : List α) (hl : l ≠ []) :
    ∃ r : ℝ, l.foldl (fun s a => max s (f a)) ⊥ = r := by
  cases l with
  | nil => exact absurd rfl hl
  | cons a l =>
    refine fold_real f hf l _ ?_
    obtain ⟨s, hs⟩ := hf a
    exact ⟨s, by simp only [hs]; exact max_eq_right bot_le⟩

end Cert.Proof.Attn

end
-- ==== Proof.Attn.Spec.lean ====
/- The attention of one query row and head, as plain arithmetic: two score vectors, the difference of their softmaxes over the
   values, and the row's own root-mean-square norm with a gain. -/
module

public import Idealize.ShloMosaic.Lib.ValueIdx
public import proofs.«01_k».proof.Proof.Attn.Core
public import proofs.«01_k».proof.Proof.Post.Consts

@[expose] public section

noncomputable section

namespace Cert.Proof.Attn

open Idealize.ShloMosaic
open Idealize.ShloMosaic.ValueIdx
open scoped BigOperators

/-- Lane `d` of half `u` of a head. -/
def lane (u : Fin 2) (d : Fin 64) : Fin 128 := ⟨64 * u.val + d.val, by omega⟩

/-- The score of a query and a key in one half of a head. -/
def score (q k : Fin 128 → ℝ) (u : Fin 2) : ℝ := ∑ d, k (lane u d) * q (lane u d)

/-- Latent entries, then the context's. -/
def join {α : Type} (lat : Fin 2048 → α) (ctx : Fin 256 → α) (j : Fin 2304) : α :=
  if h : j.val < 2048 then lat ⟨j.val, h⟩ else ctx ⟨j.val - 2048, by omega⟩

/-- A head's output for one query, before its norm. -/
def head (q : Fin 128 → ℝ) (k : Fin 2304 → Fin 128 → ℝ) (v : Fin 128 → Fin 2304 → ℝ) (lam : ℝ) (e : Fin 128) : ℝ :=
  mixed (fun j => score q (k j) 0) (fun j => score q (k j) 1) (v e) lam

/-- The root-mean-square norm of a row of 128 numbers, with a gain. -/
def normed (o g : Fin 128 → EReal) (e : Fin 128) : EReal :=
  o e * Ideal.rsqrt (Ideal.div (∑ k, o k * o k) (Ideal.ofBits .f32 0x43000000#32) + Ideal.ofBits .f32 0x3727C5AC#32)
    * (g e * Ideal.ofBits .f32 0x3F4CCCCD#32)

/-- The weight of the second distribution. -/
def lambda (l : Fin 4 → Fin 64 → EReal) : EReal :=
  Ideal.exp (∑ d, l 0 d * l 1 d) - Ideal.exp (∑ d, l 2 d * l 3 d) + Ideal.ofBits .f32 0x3E4CCCCD#32

theorem lambda_real (l : Fin 4 → Fin 64 → EReal) (hl : ∀ i d, ∃ r : ℝ, l i d = r) : ∃ r : ℝ, lambda l = r := by
  choose r hr using hl
  obtain rfl : l = fun i d => (r i d : EReal) := funext fun i => funext fun d => hr i d
  obtain ⟨z, hz⟩ := Cert.Post.ofBits_fifth_real
  unfold lambda
  rw [hz]
  simp only [← EReal.coe_mul, ← coe_sum]
  exact ⟨Real.exp (∑ d, r 0 d * r 1 d) - Real.exp (∑ d, r 2 d * r 3 d) + z, by rw [EReal.coe_add, EReal.coe_sub]; rfl⟩

/-- A sum over 128 lanes by halves. -/
theorem sum_lanes (f : Fin 128 → EReal) : ∑ k, f k = ∑ d, f (lane 0 d) + ∑ d, f (lane 1 d) := by
  refine (Fin.sum_univ_add (a := 64) (b := 64) f).trans (congrArg₂ (· + ·) (Finset.sum_congr rfl fun d _ => congrArg f ?_) (Finset.sum_congr rfl fun d _ => congrArg f ?_))
  · exact Fin.ext (by show d.val = 64 * 0 + d.val; omega)
  · exact Fin.ext (by show 64 + d.val = 64 * 1 + d.val; omega)

/-- Channel `k` of head `h`. -/
def chan (h : Fin 8) (k : Fin 128) : Fin 1024 := ⟨128 * h.val + k.val, by omega⟩

/-- The normed output of head `h` for query row `s` of sequence `b`. -/
def attnRow (q kl : (⟨3, ![16, 2048, 1024]⟩ : Shape).Idx → ℝ) (kc : (⟨3, ![16, 256, 1024]⟩ : Shape).Idx → ℝ)
    (vl : (⟨3, ![16, 1024, 2048]⟩ : Shape).Idx → ℝ) (vc : (⟨3, ![16, 1024, 256]⟩ : Shape).Idx → ℝ) (lam : ℝ) (g : Fin 128 → EReal)
    (b : Fin 16) (s : Fin 2048) (h : Fin 8) (e : Fin 128) : EReal :=
  normed (fun e => (head (fun d => q (ix3 b s (chan h d)))
    (fun j d => join (fun j => kl (ix3 b j (chan h d))) (fun j => kc (ix3 b j (chan h d))) j)
    (fun e => join (fun j => vl (ix3 b (chan h e) j)) (fun j => vc (ix3 b (chan h e) j))) lam e : EReal)) g e

theorem join_coe (a : Fin 2048 → EReal) (b : Fin 256 → EReal) (a' : Fin 2048 → ℝ) (b' : Fin 256 → ℝ) (ha : ∀ j, a j = a' j) (hb : ∀ j, b j = b' j) (j : Fin 2304) :
    join a b j = ((join a' b' j : ℝ) : EReal) := by
  unfold join
  split
  · exact ha _
  · exact hb _

end Cert.Proof.Attn

end
-- ==== Proof.Attn.Rows.lean ====
/- One tile of the attention program, read at an index: the head's output of the tile's query row, normed. -/
module

public import proofs.«01_k».proof.Proof.Attn.Block
public import proofs.«01_k».proof.Proof.Attn.Spec

@[expose] public section

set_option maxRecDepth 16384

noncomputable section

namespace Cert.Proof.Attn

open Idealize.ShloMosaic hiding ix0 ix1 ix2 ix3 ix4 ix5 eq_ix1 eq_ix2 eq_ix3 eq_ix4 eq_ix5
open Idealize.ShloMosaic.ValueIdx
open Cert.KernelIdeal Cert.KernelIdeal.Gen Cert.Post
open scoped BigOperators

/-- Column `n` of half `u` of the scores. -/
def col (u : Fin 2) (n : Fin 128) : Fin 256 := ⟨128 * u.val + n.val, by omega⟩

/-! ## The scores -/

theorem mask_apply (k : Fin 128) : k0_pay4 (F := Ideal) (ix2 0 k) = if k.val < 64 then 1 else 0 := by
  have h : ∀ k : Fin 128, cmpi .slt (iota Kind.tc S1x128 32 [1] iota_S1x128_d1_w32) (broadcast S1x128 64#32) (ix2 0 k) = if k.val < 64 then 1#1 else 0#1 := by
    decide +kernel
  unfold k0_pay4
  rw [select_apply, h]
  show Scalar.select _ (Ideal.ofBits .f32 0x3F800000#32) (Ideal.ofBits .f32 0x00000000#32) = _
  rw [Ideal.ofBits_one_f32, Ideal.ofBits_zero_f32]
  split <;> rfl

/-- The masked queries: both halves' copies, one below the other. -/
def bothV (q : Vec Ideal S1x128x128 .bf16) (u : Fin 2) (n k : Fin 128) : EReal :=
  q (ix3 0 n k) * (if (k.val < 64) = (u.val = 0) then 1 else 0)

theorem scoresV_apply (key : FVec Ideal S2304x128 .bf16) (q : Vec Ideal S1x128x128 .bf16) (j : Fin 2304) (u : Fin 2) (n : Fin 128) :
    scoresV key q (ix2 j (col u n)) = ∑ d, key (ix2 j (lane u d)) * q (ix3 0 n (lane u d)) := by
  unfold scoresV k0_pay14
  show FloatOps.matmul (DotDims.transposedRhs 2304 128 256) none key _ _ (ix2 j (col u n)) = _
  rw [Ideal.matmul_transposedRhs_apply, constant_apply, Ideal.ofBits_zero_f32, zero_add]
  have e : ∀ k : Fin 128, (concatenate S256x128 0 [⟨S128x128, truncf .bf16 (mulf (extf .f32 (shapeCast S128x128 q shapeCasts_S1x128x128_S128x128) bitsLt_bf16_f32) (broadcastTo S128x128 k0_pay4 broadcasts_S1x128_S128x128)) bitsLt_bf16_f32⟩,
      ⟨S128x128, truncf .bf16 (mulf (extf .f32 (shapeCast S128x128 q shapeCasts_S1x128x128_S128x128) bitsLt_bf16_f32) (broadcastTo S128x128 (subf (broadcast S1x128 (Scalar.ofBits .f32 0x3F800000#32)) k0_pay4) broadcasts_S1x128_S128x128)) bitsLt_bf16_f32⟩]
      concatenates_S128x128_S128x128_S256x128_d0 : FVec Ideal S256x128 .bf16) (ix2 (col u n) k) = bothV q u n k := fun k => by
    match u with
    | 0 =>
      refine (concatenate_pair_apply_left (t := S256x128) (s₁ := S128x128) (s₂ := S128x128) 0 _ _ _ (ix2 (col 0 n) k) rfl (ix2 n k) (fun a => ?_)).trans ?_
      · match a with
        | ⟨0, _⟩ => show n.val = 128 * 0 + n.val; omega
        | ⟨1, _⟩ => rfl
      · show shapeCast S128x128 q _ (ix2 n k) * broadcastTo S128x128 (k0_pay4 (F := Ideal)) _ (ix2 n k) = _
        rw [shapeCast_1ab_ab_apply, broadcastTo_1b_ab_apply, mask_apply]
        unfold bothV
        simp
    | 1 =>
      refine (concatenate_pair_apply_right (t := S256x128) (s₁ := S128x128) (s₂ := S128x128) 0 _ _ _ (ix2 (col 1 n) k) rfl rfl (ix2 n k) (fun a ha => ?_) ?_).trans ?_
      · match a with
        | ⟨0, _⟩ => exact absurd rfl ha
        | ⟨1, _⟩ => rfl
      · show n.val + 128 = 128 * 1 + n.val; omega
      · show shapeCast S128x128 q _ (ix2 n k) * broadcastTo S128x128 (subf (broadcast S1x128 (Ideal.ofBits .f32 0x3F800000#32)) (k0_pay4 (F := Ideal)) : FVec Ideal S1x128 .f32) _ (ix2 n k) = _
        rw [shapeCast_1ab_ab_apply, broadcastTo_1b_ab_apply, ValueIdx.subf_apply, mask_apply]
        unfold bothV
        show _ * (Ideal.ofBits .f32 0x3F800000#32 - _) = _
        rw [Ideal.ofBits_one_f32]
        by_cases hk : k.val < 64
        · have h1 : (1 : EReal) - 1 = 0 := EReal.sub_self (EReal.coe_ne_top 1) (EReal.coe_ne_bot 1)
          simp [hk, h1]
        · simp [hk]
  refine (Finset.sum_congr rfl fun k _ => congrArg (key (ix2 j k) * ·) (e k)).trans ?_
  rw [sum_lanes]
  unfold bothV
  have l0 : ∀ d : Fin 64, (lane 0 d).val < 64 := fun d => by show 64 * 0 + d.val < 64; omega
  have l1 : ∀ d : Fin 64, ¬ (lane 1 d).val < 64 := fun d => by show ¬ 64 * 1 + d.val < 64; omega
  match u with
  | 0 => simp [l0, l1]
  | 1 => simp [l0, l1]

/-! ## The reference point and the weights -/

theorem reduce_real {s t : Shape} {axes : List (Fin s.rank)} (x : FVec Ideal s .f32) (h : s.Reduces axes t) (hφ) (hacc) (hx : ∀ i, ∃ r : ℝ, x i = r)
    (j : t.Idx) (i : s.Idx) (hi : h.drop i = j) : ∃ r : ℝ, multiReduction .maximumf axes t x 0xFF800000#32 h hφ hacc j = r := by
  rw [multiReduction_maximumf_eq_reduceFold, reduceFold_eq_foldl]
  show ∃ r : ℝ, List.foldl (fun r i => max r (x i)) (Ideal.ofBits .f32 0xFF800000#32) _ = _
  rw [ofBits_neg_inf]
  refine fold_bot_real x hx _ (List.ne_nil_of_mem (a := i) ?_)
  simp only [List.mem_filter, List.mem_map, List.mem_finRange, true_and, decide_eq_true_eq]
  exact ⟨⟨s.rowMajor i, by simp⟩, hi⟩

theorem max_real (s : FVec Ideal S2304x256 .f32) (hs : ∀ i, ∃ r : ℝ, s i = r) (c : Fin 256) : ∃ r : ℝ, k0_pay13 s (ix2 0 c) = r := by
  unfold k0_pay13
  dsimp only
  rw [shapeCast_apply _ _ (ix2 0 c) (ix2 0 c) rfl, shapeCast_a_1a_apply]
  refine reduce_real _ _ _ _ (fun i => ?_) (ix1 c) (ix2 0 c) (funext fun a => ?_)
  · obtain ⟨a, b, rfl⟩ : ∃ (a : Fin 128) (b : Fin 256), i = ix2 a b := ⟨i 0, i 1, eq_ix2 i⟩
    refine reduce_real _ _ _ _ (fun i => hs _) (ix2 a b) (ix3 0 a b) (funext fun a => ?_)
    match a with
    | ⟨0, _⟩ => rfl
    | ⟨1, _⟩ => rfl
  · match a with
    | ⟨0, _⟩ => rfl

theorem probsV_apply (s : FVec Ideal S2304x256 .f32) (j : Fin 2304) (c : Fin 256) :
    probsV s (ix2 j c) = Ideal.exp2 (s (ix2 j c) - k0_pay13 s (ix2 0 c)) := by
  unfold probsV k0_pay32
  rw [shapeCast_apply _ _ (ix2 j c) (ix2 j c) rfl]
  show Ideal.exp2 (shapeCast S2304x256 s _ (ix2 j c) - broadcastTo S2304x256 (k0_pay13 s) _ (ix2 j c)) = _
  rw [shapeCast_apply _ _ (ix2 j c) (ix2 j c) rfl, broadcastTo_1b_ab_apply]

/-! ## The products with the values -/

theorem out_apply (lam : FVec Ideal S1x1 .f32) (val : FVec Ideal S144x2304 .bf16) (p : FVec Ideal S2304x256 .bf16) (e n : Fin 128) :
    k0_pay33 lam val p (ix2 e n)
      = (∑ j : Fin 2304, val (ix2 ⟨e.val, by omega⟩ j) * p (ix2 j (col 0 n))) * Ideal.div 1 (∑ j : Fin 2304, val (ix2 128 j) * p (ix2 j (col 0 n)))
        - (∑ j : Fin 2304, val (ix2 ⟨e.val, by omega⟩ j) * p (ix2 j (col 1 n))) * Ideal.div (lam (ix2 0 0)) (∑ j : Fin 2304, val (ix2 128 j) * p (ix2 j (col 1 n))) := by
  have hm : ∀ (r : Fin 144) (c : Fin 256), matmul dot_S144x2304_S2304x256_S144x256_1_0_0_1_n_n none val p (constant S144x256 .f32 0x00000000#32) (ix2 r c)
      = ∑ j : Fin 2304, val (ix2 r j) * p (ix2 j c) := fun r c => by
    show FloatOps.matmul (DotDims.plain 144 2304 256) none val p _ (ix2 r c) = _
    rw [Ideal.matmul_plain_apply, constant_apply, Ideal.ofBits_zero_f32, zero_add]
  unfold k0_pay33
  generalize hz : matmul dot_S144x2304_S2304x256_S144x256_1_0_0_1_n_n none val p (constant S144x256 .f32 0x00000000#32) = z at hm
  simp only [← hm]
  rw [subf_apply, mulf_apply, mulf_apply, broadcastTo_1b_ab_apply, broadcastTo_1b_ab_apply, divf_apply, divf_apply]
  have e1 : extractStridedSlice S128x128 ![0, 0] z slices_S144x256_o0_0_S128x128 (ix2 e n) = z (ix2 ⟨e.val, by omega⟩ (col 0 n)) :=
    extractStridedSlice_apply _ _ _ _ _ fun a => match a with
      | ⟨0, _⟩ => (Nat.zero_add _).symm
      | ⟨1, _⟩ => by show 128 * 0 + n.val = 0 + n.val; omega
  have e2 : extractStridedSlice S1x128 ![128, 0] z slices_S144x256_o128_0_S1x128 (ix2 0 n) = z (ix2 128 (col 0 n)) :=
    extractStridedSlice_apply _ _ _ _ _ fun a => match a with
      | ⟨0, _⟩ => rfl
      | ⟨1, _⟩ => by show 128 * 0 + n.val = 0 + n.val; omega
  have e3 : extractStridedSlice S128x128 ![0, 128] z slices_S144x256_o0_128_S128x128 (ix2 e n) = z (ix2 ⟨e.val, by omega⟩ (col 1 n)) :=
    extractStridedSlice_apply _ _ _ _ _ fun a => match a with
      | ⟨0, _⟩ => (Nat.zero_add _).symm
      | ⟨1, _⟩ => by show 128 * 1 + n.val = 128 + n.val; omega
  have e4 : extractStridedSlice S1x128 ![128, 128] z slices_S144x256_o128_128_S1x128 (ix2 0 n) = z (ix2 128 (col 1 n)) :=
    extractStridedSlice_apply _ _ _ _ _ fun a => match a with
      | ⟨0, _⟩ => rfl
      | ⟨1, _⟩ => by show 128 * 1 + n.val = 128 + n.val; omega
  have e5 : broadcastTo S1x128 lam broadcasts_S1x1_S1x128 (ix2 0 n) = lam (ix2 0 0) :=
    broadcastTo_apply _ _ _ _ fun a => match a with
      | ⟨0, _⟩ => rfl
      | ⟨1, _⟩ => rfl
  rw [e1, e2, e3, e4, e5]
  show _ * Ideal.div (Ideal.ofBits .f32 0x3F800000#32) _ - _ = _
  rw [Ideal.ofBits_one_f32]

theorem finishV_apply (lam : FVec Ideal S1x1 .f32) (gain : FVec Ideal S128x1 .f32) (val : FVec Ideal S144x2304 .bf16) (p : FVec Ideal S2304x256 .bf16) (n e : Fin 128) :
    finishV lam gain val p (ix3 0 n e) = k0_pay33 lam val p (ix2 e n)
      * Ideal.rsqrt (Ideal.div (∑ k : Fin 128, k0_pay33 lam val p (ix2 k n) * k0_pay33 lam val p (ix2 k n)) (Ideal.ofBits .f32 0x43000000#32) + Ideal.ofBits .f32 0x3727C5AC#32)
      * gain (ix2 e 0) := by
  unfold finishV k0_pay35 k0_pay34
  dsimp only
  generalize k0_pay33 lam val p = z
  rw [shapeCast_ab_1ab_apply]
  refine Eq.trans (transpose_ix2_apply (a := 128) (b := 128) (mulf (mulf z _) _) transposes_S128x128_p1_0_S128x128 n e) ?_
  rw [mulf_apply, mulf_apply, broadcastTo_1b_ab_apply]
  have e1 : broadcastTo S128x128 gain broadcasts_S128x1_S128x128 (ix2 e n) = gain (ix2 e 0) :=
    broadcastTo_apply _ _ _ _ fun a => match a with
      | ⟨0, _⟩ => rfl
      | ⟨1, _⟩ => rfl
  rw [e1]
  refine congrArg (fun w => _ * w * _) ?_
  show Ideal.rsqrt (Ideal.div (shapeCast S1x128 _ _ (ix2 0 n)) _ + _) = _
  rw [shapeCast_a_1a_apply]
  refine congrArg (fun w => Ideal.rsqrt (Ideal.div w _ + _)) ?_
  have h := Ideal.multiReduction_add_single (φ := .f32) (mulf z z) 0x00000000#32 reduces_S128x128_S128 (.inl rfl) rfl (ix1 n)
  refine h.trans (Finset.sum_congr rfl fun k _ => ?_)
  exact congrArg (fun i => z i * z i) (funext fun a => match a with
    | ⟨0, _⟩ => rfl
    | ⟨1, _⟩ => rfl)

end Cert.Proof.Attn

end
-- ==== Proof.Attn.Tile.lean ====
/- A tile of the attention program: the head's output of each of its query rows, normed. -/
module

public import proofs.«01_k».proof.Proof.Attn.Rows

@[expose] public section

set_option maxRecDepth 16384

noncomputable section

namespace Cert.Proof.Attn

open Idealize.ShloMosaic hiding ix0 ix1 ix2 ix3 ix4 ix5 eq_ix1 eq_ix2 eq_ix3 eq_ix4 eq_ix5
open Idealize.ShloMosaic.ValueIdx
open Cert.KernelIdeal Cert.KernelIdeal.Gen Cert.Post
open scoped BigOperators

/-- Channel `k` of the block's head `hd`. -/
def pos (hd : Fin 2) (k : Fin 128) : Fin 256 := ⟨128 * hd.val + k.val, by omega⟩

section
variable (x0 : Vec Ideal S1x4x64 .f32) (x1 : Vec Ideal S128x1 .f32) (x2 x3 : Vec Ideal S1x2048x256 .bf16) (x4 : Vec Ideal S1x256x256 .bf16)
  (x5 : Vec Ideal S1x256x2048 .bf16) (x6 : Vec Ideal S1x256x256 .bf16)

/-- A product of two of the four rows, summed. -/
theorem pair_apply (v : FVec Ideal S4x64 .f32) (i j : Fin 4) (hi : S4x64.Slices ![i.val, 0] S1x64) (hj : S4x64.Slices ![j.val, 0] S1x64) :
    shapeCast S1x1 (multiReduction .add [1] S1 (mulf (extractStridedSlice S1x64 ![i.val, 0] v hi) (extractStridedSlice S1x64 ![j.val, 0] v hj) : FVec Ideal S1x64 .f32) 0x00000000#32
        reduces_S1x64_S1 (.inl rfl) rfl) shapeCasts_S1_S1x1 (ix2 0 0) = ∑ d : Fin 64, v (ix2 i d) * v (ix2 j d) := by
  rw [shapeCast_a_a1_apply]
  refine (Ideal.multiReduction_add_single (φ := .f32) _ 0x00000000#32 reduces_S1x64_S1 (.inl rfl) rfl (ix1 0)).trans (Finset.sum_congr rfl fun d _ => ?_)
  have e : ∀ (k : Fin 4) (hk : S4x64.Slices ![k.val, 0] S1x64), extractStridedSlice S1x64 ![k.val, 0] v hk (ix2 0 d) = v (ix2 k d) := fun k hk =>
    extractStridedSlice_apply _ _ _ _ _ fun a => match a with
      | ⟨0, _⟩ => rfl
      | ⟨1, _⟩ => (Nat.zero_add _).symm
  refine Eq.trans ?_ (congrArg₂ (· * ·) (e i hi) (e j hj))
  rw [← ValueIdx.mulf_apply]
  refine congrArg (mulf (F := Ideal) _ _) (funext fun a => ?_)
  match a with
  | ⟨0, _⟩ => rfl
  | ⟨1, _⟩ => rfl

theorem lamV_apply : lamV x0 (ix2 0 0) = lambda fun i d => x0 (ix3 0 i d) := by
  unfold lamV
  rw [View.ld_unit_lit _ x0 (by decide)]
  unfold k0_pay2 lambda
  have e : ∀ i d, shapeCast S4x64 x0 shapeCasts_S1x4x64_S4x64 (ix2 i d) = x0 (ix3 0 i d) := fun i d => shapeCast_1ab_ab_apply x0 _ i d
  simp only [← e]
  refine congrArg (· + _) (congrArg₂ (· - ·) (congrArg Ideal.exp ?_) (congrArg Ideal.exp ?_))
  · exact pair_apply _ 0 1 _ _
  · exact pair_apply _ 2 3 _ _

theorem gainV_apply (e : Fin 128) : gainV x1 (ix2 e 0) = x1 (ix2 e 0) * Ideal.ofBits .f32 0x3F4CCCCD#32 := by
  unfold gainV
  rw [View.ld_unit_lit _ x1 (by decide)]
  unfold k0_pay3
  rw [ValueIdx.mulf_apply, shapeCast_apply _ _ (ix2 e 0) (ix2 e 0) rfl]
  rfl

theorem keyV_apply (hd : Fin 2) (j : Fin 2304) (k : Fin 128) :
    keyV x3 x4 hd (ix2 j k) = join (fun j => x3 (ix3 0 j (pos hd k))) (fun j => x4 (ix3 0 j (pos hd k))) j := by
  unfold keyV k0_pay9 join
  split
  · rename_i h
    refine (concatenate_pair_apply_left (t := S2304x128) (s₁ := S2048x128) (s₂ := S256x128) 0 _ _ _ (ix2 j k) rfl (ix2 ⟨j.val, h⟩ k) (fun a => ?_)).trans ?_
    · match a with
      | ⟨0, _⟩ | ⟨1, _⟩ => rfl
    · rw [shapeCast_1ab_ab_apply]
      exact ld_cut 2048 256 2048 128 0 (128 * hd.val) _ x3 ⟨j.val, h⟩ k ⟨j.val, h⟩ (pos hd k) (Nat.zero_add _).symm rfl
  · rename_i h
    refine (concatenate_pair_apply_right (t := S2304x128) (s₁ := S2048x128) (s₂ := S256x128) 0 _ _ _ (ix2 j k) rfl rfl (ix2 ⟨j.val - 2048, by omega⟩ k) (fun a ha => ?_) ?_).trans ?_
    · match a with
      | ⟨0, _⟩ => exact absurd rfl ha
      | ⟨1, _⟩ => rfl
    · show j.val - 2048 + 2048 = j.val; omega
    · rw [shapeCast_1ab_ab_apply]
      exact ld_cut 256 256 256 128 0 (128 * hd.val) _ x4 ⟨j.val - 2048, by omega⟩ k ⟨j.val - 2048, by omega⟩ (pos hd k) (Nat.zero_add _).symm rfl

theorem valueV_apply (hd : Fin 2) (e : Fin 128) (j : Fin 2304) :
    valueV x5 x6 hd (ix2 ⟨e.val, by omega⟩ j) = join (fun j => x5 (ix3 0 (pos hd e) j)) (fun j => x6 (ix3 0 (pos hd e) j)) j := by
  unfold valueV k0_pay10 join
  refine (concatenate_pair_apply_left (t := S144x2304) (s₁ := S128x2304) (s₂ := S16x2304) 0 _ _ _ (ix2 ⟨e.val, by omega⟩ j) rfl (ix2 e j) (fun a => ?_)).trans ?_
  · match a with
    | ⟨0, _⟩ | ⟨1, _⟩ => rfl
  split
  · rename_i h
    refine (concatenate_pair_apply_left (t := S128x2304) (s₁ := S128x2048) (s₂ := S128x256) 1 _ _ _ (ix2 e j) rfl (ix2 e ⟨j.val, h⟩) (fun a => ?_)).trans ?_
    · match a with
      | ⟨0, _⟩ | ⟨1, _⟩ => rfl
    · rw [shapeCast_1ab_ab_apply]
      exact ld_cut 256 2048 128 2048 (128 * hd.val) 0 _ x5 e ⟨j.val, h⟩ (pos hd e) ⟨j.val, h⟩ rfl (Nat.zero_add _).symm
  · rename_i h
    refine (concatenate_pair_apply_right (t := S128x2304) (s₁ := S128x2048) (s₂ := S128x256) 1 _ _ _ (ix2 e j) rfl rfl (ix2 e ⟨j.val - 2048, by omega⟩) (fun a ha => ?_) ?_).trans ?_
    · match a with
      | ⟨0, _⟩ => rfl
      | ⟨1, _⟩ => exact absurd rfl ha
    · show j.val - 2048 + 2048 = j.val; omega
    · rw [shapeCast_1ab_ab_apply]
      exact ld_cut 256 256 128 256 (128 * hd.val) 0 _ x6 e ⟨j.val - 2048, by omega⟩ (pos hd e) ⟨j.val - 2048, by omega⟩ rfl (Nat.zero_add _).symm

/-- The row of ones below the values. -/
theorem ones_apply (hd : Fin 2) (j : Fin 2304) : valueV x5 x6 hd (ix2 128 j) = 1 := by
  unfold valueV k0_pay10
  refine (concatenate_pair_apply_right (t := S144x2304) (s₁ := S128x2304) (s₂ := S16x2304) 0 _ _ _ (ix2 128 j) rfl rfl (ix2 0 j) (fun a ha => ?_) rfl).trans ?_
  · match a with
    | ⟨0, _⟩ => exact absurd rfl ha
    | ⟨1, _⟩ => rfl
  · exact Ideal.ofBits_one_f32

/-- THE TILE, read at an index. -/
theorem tileV_apply (hd : Fin 2) (r : Fin 16) (q : S1x2048x256.Idx → ℝ) (hq : ∀ i, x2 i = (q i : EReal)) (k : Fin 2304 → Fin 128 → ℝ)
    (hk : ∀ j d, join (fun j => x3 (ix3 0 j (pos hd d))) (fun j => x4 (ix3 0 j (pos hd d))) j = (k j d : EReal)) (v : Fin 128 → Fin 2304 → ℝ)
    (hv : ∀ e j, join (fun j => x5 (ix3 0 (pos hd e) j)) (fun j => x6 (ix3 0 (pos hd e) j)) j = (v e j : EReal)) (lam : ℝ)
    (hlam : (lambda fun i d => x0 (ix3 0 i d)) = (lam : EReal)) (n e : Fin 128) :
    tileV x0 x1 x2 x3 x4 x5 x6 hd r (ix3 0 n e)
      = normed (fun e => (head (fun d => q (ix3 0 ⟨128 * r.val + n.val, by omega⟩ (pos hd d))) k v lam e : EReal)) (fun e => x1 (ix2 e 0)) e := by
  have hs : ∀ (j : Fin 2304) (u : Fin 2) (n : Fin 128),
      scoresV (keyV x3 x4 hd) (View.ld x2 (cut 2048 256 128 128 (128 * r.val) (128 * hd.val) (by omega))) (ix2 j (col u n))
        = (score (fun d => q (ix3 0 ⟨128 * r.val + n.val, by omega⟩ (pos hd d))) (k j) u : EReal) := fun j u n => by
    rw [scoresV_apply]
    unfold score
    rw [coe_sum]
    refine Finset.sum_congr rfl fun d _ => ?_
    rw [keyV_apply, hk, EReal.coe_mul, ← hq]
    exact congrArg _ (ld_cut 2048 256 128 128 (128 * r.val) (128 * hd.val) _ x2 n (lane u d) ⟨128 * r.val + n.val, by omega⟩ (pos hd (lane u d)) rfl rfl)
  unfold tileV
  generalize scoresV (keyV x3 x4 hd) (View.ld x2 (cut 2048 256 128 128 (128 * r.val) (128 * hd.val) (by omega))) = s at hs
  have hr : ∀ i, ∃ x : ℝ, s i = x := fun i => by
    obtain ⟨j, c, rfl⟩ : ∃ (j : Fin 2304) (c : Fin 256), i = ix2 j c := ⟨i 0, i 1, eq_ix2 i⟩
    have hc : c = col ⟨c.val / 128, by omega⟩ ⟨c.val % 128, by omega⟩ := Fin.ext (by show c.val = 128 * (c.val / 128) + c.val % 128; omega)
    exact ⟨_, (congrArg (fun c => s (ix2 j c)) hc).trans (hs j _ _)⟩
  obtain ⟨m0, h0⟩ := max_real s hr (col 0 n)
  obtain ⟨m1, h1⟩ := max_real s hr (col 1 n)
  have ho : ∀ e, k0_pay33 (lamV x0) (valueV x5 x6 hd) (probsV s) (ix2 e n)
      = (head (fun d => q (ix3 0 ⟨128 * r.val + n.val, by omega⟩ (pos hd d))) k v lam e : EReal) := fun e => by
    rw [out_apply, lamV_apply, hlam]
    simp only [probsV_apply, h0, h1, hs, valueV_apply, hv, ones_apply]
    exact head_kernel _ _ _ m0 m1 lam
  rw [finishV_apply, gainV_apply]
  simp only [ho]
  rfl

end

end Cert.Proof.Attn

end
-- ==== Proof.Attn.Array.lean ====
/- The result array of the attention program: at every index the normed head's output of the arguments' row. -/
module

public import proofs.«01_k».proof.Proof.Attn.Tile
public import proofs.«01_k».proof.Proof.Gen.KernelIdeal.Value

@[expose] public section

set_option maxRecDepth 16384

noncomputable section

namespace Cert.Proof.Attn

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.KernelIdeal Cert.KernelIdeal.Gen Cert.Post
open scoped BigOperators

/-- The row of an entry of a block, by where the entry lies. -/
theorem row_at (q kl : (⟨3, ![16, 2048, 1024]⟩ : Shape).Idx → ℝ) (kc : (⟨3, ![16, 256, 1024]⟩ : Shape).Idx → ℝ)
    (vl : (⟨3, ![16, 1024, 2048]⟩ : Shape).Idx → ℝ) (vc : (⟨3, ![16, 1024, 256]⟩ : Shape).Idx → ℝ) (lam : ℝ) (g : Fin 128 → EReal)
    (b : Fin 16) (y : S1x2048x256.Idx) (C : Nat) (s : Fin 2048) (h : Fin 8) (e : Fin 128) (h1 : y 1 = s) (h2 : (C * 256 + (y 2).val) / 128 = h.val)
    (h3 : (C * 256 + (y 2).val) % 128 = e.val) (p2 : (C * 256 + (y 2).val) / 128 < 8) (p3 : (C * 256 + (y 2).val) % 128 < 128) :
    attnRow q kl kc vl vc lam g b (y 1) ⟨(C * 256 + (y 2).val) / 128, p2⟩ ⟨(C * 256 + (y 2).val) % 128, p3⟩ = attnRow q kl kc vl vc lam g b s h e := by
  subst h1
  obtain rfl : (⟨_, p2⟩ : Fin 8) = h := Fin.ext h2
  obtain rfl : (⟨_, p3⟩ : Fin 128) = e := Fin.ext h3
  rfl

variable (m : (ℓ : Loc nD τ sig) → Buf (Elt Ideal) ℓ) (ρ : Dev nD → PrngReg)

/-! ## The blocks, read at an index -/

section
variable (c : Dev nD) (t : Fin cfg0.N)

theorem blk0 (i : Fin 4) (d : Fin 64) : iblk m c 0 t (ix3 0 i d) = V m c main_arg5 (ix3 0 i d) :=
  congrArg (V m c main_arg5) (funext fun a => Fin.ext (win0_0.rect_emb_val_of_index_zero t a
    ((by decide +kernel : ∀ (t : Fin grid0.N) a, win0_0.index t a = 0) t a) _))

theorem blk1 (e : Fin 128) : iblk m c 1 t (ix2 e 0) = V m c main_v0 (ix2 e 0) :=
  congrArg (V m c main_v0) (funext fun a => Fin.ext (win0_1.rect_emb_val_of_index_zero t a
    ((by decide +kernel : ∀ (t : Fin grid0.N) a, win0_1.index t a = 0) t a) _))

variable (b : Fin 16) (hb : b.val = (grid0.coords t 0).val)
include hb

theorem blk2 (s : Fin 2048) (k : Fin 256) (u : Fin 1024) (hu : u.val = (grid0.coords t 1).val * 256 + k.val) :
    iblk m c 2 t (ix3 0 s k) = V m c main_arg0 (ix3 b s u) := by
  refine congrArg (V m c main_arg0) (funext fun a => Fin.ext ((win0_2.rect_emb_val t _ a).trans ?_))
  rw [(by decide +kernel : ∀ t : Fin grid0.N, win0_2.index t = ![(grid0.coords t 0).val, 0, (grid0.coords t 1).val]) t]
  match a with
  | ⟨0, _⟩ => exact (Nat.mul_one _).trans hb.symm
  | ⟨1, _⟩ => exact Nat.zero_add _
  | ⟨2, _⟩ => exact hu.symm

theorem blk3 (s : Fin 2048) (k : Fin 256) (u : Fin 1024) (hu : u.val = (grid0.coords t 1).val * 256 + k.val) :
    iblk m c 3 t (ix3 0 s k) = V m c main_arg1 (ix3 b s u) := by
  refine congrArg (V m c main_arg1) (funext fun a => Fin.ext ((win0_3.rect_emb_val t _ a).trans ?_))
  rw [(by decide +kernel : ∀ t : Fin grid0.N, win0_3.index t = ![(grid0.coords t 0).val, 0, (grid0.coords t 1).val]) t]
  match a with
  | ⟨0, _⟩ => exact (Nat.mul_one _).trans hb.symm
  | ⟨1, _⟩ => exact Nat.zero_add _
  | ⟨2, _⟩ => exact hu.symm

theorem blk4 (s : Fin 256) (k : Fin 256) (u : Fin 1024) (hu : u.val = (grid0.coords t 1).val * 256 + k.val) :
    iblk m c 4 t (ix3 0 s k) = V m c main_arg2 (ix3 b s u) := by
  refine congrArg (V m c main_arg2) (funext fun a => Fin.ext ((win0_4.rect_emb_val t _ a).trans ?_))
  rw [(by decide +kernel : ∀ t : Fin grid0.N, win0_4.index t = ![(grid0.coords t 0).val, 0, (grid0.coords t 1).val]) t]
  match a with
  | ⟨0, _⟩ => exact (Nat.mul_one _).trans hb.symm
  | ⟨1, _⟩ => exact Nat.zero_add _
  | ⟨2, _⟩ => exact hu.symm

theorem blk5 (k : Fin 256) (s : Fin 2048) (u : Fin 1024) (hu : u.val = (grid0.coords t 1).val * 256 + k.val) :
    iblk m c 5 t (ix3 0 k s) = V m c main_arg3 (ix3 b u s) := by
  refine congrArg (V m c main_arg3) (funext fun a => Fin.ext ((win0_5.rect_emb_val t _ a).trans ?_))
  rw [(by decide +kernel : ∀ t : Fin grid0.N, win0_5.index t = ![(grid0.coords t 0).val, (grid0.coords t 1).val, 0]) t]
  match a with
  | ⟨0, _⟩ => exact (Nat.mul_one _).trans hb.symm
  | ⟨1, _⟩ => exact hu.symm
  | ⟨2, _⟩ => exact Nat.zero_add _

theorem blk6 (k : Fin 256) (s : Fin 256) (u : Fin 1024) (hu : u.val = (grid0.coords t 1).val * 256 + k.val) :
    iblk m c 6 t (ix3 0 k s) = V m c main_arg4 (ix3 b u s) := by
  refine congrArg (V m c main_arg4) (funext fun a => Fin.ext ((win0_6.rect_emb_val t _ a).trans ?_))
  rw [(by decide +kernel : ∀ t : Fin grid0.N, win0_6.index t = ![(grid0.coords t 0).val, (grid0.coords t 1).val, 0]) t]
  match a with
  | ⟨0, _⟩ => exact (Nat.mul_one _).trans hb.symm
  | ⟨1, _⟩ => exact hu.symm
  | ⟨2, _⟩ => exact Nat.zero_add _

end

/-- Where an entry of the result's block lies in the result. -/
theorem emb7 (t : Fin cfg0.N) (s : Fin 2048) (k : Fin 256) : ((cfg0.win 7).blk t).view.emb (ix3 0 s k)
    = ix3 ⟨(grid0.coords t 0).val, (grid0.coords t 0).isLt⟩ s
        ⟨(grid0.coords t 1).val * 256 + k.val, by have h : (grid0.coords t 1).val < 4 := (grid0.coords t 1).isLt; omega⟩ := by
  refine funext fun a => Fin.ext ((win0_7.rect_emb_val t _ a).trans ?_)
  rw [(by decide +kernel : ∀ t : Fin grid0.N, win0_7.index t = ![(grid0.coords t 0).val, 0, (grid0.coords t 1).val]) t]
  match a with
  | ⟨0, _⟩ => exact Nat.mul_one _
  | ⟨1, _⟩ => exact Nat.zero_add _
  | ⟨2, _⟩ => rfl

/-- The gain as a column holds the gain's numbers. -/
theorem V_main_v0 (c : Dev nD) (e : Fin 128) : V m c main_v0 (ix2 e 0) = m ((c : Thread nD τ).loc main_arg6) (ix2 0 e) :=
  shapeCast_apply (m ((c : Thread nD τ).loc main_arg6)) shapeCasts_S1x128_S128x1 (ix2 e 0) (ix2 0 e) (by
    show (S1x128.rowMajor (ix2 0 e)).val = (S128x1.rowMajor (ix2 e 0)).val
    rw [Shape.rowMajor_val_two, Shape.rowMajor_val_two]
    show 0 * 128 + e.val = e.val * 1 + 0
    omega)

theorem mem_cut {p q a b o l : Nat} (h : o + a ≤ p ∧ l + b ≤ q) (s : Fin p) (k : Fin q) (h1 : o ≤ s.val ∧ s.val < o + a) (h2 : l ≤ k.val ∧ k.val < l + b) :
    ix3 0 s k ∈ (cut p q a b o l h).set :=
  Rect.mem_set_unit.2 fun i => match i with
    | ⟨0, _⟩ => ⟨Nat.le_refl 0, Nat.one_pos⟩
    | ⟨1, _⟩ => h1
    | ⟨2, _⟩ => h2

theorem pieces_mem {x0 x1 x2 x3 x4 x5 x6} (hd : Fin 2) (r : Fin 16) : pieceV (F := Ideal) x0 x1 x2 x3 x4 x5 x6 hd r ∈ piecesV x0 x1 x2 x3 x4 x5 x6 := by
  unfold piecesV
  exact List.mem_flatMap.2 ⟨hd, (by decide : ∀ hd : Fin 2, hd ∈ ([1, 0] : List (Fin 2))) hd,
    List.mem_map.2 ⟨r, (by decide : ∀ r : Fin 16, r ∈ ([15, 14, 13, 12, 11, 10, 9, 8, 7, 6, 5, 4, 3, 2, 1, 0] : List (Fin 16))) r, rfl⟩⟩

section
variable (c : Dev nD) (q kl : (⟨3, ![16, 2048, 1024]⟩ : Shape).Idx → ℝ) (kc : (⟨3, ![16, 256, 1024]⟩ : Shape).Idx → ℝ)
    (vl : (⟨3, ![16, 1024, 2048]⟩ : Shape).Idx → ℝ) (vc : (⟨3, ![16, 1024, 256]⟩ : Shape).Idx → ℝ) (lam : ℝ)
    (hq : ∀ i, V m c main_arg0 i = (q i : EReal)) (hkl : ∀ i, V m c main_arg1 i = (kl i : EReal)) (hkc : ∀ i, V m c main_arg2 i = (kc i : EReal))
    (hvl : ∀ i, V m c main_arg3 i = (vl i : EReal)) (hvc : ∀ i, V m c main_arg4 i = (vc i : EReal))
    (hlam : (lambda fun i d => V m c main_arg5 (ix3 0 i d)) = (lam : EReal))
include hq hkl hkc hvl hvc hlam

/-- A point's block of the result, read at an index. -/
theorem after_apply (t : Fin cfg0.N) (b : Fin 16) (hb : b.val = (grid0.coords t 0).val) (s : Fin 2048) (k : Fin 256) (u : Fin 1024)
    (hu : u.val = (grid0.coords t 1).val * 256 + k.val) :
    outsAt0 m c t (ix3 0 s k) = attnRow q kl kc vl vc lam (fun e => V m c main_v0 (ix2 e 0)) b s ⟨u.val / 128, by omega⟩ ⟨u.val % 128, by omega⟩ := by
  have hc : (grid0.coords t 1).val < 4 := (grid0.coords t 1).isLt
  rw [block_eq]
  refine (View.canon_apply_of_pieces (Val := Elt Ideal) (e := .bf16)
    (fun y : S1x2048x256.Idx => attnRow q kl kc vl vc lam (fun e => V m c main_v0 (ix2 e 0)) b (y 1)
      ⟨((grid0.coords t 1).val * 256 + (y 2).val) / 128, by have h : (y 2).val < 256 := (y 2).isLt; omega⟩ ⟨((grid0.coords t 1).val * 256 + (y 2).val) % 128, by omega⟩)
    _ (fun p hp => ?_) (ix3 0 s k) ?_).trans ?_
  · unfold piecesV at hp
    obtain ⟨hd, -, hp⟩ := List.mem_flatMap.1 hp
    obtain ⟨r, -, rfl⟩ := List.mem_map.1 hp
    intro x
    obtain ⟨a, n, e, rfl⟩ : ∃ (a : Fin 1) (n e : Fin 128), x = ix3 a n e := ⟨x 0, x 1, x 2, eq_ix3 x⟩
    obtain rfl : a = 0 := Subsingleton.elim _ _
    have hh : 2 * (grid0.coords t 1).val + hd.val < 8 := by omega
    have hpos : ∀ d : Fin 128, (chan ⟨2 * (grid0.coords t 1).val + hd.val, hh⟩ d).val = (grid0.coords t 1).val * 256 + (pos hd d).val := fun d => by
      show 128 * (2 * (grid0.coords t 1).val + hd.val) + d.val = (grid0.coords t 1).val * 256 + (128 * hd.val + d.val)
      omega
    refine (tileV_apply _ _ _ _ _ _ _ hd r
      (fun i => q (ix3 b (i 1) ⟨(grid0.coords t 1).val * 256 + (i 2).val, by have h : (i 2).val < 256 := (i 2).isLt; omega⟩)) (fun i => ?_)
      (fun j d => join (fun j => kl (ix3 b j (chan ⟨2 * (grid0.coords t 1).val + hd.val, hh⟩ d))) (fun j => kc (ix3 b j (chan ⟨2 * (grid0.coords t 1).val + hd.val, hh⟩ d))) j) (fun j d => ?_)
      (fun e => join (fun j => vl (ix3 b (chan ⟨2 * (grid0.coords t 1).val + hd.val, hh⟩ e) j)) (fun j => vc (ix3 b (chan ⟨2 * (grid0.coords t 1).val + hd.val, hh⟩ e) j))) (fun e j => ?_)
      lam ?_ n e).trans ?_
    · obtain ⟨a, s, d, rfl⟩ : ∃ (a : Fin 1) (s : Fin 2048) (d : Fin 256), i = ix3 a s d := ⟨i 0, i 1, i 2, eq_ix3 i⟩
      obtain rfl : a = 0 := Subsingleton.elim _ _
      exact (blk2 m c t b hb s d _ rfl).trans (hq _)
    · exact join_coe _ _ _ _ (fun j => (blk3 m c t b hb j _ _ (hpos d)).trans (hkl _)) (fun j => (blk4 m c t b hb j _ _ (hpos d)).trans (hkc _)) j
    · exact join_coe _ _ _ _ (fun j => (blk5 m c t b hb _ j _ (hpos e)).trans (hvl _)) (fun j => (blk6 m c t b hb _ j _ (hpos e)).trans (hvc _)) j
    · simp only [blk0]
      exact hlam
    · have e2 : (((cut 2048 256 128 128 (128 * r.val) (128 * hd.val) (by omega)).emb (ix3 0 n e)) 2 : Nat) = 128 * hd.val + e.val := Rect.idx_unit_val ..
      refine Eq.trans ?_ (row_at q kl kc vl vc lam _ b ((cut 2048 256 128 128 (128 * r.val) (128 * hd.val) (by omega)).emb (ix3 0 n e)) (grid0.coords t 1).val
        ⟨128 * r.val + n.val, by omega⟩ ⟨2 * (grid0.coords t 1).val + hd.val, hh⟩ e (Fin.ext (Rect.idx_unit_val ..))
        (by rw [e2]; show _ = 2 * (grid0.coords t 1).val + hd.val; omega) (by rw [e2]; omega) _ _).symm
      unfold attnRow
      simp only [blk1]
      refine congrArg (fun w : Fin 128 → ℝ => normed (fun e' => (head w _ _ lam e' : EReal)) _ e) (funext fun d => congrArg q ?_)
      exact congrArg (ix3 b _) (Fin.ext (hpos d).symm)
  · exact ⟨_, pieces_mem ⟨k.val / 128, by omega⟩ ⟨s.val / 128, by omega⟩, mem_cut (by show 128 * (s.val / 128) + 128 ≤ 2048 ∧ 128 * (k.val / 128) + 128 ≤ 256; omega) s k
      (by show 128 * (s.val / 128) ≤ s.val ∧ s.val < 128 * (s.val / 128) + 128; omega) (by show 128 * (k.val / 128) ≤ k.val ∧ k.val < 128 * (k.val / 128) + 128; omega)⟩
  · simp only [hu]

/-- THE RESULT ARRAY after the run. -/
theorem final : (dats m 0 c).arrAt 7 cfg0.N = fun i : S16x2048x1024.Idx =>
    attnRow q kl kc vl vc lam (fun e => V m c main_v0 (ix2 e 0)) (i 0) (i 1) ⟨(i 2).val / 128, by have h : (i 2).val < 1024 := (i 2).isLt; omega⟩ ⟨(i 2).val % 128, by omega⟩ := by
  refine (dats m 0 c).arrAt_eq_of_covers 7 _ (by decide +kernel) fun t hf y => ?_
  obtain ⟨a, s, k, rfl⟩ : ∃ (a : Fin 1) (s : Fin 2048) (k : Fin 256), y = ix3 a s k := ⟨y 0, y 1, y 2, eq_ix3 y⟩
  obtain rfl : a = 0 := Subsingleton.elim _ _
  rw [emb7]
  blk_simp
  rw [after0_7]
  exact after_apply m c q kl kc vl vc lam hq hkl hkc hvl hvc hlam t _ rfl s k _ rfl

end

end Cert.Proof.Attn

end
-- ==== Proof.Attn.Ref.lean ====
/- What the reference of the attention program computes, read at an index: the normed head's output of each query row. -/
module

public import proofs.«01_k».proof.Proof.Attn.Spec
public import proofs.«01_k».proof.Proof.Post.Blocks
public import proofs.«01_k».proof.Proof.Gen.ReferenceIdeal.Read
public import Idealize.ShloMosaic.Lib.Pointwise.Index

@[expose] public section

set_option maxRecDepth 16384

noncomputable section

namespace Cert.Proof.Attn.Ref

open Idealize.ShloMosaic hiding ix0 ix1 ix2 ix3 ix4 ix5 eq_ix1 eq_ix2 eq_ix3 eq_ix4 eq_ix5
open Idealize.ShloMosaic.ValueIdx
open Cert.ReferenceIdeal Cert.ReferenceIdeal.Read Cert.Post
open scoped BigOperators

theorem ix5_of {A B C D E : Nat} {i : (⟨5, ![A, B, C, D, E]⟩ : Shape).Idx} {a : Fin A} {b : Fin B} {c : Fin C} {d : Fin D} {e : Fin E} (h0 : (i 0).val = a.val)
    (h1 : (i 1).val = b.val) (h2 : (i 2).val = c.val) (h3 : (i 3).val = d.val) (h4 : (i 4).val = e.val) : i = ix5 a b c d e := funext fun q => Fin.ext (match q with
  | ⟨0, _⟩ => h0
  | ⟨1, _⟩ => h1
  | ⟨2, _⟩ => h2
  | ⟨3, _⟩ => h3
  | ⟨4, _⟩ => h4)

/-- From the reference's order of the keys, the context's first, to the latent rows first. -/
def turn : Fin 2304 ≃ Fin 2304 where
  toFun j := if h : j.val < 256 then ⟨j.val + 2048, by omega⟩ else ⟨j.val - 256, by omega⟩
  invFun j := if h : j.val < 2048 then ⟨j.val + 256, by omega⟩ else ⟨j.val - 2048, by omega⟩
  left_inv j := by
    by_cases h : j.val < 256
    · simp [h]
    · have h' : j.val - 256 < 2048 := by omega
      simp only [h, h', dif_neg, dif_pos, not_false_eq_true]
      exact Fin.ext (by show j.val - 256 + 256 = j.val; omega)
  right_inv j := by
    by_cases h : j.val < 2048
    · simp [h]
    · have h' : j.val - 2048 < 256 := by omega
      simp only [h, h', dif_neg, dif_pos, not_false_eq_true]
      exact Fin.ext (by show j.val - 2048 + 2048 = j.val; omega)

theorem join_turn_ctx {α : Type} (lat : Fin 2048 → α) (ctx : Fin 256 → α) (j : Fin 2304) (h : j.val < 256) : join lat ctx (turn j) = ctx ⟨j.val, h⟩ := by
  have e : (turn j).val = j.val + 2048 := by simp [turn, h]
  unfold join
  rw [dif_neg (by omega)]
  exact congrArg ctx (Fin.ext (by show (turn j).val - 2048 = j.val; omega))

theorem join_turn_lat {α : Type} (lat : Fin 2048 → α) (ctx : Fin 256 → α) (j : Fin 2304) (h : ¬ j.val < 256) :
    join lat ctx (turn j) = lat ⟨j.val - 256, by omega⟩ := by
  have e : (turn j).val = j.val - 256 := by simp [turn, h]
  unfold join
  rw [dif_pos (by omega)]
  exact congrArg lat (Fin.ext e)

variable (x0 x1 : (⟨S16x2048x1024, .bf16⟩ : BufTy).Contents (Elt Ideal)) (x2 : (⟨S16x256x1024, .bf16⟩ : BufTy).Contents (Elt Ideal))
  (x3 : (⟨S16x1024x2048, .bf16⟩ : BufTy).Contents (Elt Ideal)) (x4 : (⟨S16x1024x256, .bf16⟩ : BufTy).Contents (Elt Ideal))
  (x5 : (⟨S1x4x64, .f32⟩ : BufTy).Contents (Elt Ideal)) (x6 : (⟨S1x128, .f32⟩ : BufTy).Contents (Elt Ideal))

/-! ## The operands by heads -/

theorem query (b : Fin 16) (s : Fin 2048) (h : Fin 8) (u : Fin 2) (d : Fin 64) :
    val_main_v1 x0 (ix5 b s h u d) = x0 (ix3 b s (chan h (lane u d))) := by
  rw [val_main_v1_apply]
  refine congrArg x0 (ix3_of ?_ ?_ ?_)
  · show ((((b.val * 2048 + s.val) * 8 + h.val) * 2 + u.val) * 64 + d.val) / 2097152 = b.val
    omega
  · show ((((b.val * 2048 + s.val) * 8 + h.val) * 2 + u.val) * 64 + d.val) / 1024 % 2048 = s.val
    omega
  · show ((((b.val * 2048 + s.val) * 8 + h.val) * 2 + u.val) * 64 + d.val) % 1024 = 128 * h.val + (64 * u.val + d.val)
    omega

theorem key (b : Fin 16) (j : Fin 2304) (h : Fin 8) (u : Fin 2) (d : Fin 64) :
    val_main_v4 x1 x2 (ix5 b j h u d) = join (fun j => x1 (ix3 b j (chan h (lane u d)))) (fun j => x2 (ix3 b j (chan h (lane u d)))) (turn j) := by
  rw [val_main_v4_apply]
  have e : idx_main_v4 (ix5 b j h u d) = ix3 b j (chan h (lane u d)) := by
    refine ix3_of ?_ ?_ ?_
    · show ((((b.val * 2304 + j.val) * 8 + h.val) * 2 + u.val) * 64 + d.val) / 2359296 = b.val
      omega
    · show ((((b.val * 2304 + j.val) * 8 + h.val) * 2 + u.val) * 64 + d.val) / 1024 % 2304 = j.val
      omega
    · show ((((b.val * 2304 + j.val) * 8 + h.val) * 2 + u.val) * 64 + d.val) % 1024 = 128 * h.val + (64 * u.val + d.val)
      omega
  rw [e]
  show val_main_v2 x1 x2 (ix3 b j (chan h (lane u d))) = _
  generalize chan h (lane u d) = k
  unfold val_main_v2
  by_cases hj : j.val < 256
  · rw [join_turn_ctx _ _ _ hj]
    refine concatenate_pair_apply_left (t := S16x2304x1024) (s₁ := S16x256x1024) (s₂ := S16x2048x1024) 1 _ _ _ (ix3 b j k) rfl (ix3 b ⟨j.val, hj⟩ k) (fun a => ?_)
    match a with
    | ⟨0, _⟩ | ⟨1, _⟩ | ⟨2, _⟩ => rfl
  · rw [join_turn_lat _ _ _ hj]
    refine concatenate_pair_apply_right (t := S16x2304x1024) (s₁ := S16x256x1024) (s₂ := S16x2048x1024) 1 _ _ _ (ix3 b j k) rfl rfl (ix3 b ⟨j.val - 256, by omega⟩ k) (fun a ha => ?_) ?_
    · match a with
      | ⟨0, _⟩ | ⟨2, _⟩ => rfl
      | ⟨1, _⟩ => exact absurd rfl ha
    · show j.val - 256 + 256 = j.val
      omega

theorem value (b : Fin 16) (h : Fin 8) (e : Fin 128) (j : Fin 2304) :
    val_main_v7 x3 x4 (ix4 b h e j) = join (fun j => x3 (ix3 b (chan h e) j)) (fun j => x4 (ix3 b (chan h e) j)) (turn j) := by
  rw [val_main_v7_apply]
  have e : idx_main_v7 (ix4 b h e j) = ix3 b (chan h e) j := by
    refine ix3_of ?_ ?_ ?_
    · show (((b.val * 8 + h.val) * 128 + e.val) * 2304 + j.val) / 2359296 = b.val
      omega
    · show (((b.val * 8 + h.val) * 128 + e.val) * 2304 + j.val) / 2304 % 1024 = 128 * h.val + e.val
      omega
    · show (((b.val * 8 + h.val) * 128 + e.val) * 2304 + j.val) % 2304 = j.val
      omega
  rw [e]
  show val_main_v5 x3 x4 (ix3 b (chan h _) j) = _
  generalize chan h _ = k
  unfold val_main_v5
  by_cases hj : j.val < 256
  · rw [join_turn_ctx _ _ _ hj]
    refine concatenate_pair_apply_left (t := S16x1024x2304) (s₁ := S16x1024x256) (s₂ := S16x1024x2048) 2 _ _ _ (ix3 b k j) rfl (ix3 b k ⟨j.val, hj⟩) (fun a => ?_)
    match a with
    | ⟨0, _⟩ | ⟨1, _⟩ | ⟨2, _⟩ => rfl
  · rw [join_turn_lat _ _ _ hj]
    refine concatenate_pair_apply_right (t := S16x1024x2304) (s₁ := S16x1024x256) (s₂ := S16x1024x2048) 2 _ _ _ (ix3 b k j) rfl rfl (ix3 b k ⟨j.val - 256, by omega⟩) (fun a ha => ?_) ?_
    · match a with
      | ⟨0, _⟩ | ⟨1, _⟩ => rfl
      | ⟨2, _⟩ => exact absurd rfl ha
    · show j.val - 256 + 256 = j.val
      omega

/-! ## The second distribution's weight -/

theorem row (i : Fin 4) (d : Fin 64) : val_main_v8 x5 (ix2 i d) = x5 (ix3 0 i d) := by
  rw [val_main_v8_apply]
  refine congrArg x5 (ix3_of rfl ?_ ?_)
  · show (i.val * 64 + d.val) / 64 % 4 = i.val
    omega
  · show (i.val * 64 + d.val) % 64 = d.val
    omega

theorem lam_eq (i : S_.Idx) : val_main_v24 x5 i = lambda fun i d => x5 (ix3 0 i d) := by
  have at' : ∀ (z : S4x64.Idx) (i : Fin 4) (d : Fin 64), (z 0).val = i.val → (z 1).val = d.val → val_main_v8 x5 z = x5 (ix3 0 i d) := fun z i d h0 h1 => by
    rw [← row x5 i d]
    refine congrArg (val_main_v8 x5) (funext fun a => Fin.ext ?_)
    match a with
    | ⟨0, _⟩ => exact h0
    | ⟨1, _⟩ => exact h1
  have s1 : val_main_v14 x5 i = ∑ d, x5 (ix3 0 0 d) * x5 (ix3 0 1 d) := by
    rw [val_main_v14_apply, val_main_cst_apply, sum_idx1]
    refine (congrArg (· + _) Ideal.ofBits_zero_f32).trans ((zero_add _).trans (Finset.sum_congr rfl fun d _ => ?_))
    rw [val_main_v13_apply, val_main_v10_apply, val_main_v9_apply, val_main_v12_apply, val_main_v11_apply]
    exact congrArg₂ (· * ·) (at' _ 0 d rfl (Nat.mod_eq_of_lt d.isLt)) (at' _ 1 d rfl (Nat.mod_eq_of_lt d.isLt))
  have s2 : val_main_v21 x5 i = ∑ d, x5 (ix3 0 2 d) * x5 (ix3 0 3 d) := by
    rw [val_main_v21_apply, val_main_cst_0_apply, sum_idx1]
    refine (congrArg (· + _) Ideal.ofBits_zero_f32).trans ((zero_add _).trans (Finset.sum_congr rfl fun d _ => ?_))
    rw [val_main_v20_apply, val_main_v17_apply, val_main_v16_apply, val_main_v19_apply, val_main_v18_apply]
    exact congrArg₂ (· * ·) (at' _ 2 d rfl (Nat.mod_eq_of_lt d.isLt)) (at' _ 3 d rfl (Nat.mod_eq_of_lt d.isLt))
  rw [val_main_v24_apply, val_main_v23_apply, val_main_v15_apply, val_main_v22_apply, s1, s2]
  rfl

theorem log_two (i : S_.Idx) : val_main_v25 (F := Ideal) i = ((Real.log 2 : ℝ) : EReal) := by
  rw [val_main_v25_apply, val_main_cst_2_apply]
  show Ideal.log (Ideal.ofBits .f32 0x40000000#32) = _
  rw [ofBits_two, Ideal.log_coe, if_neg (by norm_num)]

/-! ## The weights -/

section
variable (q kl : (⟨3, ![16, 2048, 1024]⟩ : Shape).Idx → ℝ) (kc : (⟨3, ![16, 256, 1024]⟩ : Shape).Idx → ℝ)
    (vl : (⟨3, ![16, 1024, 2048]⟩ : Shape).Idx → ℝ) (vc : (⟨3, ![16, 1024, 256]⟩ : Shape).Idx → ℝ) (lam : ℝ)

/-- The scores of one query row, in the reference's order of the keys. -/
def scores (b : Fin 16) (s : Fin 2048) (h : Fin 8) (u : Fin 2) (j : Fin 2304) : ℝ :=
  score (fun d => q (ix3 b s (chan h d))) (fun d => join (fun j => kl (ix3 b j (chan h d))) (fun j => kc (ix3 b j (chan h d))) (turn j)) u

variable (hq : ∀ i, x0 i = (q i : EReal)) (hkl : ∀ i, x1 i = (kl i : EReal)) (hkc : ∀ i, x2 i = (kc i : EReal))
include hq hkl hkc

theorem score_eq (b : Fin 16) (h : Fin 8) (u : Fin 2) (s : Fin 2048) (j : Fin 2304) :
    val_main_v28 x0 x1 x2 (ix5 b h u s j) = ((Real.log 2 * scores q kl kc b s h u j : ℝ) : EReal) := by
  rw [val_main_v28_apply]
  unfold scores score
  rw [Finset.mul_sum, coe_sum]
  refine Finset.sum_congr rfl fun d _ => ?_
  rw [val_main_v27_apply, val_main_v26_apply, log_two,
    (ix5_of rfl rfl rfl rfl rfl : lidx_main_v28 (ix5 b h u s j) d = ix5 b s h u d), query, hq,
    (ix5_of rfl rfl rfl rfl rfl : ridx_main_v28 (ix5 b h u s j) d = ix5 b j h u d), key, join_coe _ _ _ _ (fun j => hkl _) (fun j => hkc _)]
  refine (congrArg (· * _) (EReal.coe_mul _ _).symm).trans ((EReal.coe_mul _ _).symm.trans (congrArg _ ?_))
  ring

theorem max_real (b : Fin 16) (h : Fin 8) (u : Fin 2) (s : Fin 2048) : ∃ r : ℝ, val_main_v31 x0 x1 x2 (ix4 b h u s) = r := by
  have hr : ∀ i, ∃ r : ℝ, val_main_v28 x0 x1 x2 i = r := fun i => by
    obtain ⟨b, h, u, s, j, rfl⟩ : ∃ b h u s j, i = ix5 b h u s j := ⟨i 0, i 1, i 2, i 3, i 4, eq_ix5 i⟩
    exact ⟨_, score_eq x0 x1 x2 q kl kc hq hkl hkc b h u s j⟩
  have hm : ∃ r : ℝ, val_main_v29 x0 x1 x2 (ix4 b h u s) = r := by
    unfold val_main_v29
    rw [Host.reduce_eq_foldl]
    show ∃ r : ℝ, List.foldl (fun r i => max r (val_main_v28 x0 x1 x2 i)) (Ideal.ofBits .f32 0xFF800000#32) _ = _
    rw [ofBits_neg_inf]
    refine fold_bot_real _ hr _ (List.ne_nil_of_mem (a := ix5 b h u s 0) ?_)
    simp only [List.mem_filter, List.mem_map, List.mem_finRange, true_and, decide_eq_true_eq]
    exact ⟨⟨S16x8x2x2048x2304.rowMajor (ix5 b h u s 0), by simp⟩, ix4_of rfl rfl rfl rfl⟩
  obtain ⟨r, hr⟩ := hm
  refine ⟨r, ?_⟩
  rw [val_main_v31_apply, val_main_v30_apply, val_main_cst_4_apply, hr]
  show max (Ideal.ofBits .f32 0xFF800000#32) _ = _
  rw [ofBits_neg_inf]
  exact max_eq_right bot_le

theorem soft (b : Fin 16) (h : Fin 8) (u : Fin 2) (s : Fin 2048) (j : Fin 2304) :
    val_main_v39 x0 x1 x2 (ix5 b h u s j) = (weight (scores q kl kc b s h u) j : EReal) := by
  obtain ⟨N, hN⟩ := max_real x0 x1 x2 q kl kc hq hkl hkc b h u s
  have he : ∀ j, val_main_v35 x0 x1 x2 (ix5 b h u s j) = Ideal.exp (((Real.log 2 * scores q kl kc b s h u j : ℝ) : EReal) - (N : EReal)) := fun j => by
    rw [val_main_v35_apply, val_main_v34_apply, val_main_v33_apply, val_main_v32_apply, score_eq x0 x1 x2 q kl kc hq hkl hkc,
      (ix4_of rfl rfl rfl rfl : idx_main_v32 (idx_main_v33 (ix5 b h u s j)) = ix4 b h u s), hN]
    rfl
  rw [val_main_v39_apply, val_main_v38_apply, val_main_v37_apply, val_main_v36_apply, he, val_main_cst_5_apply]
  refine Eq.trans ?_ (soft_ref (scores q kl kc b s h u) N j)
  refine congrArg (Ideal.div _) ((congrArg (· + _) Ideal.ofBits_zero_f32).trans ((zero_add _).trans (Finset.sum_congr rfl fun k _ => ?_)))
  rw [(ix5_of rfl rfl rfl rfl rfl : idx_main_v36 (idx_main_v37 (idx_main_v38 (ix5 b h u s j))) k = ix5 b h u s k), he]

variable (hvl : ∀ i, x3 i = (vl i : EReal)) (hvc : ∀ i, x4 i = (vc i : EReal)) (hlam : (lambda fun i d => x5 (ix3 0 i d)) = (lam : EReal))
include hvl hvc hlam

theorem diff (b : Fin 16) (h : Fin 8) (s : Fin 2048) (j : Fin 2304) :
    val_main_v46 x0 x1 x2 x5 (ix4 b h s j) = (weight (scores q kl kc b s h 0) j : EReal) - (lam : EReal) * (weight (scores q kl kc b s h 1) j : EReal) := by
  rw [val_main_v46_apply, val_main_v45_apply, val_main_v44_apply, lam_eq, hlam, val_main_v41_apply, val_main_v40_apply, val_main_v43_apply, val_main_v42_apply]
  have e0 : idx_main_v40 (idx_main_v41 (ix4 b h s j)) = ix5 b h 0 s j := by
    refine ix5_of ?_ ?_ rfl ?_ ?_
    · show (((b.val * 8 + h.val) * 2048 + s.val) * 2304 + j.val) / 37748736 = b.val
      omega
    · show (((b.val * 8 + h.val) * 2048 + s.val) * 2304 + j.val) / 4718592 % 8 = h.val
      omega
    · show (((b.val * 8 + h.val) * 2048 + s.val) * 2304 + j.val) / 2304 % 2048 = s.val
      omega
    · show (((b.val * 8 + h.val) * 2048 + s.val) * 2304 + j.val) % 2304 = j.val
      omega
  have e1 : idx_main_v42 (idx_main_v43 (ix4 b h s j)) = ix5 b h 1 s j := by
    refine ix5_of ?_ ?_ rfl ?_ ?_
    · show (((b.val * 8 + h.val) * 2048 + s.val) * 2304 + j.val) / 37748736 = b.val
      omega
    · show (((b.val * 8 + h.val) * 2048 + s.val) * 2304 + j.val) / 4718592 % 8 = h.val
      omega
    · show (((b.val * 8 + h.val) * 2048 + s.val) * 2304 + j.val) / 2304 % 2048 = s.val
      omega
    · show (((b.val * 8 + h.val) * 2048 + s.val) * 2304 + j.val) % 2304 = j.val
      omega
  rw [e0, e1, soft x0 x1 x2 q kl kc hq hkl hkc, soft x0 x1 x2 q kl kc hq hkl hkc]
  rfl

theorem head_eq (b : Fin 16) (s : Fin 2048) (h : Fin 8) (e : Fin 128) :
    val_main_v48 x0 x1 x2 x3 x4 x5 (ix4 b s h e) = (head (fun d => q (ix3 b s (chan h d)))
      (fun j d => join (fun j => kl (ix3 b j (chan h d))) (fun j => kc (ix3 b j (chan h d))) j)
      (fun e => join (fun j => vl (ix3 b (chan h e) j)) (fun j => vc (ix3 b (chan h e) j))) lam e : EReal) := by
  rw [val_main_v48_apply, (ix4_of rfl rfl rfl rfl : idx_main_v48 (ix4 b s h e) = ix4 b h e s), val_main_v47_apply]
  unfold head
  rw [← mixed_equiv turn, ← head_ref]
  refine Finset.sum_congr rfl fun j _ => ?_
  rw [(ix4_of rfl rfl rfl rfl : lidx_main_v47 (ix4 b h e s) j = ix4 b h e j), value, join_coe _ _ _ _ (fun j => hvl _) (fun j => hvc _),
    (ix4_of rfl rfl rfl rfl : ridx_main_v47 (ix4 b h e s) j = ix4 b h s j), diff x0 x1 x2 x3 x4 x5 q kl kc vl vc lam hq hkl hkc hvl hvc hlam]
  rfl

/-- THE REFERENCE, read at an index. -/
theorem result (b : Fin 16) (s : Fin 2048) (d : Fin 1024) :
    val_main_v66 x0 x1 x2 x3 x4 x5 x6 (ix3 b s d)
      = attnRow q kl kc vl vc lam (fun e => x6 (ix2 0 e)) b s ⟨d.val / 128, by omega⟩ ⟨d.val % 128, by omega⟩ := by
  rw [val_main_v66_apply]
  have e : idx_main_v66 (ix3 b s d) = ix4 b s ⟨d.val / 128, by omega⟩ ⟨d.val % 128, by omega⟩ := by
    refine ix4_of ?_ ?_ ?_ ?_
    · show ((b.val * 2048 + s.val) * 1024 + d.val) / 2097152 = b.val
      omega
    · show ((b.val * 2048 + s.val) * 1024 + d.val) / 1024 % 2048 = s.val
      omega
    · show ((b.val * 2048 + s.val) * 1024 + d.val) / 128 % 8 = d.val / 128
      omega
    · show ((b.val * 2048 + s.val) * 1024 + d.val) % 128 = d.val % 128
      omega
  rw [e]
  generalize (⟨d.val / 128, _⟩ : Fin 8) = h
  generalize (⟨d.val % 128, _⟩ : Fin 128) = e
  have hh := head_eq x0 x1 x2 x3 x4 x5 q kl kc vl vc lam hq hkl hkc hvl hvc hlam b s h
  unfold attnRow normed
  simp only [← hh]
  rw [val_main_v65_apply, val_main_v64_apply, val_main_v62_apply, val_main_v58_apply, val_main_v63_apply, val_main_cst_9_apply, val_main_v61_apply, val_main_v60_apply,
    val_main_v59_apply, val_main_v57_apply, val_main_v56_apply, val_main_v55_apply, val_main_v54_apply, val_main_cst_8_apply, val_main_v53_apply, val_main_v52_apply,
    val_main_cst_7_apply, val_main_v51_apply, val_main_v50_apply, val_main_cst_6_apply]
  refine (mul_assoc _ _ _).trans (congrArg₂ (· * ·) (congrArg (_ * ·) (congrArg Ideal.rsqrt (congrArg (· + _) (congrArg (Ideal.div · _) ?_)))) (congrArg (· * _) ?_))
  · refine (congrArg (· + _) Ideal.ofBits_zero_f32).trans ((zero_add _).trans (Finset.sum_congr rfl fun k _ => ?_))
    rw [val_main_v49_apply, (ix4_of rfl rfl rfl rfl : idx_main_v50 (idx_main_v51 (idx_main_v57 (ix4 b s h e))) k = ix4 b s h k)]
    rfl
  · refine congrArg x6 (funext fun a => Fin.ext ?_)
    match a with
    | ⟨0, _⟩ => rfl
    | ⟨1, _⟩ => exact Nat.mod_eq_of_lt e.isLt

end

end Cert.Proof.Attn.Ref

end
-- ==== Proof.Attn.Claim.lean ====
/- The attention program and its reference end with the same array. -/
module

public import proofs.«01_k».proof.Defs
public import proofs.«01_k».proof.Proof.Attn.Array
public import proofs.«01_k».proof.Proof.Attn.Ref
public import proofs.«01_k».proof.Proof.Attn.Pre
public import proofs.«01_k».proof.Proof.Gen.KernelIdeal.Value
public import proofs.«01_k».proof.Proof.Gen.ReferenceIdeal.Run

@[expose] public section

noncomputable section

namespace Cert.Proof.Attn

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem

/-- THE VALUE CLAIM of the attention program. -/
theorem claim : Cert.algebraic_KernelIdeal_ReferenceIdeal_pre_finite (hKernelIdeal := Cert.KernelIdeal.Gen.facts) (hReferenceIdeal := Cert.ReferenceIdeal.Gen.facts) (hPre_finite := preFacts) := by
  intro m g m' g' hpre hag
  refine ⟨fun c => (Cert.KernelIdeal.Gen.dats (F := Ideal) m 0 c).arrAt 7 Cert.KernelIdeal.cfg0.N, (θ_run _ _ _).mono (fun r h c => h c) (Cert.KernelIdeal.Value.run_blocks m g),
    (θ_run _ _ _).mono (fun r h c => ⟨(h c).1.trans ?_, (h c).2⟩) (Cert.ReferenceIdeal.Value.run m' g')⟩
  refine (Cert.ReferenceIdeal.Read.val_main_v66_eq (F := Ideal) _ c).trans ?_
  simp only [StableHlo.launchContents_devRef]
  obtain ⟨h0, h1, h2, h3, h4, h5, h6⟩ := hag c
  rw [h0, h1, h2, h3, h4, h5, h6]
  obtain ⟨r0, r1, r2, r3, r4, r5⟩ := @pre_real preFacts m hpre c
  choose q hq using r0
  choose kl hkl using r1
  choose kc hkc using r2
  choose vl hvl using r3
  choose vc hvc using r4
  obtain ⟨lam, hlam⟩ := lambda_real (fun i d => m ((c.tc : Thread Cert.KernelIdeal.nD Cert.KernelIdeal.τ).loc Cert.KernelIdeal.main_arg5) (ix3 0 i d)) (fun i d => r5 _)
  refine Eq.trans ?_ (final m c q kl kc vl vc lam (fun i => (congrFun (Cert.KernelIdeal.Gen.V_main_arg0 m c) i).trans (hq i))
    (fun i => (congrFun (Cert.KernelIdeal.Gen.V_main_arg1 m c) i).trans (hkl i)) (fun i => (congrFun (Cert.KernelIdeal.Gen.V_main_arg2 m c) i).trans (hkc i))
    (fun i => (congrFun (Cert.KernelIdeal.Gen.V_main_arg3 m c) i).trans (hvl i)) (fun i => (congrFun (Cert.KernelIdeal.Gen.V_main_arg4 m c) i).trans (hvc i))
    ((congrArg lambda (funext fun i => funext fun d => congrFun (Cert.KernelIdeal.Gen.V_main_arg5 m c) (ix3 0 i d))).trans hlam)).symm
  funext i
  obtain ⟨b, s, d, rfl⟩ : ∃ b s d, i = ix3 b s d := ⟨i 0, i 1, i 2, eq_ix3 i⟩
  refine (Ref.result _ _ _ _ _ _ _ q kl kc vl vc lam hq hkl hkc hvl hvc hlam b s d).trans ?_
  exact congrArg (attnRow q kl kc vl vc lam · b s _ _) (funext fun e => (V_main_v0 m c e).symm)

end Cert.Proof.Attn

end
-- ==== Proof.Ctx.Array.lean ====
/- The context's keys and values after the run: each row, modulated, times its columns of the projection. -/
module

public import proofs.«01_k».proof.Proof.Post.Blocks
public import proofs.«01_k».proof.Proof.Gen.CtxIdeal.Value

@[expose] public section

set_option maxRecDepth 16384

noncomputable section

namespace Cert.Proof.Ctx

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.CtxIdeal Cert.CtxIdeal.Gen Cert.Post
open scoped BigOperators

/-- Column `j` of the projection of row `t` of the context; the modulation is row 16's. -/
def ctxRow (a0 : (⟨3, ![16, 256, 1024]⟩ : Shape).Idx → EReal) (a1 : (⟨4, ![2, 24, 1, 6144]⟩ : Shape).Idx → EReal)
    (a2 : (⟨3, ![1, 1024, 3072]⟩ : Shape).Idx → EReal) (b : Fin 16) (t : Fin 256) (j : Fin 3072) : EReal :=
  ∑ k : Fin 1024, modul (fun k => a0 (ix3 b t k)) (fun k => a1 (ix4 0 16 0 ⟨k.val, by omega⟩)) (fun k => a1 (ix4 0 16 0 ⟨1024 + k.val, by omega⟩)) k
    * a2 (ix3 0 k j)

/-! ## One block -/

section
variable (x0 : Vec Ideal S1x256x1024 .f32) (x1 x2 : Vec Ideal S1x1x1x1024 .f32) (x3 x4 : Vec Ideal S1x1024x1024 .bf16)

/-- The rows of the block times a matrix. -/
def blockG (w : Vec Ideal S1x1024x1024 .bf16) (r : Fin 256) (d : Fin 1024) : EReal :=
  ∑ k : Fin 1024, modul (fun k => x0 (ix3 0 r k)) (fun k => x1 (ix4 0 0 0 k)) (fun k => x2 (ix4 0 0 0 k)) k * w (ix3 0 k d)

theorem prod_apply (w : Vec Ideal S1x1024x1024 .bf16) (r : Fin 256) (d : Fin 1024) :
    prodV 1024 (modulV (shapeCast Tile x0 (by decide)) (row4 x1) (row4 x2)) w (ix2 r d) = blockG x0 x1 x2 w r d := by
  rw [prodV_apply]
  unfold blockG
  refine Finset.sum_congr rfl fun k _ => congrArg (· * _) ?_
  rw [modulV_apply]
  congr 1
  · exact funext fun k => shapeCast_1ab_ab_apply x0 _ r k
  · exact funext fun k => row4_apply x1 k
  · exact funext fun k => row4_apply x2 k

theorem keys_apply (r : Fin 256) (d : Fin 1024) : out0_5 x0 x1 x2 x3 x4 (ix3 0 r d) = blockG x0 x1 x2 x3 r d := by
  unfold out0_5
  rw [View.canon_cons_unit_lit _ _ _ (by decide), View.ld_unit_lit _ _ (by decide), View.ld_unit_lit _ _ (by decide), View.ld_unit_lit _ _ (by decide),
    View.ld_unit_lit _ _ (by decide)]
  unfold k0_pay2
  refine (shapeCast_ab_1ab_apply _ _ 0 r d).trans ?_
  exact prod_apply x0 x1 x2 x3 r d

theorem values_apply (d : Fin 1024) (r : Fin 256) : out0_6 x0 x1 x2 x3 x4 (ix3 0 d r) = blockG x0 x1 x2 x4 r d := by
  unfold out0_6
  rw [View.canon_cons_unit_lit _ _ _ (by decide), View.ld_unit_lit _ _ (by decide), View.ld_unit_lit _ _ (by decide), View.ld_unit_lit _ _ (by decide),
    View.ld_unit_lit _ _ (by decide)]
  unfold k0_pay3
  refine (shapeCast_ab_1ab_apply _ _ 0 d r).trans ?_
  rw [truncf_apply]
  refine (transpose_ix2_apply (a := 256) (b := 1024) _ _ d r).trans ?_
  exact prod_apply x0 x1 x2 x4 r d
end

/-! ## The blocks read and written -/

variable (m : (ℓ : Loc nD τ sig) → Buf (Elt Ideal) ℓ) (ρ : Dev nD → PrngReg) (c : Dev nD) (t : Fin cfg0.N)

theorem blk0 (r : Fin 256) (k : Fin 1024) : iblk m c 0 t (ix3 0 r k) = V m c main_arg0 (ix3 ⟨(grid0.coords t 0).val, (grid0.coords t 0).isLt⟩ r k) := by
  refine congrArg (V m c main_arg0) (funext fun a => Fin.ext ((win0_0.rect_emb_val t _ a).trans ?_))
  rw [(by decide +kernel : ∀ t : Fin grid0.N, win0_0.index t = ![(grid0.coords t 0).val, 0, 0]) t]
  match a with
  | ⟨0, _⟩ => exact Nat.mul_one _
  | ⟨1, _⟩ | ⟨2, _⟩ => exact Nat.zero_add _

theorem blk1 (k : Fin 1024) : iblk m c 1 t (ix4 0 0 0 k) = V m c main_arg1 (ix4 0 16 0 ⟨k.val, by omega⟩) := by
  refine congrArg (V m c main_arg1) (funext fun a => Fin.ext ((win0_1.rect_emb_val t _ a).trans ?_))
  rw [(by decide +kernel : ∀ t : Fin grid0.N, win0_1.index t = ![0, 16, 0, 0]) t]
  match a with
  | ⟨0, _⟩ | ⟨1, _⟩ | ⟨2, _⟩ => rfl
  | ⟨3, _⟩ => exact Nat.zero_add _

theorem blk2 (k : Fin 1024) : iblk m c 2 t (ix4 0 0 0 k) = V m c main_arg1 (ix4 0 16 0 ⟨1024 + k.val, by omega⟩) := by
  refine congrArg (V m c main_arg1) (funext fun a => Fin.ext ((win0_2.rect_emb_val t _ a).trans ?_))
  rw [(by decide +kernel : ∀ t : Fin grid0.N, win0_2.index t = ![0, 16, 0, 1]) t]
  match a with
  | ⟨0, _⟩ | ⟨1, _⟩ | ⟨2, _⟩ | ⟨3, _⟩ => rfl

theorem blk3 (r k : Fin 1024) : iblk m c 3 t (ix3 0 r k) = V m c main_arg2 (ix3 0 r ⟨1024 + k.val, by omega⟩) := by
  refine congrArg (V m c main_arg2) (funext fun a => Fin.ext ((win0_3.rect_emb_val t _ a).trans ?_))
  rw [(by decide +kernel : ∀ t : Fin grid0.N, win0_3.index t = ![0, 0, 1]) t]
  match a with
  | ⟨0, _⟩ | ⟨2, _⟩ => rfl
  | ⟨1, _⟩ => exact Nat.zero_add _

theorem blk4 (r k : Fin 1024) : iblk m c 4 t (ix3 0 r k) = V m c main_arg2 (ix3 0 r ⟨2048 + k.val, by omega⟩) := by
  refine congrArg (V m c main_arg2) (funext fun a => Fin.ext ((win0_4.rect_emb_val t _ a).trans ?_))
  rw [(by decide +kernel : ∀ t : Fin grid0.N, win0_4.index t = ![0, 0, 2]) t]
  match a with
  | ⟨0, _⟩ | ⟨2, _⟩ => rfl
  | ⟨1, _⟩ => exact Nat.zero_add _

theorem emb5 (r : Fin 256) (d : Fin 1024) : ((cfg0.win 5).blk t).view.emb (ix3 0 r d) = ix3 ⟨(grid0.coords t 0).val, (grid0.coords t 0).isLt⟩ r d := by
  refine funext fun a => Fin.ext ((win0_5.rect_emb_val t _ a).trans ?_)
  rw [(by decide +kernel : ∀ t : Fin grid0.N, win0_5.index t = ![(grid0.coords t 0).val, 0, 0]) t]
  match a with
  | ⟨0, _⟩ => exact Nat.mul_one _
  | ⟨1, _⟩ | ⟨2, _⟩ => exact Nat.zero_add _

theorem emb6 (d : Fin 1024) (r : Fin 256) : ((cfg0.win 6).blk t).view.emb (ix3 0 d r) = ix3 ⟨(grid0.coords t 0).val, (grid0.coords t 0).isLt⟩ d r := by
  refine funext fun a => Fin.ext ((win0_6.rect_emb_val t _ a).trans ?_)
  rw [(by decide +kernel : ∀ t : Fin grid0.N, win0_6.index t = ![(grid0.coords t 0).val, 0, 0]) t]
  match a with
  | ⟨0, _⟩ => exact Nat.mul_one _
  | ⟨1, _⟩ | ⟨2, _⟩ => exact Nat.zero_add _

theorem blockG_eq (w : Vec Ideal S1x1024x1024 .bf16) (o : Nat) (ho : o + 1024 ≤ 3072)
    (hw : ∀ r k : Fin 1024, w (ix3 0 r k) = V m c main_arg2 (ix3 0 r ⟨o + k.val, by omega⟩)) (r : Fin 256) (d : Fin 1024) :
    blockG (iblk m c 0 t) (iblk m c 1 t) (iblk m c 2 t) w r d
      = ctxRow (V m c main_arg0) (V m c main_arg1) (V m c main_arg2) ⟨(grid0.coords t 0).val, (grid0.coords t 0).isLt⟩ r ⟨o + d.val, by omega⟩ := by
  unfold blockG ctxRow
  simp only [blk0 m c t, blk1 m c t, blk2 m c t, hw]

/-- THE KEYS after the run. -/
theorem final5 : (dats m 0 c).arrAt 5 cfg0.N = fun i : S16x256x1024.Idx =>
    ctxRow (V m c main_arg0) (V m c main_arg1) (V m c main_arg2) (i 0) (i 1) ⟨1024 + (i 2).val, by have h : (i 2).val < 1024 := (i 2).isLt; omega⟩ := by
  refine (dats m 0 c).arrAt_eq_of_covers 5 _ (by decide +kernel) fun t hf y => ?_
  obtain ⟨a, r, d, rfl⟩ : ∃ (a : Fin 1) (r : Fin 256) (d : Fin 1024), y = ix3 a r d := ⟨y 0, y 1, y 2, eq_ix3 y⟩
  obtain rfl : a = 0 := Subsingleton.elim _ _
  rw [emb5]
  blk_simp
  rw [after0_5]
  exact (keys_apply ..).trans (blockG_eq m c t _ 1024 (by decide) (blk3 m c t) r d)

/-- THE VALUES after the run, by columns. -/
theorem final6 : (dats m 0 c).arrAt 6 cfg0.N = fun i : S16x1024x256.Idx =>
    ctxRow (V m c main_arg0) (V m c main_arg1) (V m c main_arg2) (i 0) (i 2) ⟨2048 + (i 1).val, by have h : (i 1).val < 1024 := (i 1).isLt; omega⟩ := by
  refine (dats m 0 c).arrAt_eq_of_covers 6 _ (by decide +kernel) fun t hf y => ?_
  obtain ⟨a, d, r, rfl⟩ : ∃ (a : Fin 1) (d : Fin 1024) (r : Fin 256), y = ix3 a d r := ⟨y 0, y 1, y 2, eq_ix3 y⟩
  obtain rfl : a = 0 := Subsingleton.elim _ _
  rw [emb6]
  blk_simp
  rw [after0_6]
  exact (values_apply ..).trans (blockG_eq m c t _ 2048 (by decide) (blk4 m c t) r d)

end Cert.Proof.Ctx

end
-- ==== Proof.Ctx.Ref.lean ====
/- What the reference of the context's projection computes, read at an index. -/
module

public import proofs.«01_k».proof.Proof.Ctx.Array
public import proofs.«01_k».proof.Proof.Gen.CtxRefIdeal.Read

@[expose] public section

set_option maxRecDepth 16384

noncomputable section

namespace Cert.Proof.Ctx.Ref

open Idealize.ShloMosaic hiding ix0 ix1 ix2 ix3 ix4 ix5 eq_ix1 eq_ix2 eq_ix3 eq_ix4 eq_ix5
open Idealize.ShloMosaic.ValueIdx
open Cert.CtxRefIdeal Cert.CtxRefIdeal.Read Cert.Post
open scoped BigOperators

variable (x0 : (⟨S16x256x1024, .f32⟩ : BufTy).Contents (Elt Ideal)) (x1 : (⟨S2x24x1x6144, .f32⟩ : BufTy).Contents (Elt Ideal))
  (x2 : (⟨S1x1024x3072, .bf16⟩ : BufTy).Contents (Elt Ideal)) (b : Fin 16) (t : Fin 256)

theorem shift (k : Fin 1024) : val_main_v10 x1 (ix3 b t k) = x1 (ix4 0 16 0 ⟨k.val, by omega⟩) := by
  rw [val_main_v10_apply, val_main_v9_apply, val_main_v2_apply, val_main_v1_apply, val_main_v0_apply]
  refine congrArg x1 (ix4_of rfl rfl rfl ?_)
  show (0 * 6144 + k.val) % 6144 = k.val
  omega

theorem scale (k : Fin 1024) : val_main_v7 x1 (ix3 b t k) = Ideal.ofBits .f32 0x3F800000#32 + x1 (ix4 0 16 0 ⟨1024 + k.val, by omega⟩) := by
  rw [val_main_v7_apply, val_main_v6_apply, val_main_v5_apply, val_main_v3_apply, val_main_v1_apply, val_main_v0_apply]
  refine congrArg (_ + ·) (congrArg x1 (ix4_of rfl rfl rfl ?_))
  show (0 * 6144 + (1024 + k.val)) % 6144 = 1024 + k.val
  omega

theorem row (j : Fin 2048) : val_main_v15 x0 x1 x2 (ix3 b t j) = ctxRow x0 x1 x2 b t ⟨1024 + j.val, by omega⟩ := by
  rw [val_main_v15_apply]
  unfold ctxRow modul
  refine Finset.sum_congr rfl fun k _ => ?_
  rw [(ix3_of rfl rfl rfl : lidx_main_v15 (ix3 b t j) k = ix3 b t k), val_main_v11_apply, val_main_v8_apply, shift, scale, val_main_v14_apply, val_main_v13_apply,
    val_main_v12_apply]
  refine congrArg (_ * ·) (congrArg x2 (ix3_of rfl ?_ ?_))
  · show (k.val * 2048 + j.val) / 2048 % 1024 = k.val
    omega
  · show 1024 + (k.val * 2048 + j.val) % 2048 = 1024 + j.val
    omega

theorem keys (d : Fin 1024) : val_main_v17 x0 x1 x2 (ix3 b t d) = ctxRow x0 x1 x2 b t ⟨1024 + d.val, by omega⟩ := by
  rw [val_main_v17_apply, val_main_v16_apply]
  exact (congrArg _ (ix3_of rfl rfl rfl)).trans (row x0 x1 x2 b t ⟨d.val, by omega⟩)

theorem values (d : Fin 1024) : val_main_v20 x0 x1 x2 (ix3 b d t) = ctxRow x0 x1 x2 b t ⟨2048 + d.val, by omega⟩ := by
  rw [val_main_v20_apply, val_main_v19_apply, val_main_v18_apply]
  refine (congrArg _ (ix3_of rfl rfl rfl)).trans ((row x0 x1 x2 b t ⟨1024 + d.val, by omega⟩).trans ?_)
  exact congrArg (ctxRow x0 x1 x2 b t) (Fin.ext (by show 1024 + (1024 + d.val) = 2048 + d.val; omega))

end Cert.Proof.Ctx.Ref

end
-- ==== Proof.Ctx.Claim.lean ====
/- The context's projection and its reference end with the same arrays. -/
module

public import proofs.«01_k».proof.Defs
public import proofs.«01_k».proof.Proof.Ctx.Ref
public import proofs.«01_k».proof.Proof.Gen.CtxRefIdeal.Run

@[expose] public section

noncomputable section

namespace Cert.Proof.Ctx

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem

/-- THE VALUE CLAIM of the context's projection. -/
theorem claim : Cert.algebraic_CtxIdeal_CtxRefIdeal (hCtxIdeal := Cert.CtxIdeal.Gen.facts) (hCtxRefIdeal := Cert.CtxRefIdeal.Gen.facts) := by
  intro m g m' g' _ hag
  refine ⟨fun c => (Cert.CtxIdeal.Gen.dats (F := Ideal) m 0 c).arrAt 5 Cert.CtxIdeal.cfg0.N, fun c => (Cert.CtxIdeal.Gen.dats (F := Ideal) m 0 c).arrAt 6 Cert.CtxIdeal.cfg0.N,
    (θ_run _ _ _).mono (fun r h c => h c) (Cert.CtxIdeal.Value.run_blocks m g),
    (θ_run _ _ _).mono (fun r h c => ⟨(h c).1.trans ?_, (h c).2.1.trans ?_, (h c).2.2⟩) (Cert.CtxRefIdeal.Value.run m' g')⟩
  · obtain ⟨h0, h1, h2⟩ := hag c
    refine (Cert.CtxRefIdeal.Read.val_main_v17_eq (F := Ideal) _ _ _).trans (Eq.trans ?_ (final5 m c).symm)
    rw [h0, h1, h2]
    funext i
    obtain ⟨b, t, d, rfl⟩ : ∃ b t d, i = ix3 b t d := ⟨i 0, i 1, i 2, eq_ix3 i⟩
    exact Ref.keys _ _ _ b t d
  · obtain ⟨h0, h1, h2⟩ := hag c
    refine (Cert.CtxRefIdeal.Read.val_main_v20_eq (F := Ideal) _ _ _).trans (Eq.trans ?_ (final6 m c).symm)
    rw [h0, h1, h2]
    funext i
    obtain ⟨b, d, t, rfl⟩ : ∃ b d t, i = ix3 b d t := ⟨i 0, i 1, i 2, eq_ix3 i⟩
    exact Ref.values _ _ _ b t d

end Cert.Proof.Ctx

end
-- ==== Proof.Qkv.Block.lean ====
/- The projection with its rotary embedding: what one block of each result holds, as the pieces stored to it. -/
module

public import proofs.«01_k».proof.Proof.Post.Blocks
public import proofs.«01_k».proof.Proof.Gen.QkvIdeal.Frame

@[expose] public section

set_option maxRecDepth 16384

noncomputable section

namespace Cert.Proof.Qkv

open Idealize.ShloMosaic hiding ix0 ix1 ix2 ix3 ix4 ix5 eq_ix1 eq_ix2 eq_ix3 eq_ix4 eq_ix5
open Idealize.ShloMosaic.ValueIdx Idealize.ShloMosaic.TcCoe Idealize.ShloMosaic.Tactic
open Cert.QkvIdeal Cert.QkvIdeal.Gen Cert.Post
open scoped BigOperators
variable {F : FTy → Type} [FloatOps F]
variable (m : (ℓ : Loc nD τ sig) → Buf (Elt F) ℓ) (ρ : Dev nD → PrngReg)

/-- The `a` by `b` part of a slab of `p` by `q` from row `o`, column `l` on. -/
abbrev cut (p q a b o l : Nat) (h : o + a ≤ p ∧ l + b ≤ q) : Rect (Slab p q) :=
  Rect.unit (s := Slab p q) ![0, o, l] (Slab a b).size (fun i => match i with | ⟨0, _⟩ => le_refl 1 | ⟨1, _⟩ => h.1 | ⟨2, _⟩ => h.2)

/-- The same of a matrix. -/
abbrev cut2 (p q a b o l : Nat) (h : o + a ≤ p ∧ l + b ≤ q) : Rect (Mat p q) :=
  Rect.unit (s := Mat p q) ![o, l] (Mat a b).size (fun i => match i with | ⟨0, _⟩ => h.1 | ⟨1, _⟩ => h.2)

section
variable (x0 : Vec F S1x1024x1024 .f32) (x1 x2 : Vec F S1x1x1x1024 .f32) (x3 x4 x5 : Vec F S1024x128 .f32) (x6 : Vec F S1x1024x2048 .bf16)
  (x7 : Vec F S1x1024x1024 .bf16)

/-- The rotation of one head's 128 columns. -/
def ropeV (a c u d : FVec F S256x128 .f32) : FVec F S256x128 .f32 :=
  addf (addf (mulf a c) (mulf (dynamicRotate 1 96#32 none a rotates_S256x128_d1) u)) (mulf (dynamicRotate 1 32#32 none a rotates_S256x128_d1) d)

/-- The modulated rows of one group of 256. -/
def rowsV (g : Fin 4) : FVec F S256x1024 .bf16 :=
  k0_pay7 (View.ld x2 (Rect.unit (s := S1x1x1x1024) ![0, 0, 0, 0] S1x1x1x1024.size (by decide)))
    (View.ld x1 (Rect.unit (s := S1x1x1x1024) ![0, 0, 0, 0] S1x1x1x1024.size (by decide)))
    (View.ld x0 (cut 1024 1024 256 1024 (256 * g.val) 0 (by omega)))

/-- The rows of a table that the group takes. -/
def tabV (x : Vec F S1024x128 .f32) (g : Fin 4) : FVec F S256x128 .f32 :=
  shapeCast S256x128 (View.ld x (cut2 1024 128 256 128 (256 * g.val) 0 (by omega)) : Vec F S256x128 .f32) shapeCasts_S256x128_S256x128

theorem slices_head (hd : Fin 8) : S256x1024.Slices ![0, 128 * hd.val] S256x128 := by revert hd; decide

/-- One head of one group, of the projection at column `o` on. -/
def headV (o : Nat) (ho : o + 1024 ≤ 2048) (g : Fin 4) (hd : Fin 8) : FVec F S1x256x128 .bf16 :=
  shapeCast S1x256x128 (truncf .bf16 (ropeV (extractStridedSlice S256x128 ![0, 128 * hd.val]
    (prodV 1024 (rowsV x0 x1 x2 g) (View.ld x6 (cut 1024 2048 1024 1024 0 o (by omega)))) (slices_head hd))
    (tabV x3 g) (tabV x4 g) (tabV x5 g)) bitsLt_bf16_f32) shapeCasts_S256x128_S1x256x128

def headPiece (o : Nat) (ho : o + 1024 ≤ 2048) (g : Fin 4) (hd : Fin 8) : View.Piece (Elt F) S1x1024x1024 .bf16 :=
  ⟨cut 1024 1024 256 128 (256 * g.val) (128 * hd.val) (by omega), headV x0 x1 x2 x3 x4 x5 x6 o ho g hd⟩

def headPieces (o : Nat) (ho : o + 1024 ≤ 2048) : List (View.Piece (Elt F) S1x1024x1024 .bf16) :=
  ([3, 2, 1, 0] : List (Fin 4)).flatMap fun g => ([7, 6, 5, 4, 3, 2, 1, 0] : List (Fin 8)).map fun hd => headPiece x0 x1 x2 x3 x4 x5 x6 o ho g hd

def valuePiece (g : Fin 4) : View.Piece (Elt F) S1x1024x1024 .bf16 :=
  ⟨cut 1024 1024 1024 256 0 (256 * g.val) (by omega),
    k0_pay13 (rowsV x0 x1 x2 g) (View.ld x7 (Rect.unit (s := S1x1024x1024) ![0, 0, 0] S1x1024x1024.size (by decide)))⟩

def valuePieces : List (View.Piece (Elt F) S1x1024x1024 .bf16) := ([3, 2, 1, 0] : List (Fin 4)).map fun g => valuePiece x0 x1 x2 x7 g
end

/-- A slab of each feed-forward weight, copied in the shorter format. -/
def inPieces (x8 : Vec F S1x64x5632 .f32) : List (View.Piece (Elt F) S1x64x5632 .bf16) :=
  [⟨Rect.unit (s := S1x64x5632) ![0, 0, 0] S1x64x5632.size (by decide), k0_pay3 (View.ld x8 (Rect.unit (s := S1x64x5632) ![0, 0, 0] S1x64x5632.size (by decide)))⟩]
def outPieces (x9 : Vec F S1x176x1024 .f32) : List (View.Piece (Elt F) S1x176x1024 .bf16) :=
  [⟨Rect.unit (s := S1x176x1024) ![0, 0, 0] S1x176x1024.size (by decide), k0_pay4 (View.ld x9 (Rect.unit (s := S1x176x1024) ![0, 0, 0] S1x176x1024.size (by decide)))⟩]

set_option maxHeartbeats 4000000 in
theorem queries_eq (c : Dev nD) (t : Fin cfg0.N) : (outsAt0 m c t).1 = View.canon (headPieces (iblk m c 0 t) (iblk m c 1 t) (iblk m c 2 t) (iblk m c 3 t) (iblk m c 4 t) (iblk m c 5 t) (X0_6 m c t) 0 (by decide)) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread]
  refine congrArg View.canon ?_
  unfold headPieces
  simp only [List.flatMap_cons, List.flatMap_nil, List.map_cons, List.map_nil, List.cons_append, List.nil_append]
  repeat' refine congrArg₂ List.cons ?_ ?_
  all_goals rfl

set_option maxHeartbeats 4000000 in
theorem keys_eq (c : Dev nD) (t : Fin cfg0.N) : (outsAt0 m c t).2.1 = View.canon (headPieces (iblk m c 0 t) (iblk m c 1 t) (iblk m c 2 t) (iblk m c 3 t) (iblk m c 4 t) (iblk m c 5 t) (X0_6 m c t) 1024 (by decide)) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread]
  refine congrArg View.canon ?_
  unfold headPieces
  simp only [List.flatMap_cons, List.flatMap_nil, List.map_cons, List.map_nil, List.cons_append, List.nil_append]
  repeat' refine congrArg₂ List.cons ?_ ?_
  all_goals rfl

set_option maxHeartbeats 4000000 in
theorem values_eq (c : Dev nD) (t : Fin cfg0.N) : (outsAt0 m c t).2.2.1 = View.canon (valuePieces (iblk m c 0 t) (iblk m c 1 t) (iblk m c 2 t) (iblk m c 7 t)) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread]
  refine congrArg View.canon ?_
  unfold valuePieces
  simp only [List.flatMap_cons, List.flatMap_nil, List.map_cons, List.map_nil, List.cons_append, List.nil_append]
  repeat' refine congrArg₂ List.cons ?_ ?_
  all_goals rfl

set_option maxHeartbeats 4000000 in
theorem ins_eq (c : Dev nD) (t : Fin cfg0.N) : (outsAt0 m c t).2.2.2.1 = View.canon (inPieces (iblk m c 8 t)) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread]
  refine congrArg View.canon ?_
  unfold inPieces
  simp only [List.flatMap_cons, List.flatMap_nil, List.map_cons, List.map_nil, List.cons_append, List.nil_append]
  repeat' refine congrArg₂ List.cons ?_ ?_
  all_goals rfl

set_option maxHeartbeats 4000000 in
theorem outs_eq (c : Dev nD) (t : Fin cfg0.N) : (outsAt0 m c t).2.2.2.2 = View.canon (outPieces (iblk m c 9 t)) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread]
  refine congrArg View.canon ?_
  unfold outPieces
  simp only [List.flatMap_cons, List.flatMap_nil, List.map_cons, List.map_nil, List.cons_append, List.nil_append]
  repeat' refine congrArg₂ List.cons ?_ ?_
  all_goals rfl

end Cert.Proof.Qkv

end
-- ==== Proof.Qkv.Tables.lean ====
/- The rotary tables the kernel is given, as the cosines and sines of the reference. -/
module

public import proofs.«01_k».proof.Proof.Post.Blocks
public import proofs.«01_k».proof.Proof.Gen.QkvIdeal.Frame
public import proofs.«01_k».proof.Proof.Gen.QkvRefIdeal.Read

@[expose] public section

set_option maxRecDepth 16384

noncomputable section

namespace Cert.Proof.Qkv

open Idealize.ShloMosaic hiding ix0 ix1 ix2 ix3 ix4 ix5 eq_ix1 eq_ix2 eq_ix3 eq_ix4 eq_ix5
open Idealize.ShloMosaic.ValueIdx Idealize.ShloMosaic.TcCoe Idealize.ShloMosaic.Tactic
open Cert.QkvIdeal Cert.QkvIdeal.Gen Cert.Post
open scoped BigOperators
variable (m : (ℓ : Loc nD τ sig) → Buf (Elt Ideal) ℓ) (c : Dev nD)

/-- The cosines and sines of the angles: of row `s` of the sequence, of pair `f`. -/
def cosA : (⟨2, ![2048, 32]⟩ : Shape).Idx → EReal := Cert.QkvRefIdeal.Read.val_main_v40 (F := Ideal)
def sinA : (⟨2, ![2048, 32]⟩ : Shape).Idx → EReal := Cert.QkvRefIdeal.Read.val_main_v41 (F := Ideal)

theorem V_cos : V m c main_v29 = (shapeCast S2048x128 (broadcastInDim S1x2048x4x32 ![0, 1, 2, 3] bcast_S1x2048x1x32_S1x2048x4x32_0_1_2_3
    (shapeCast S1x2048x1x32 cosA shapeCasts_S2048x32_S1x2048x1x32)) shapeCasts_S1x2048x4x32_S2048x128 : S2048x128.Idx → EReal) := by
  after_results_simp
  rfl

theorem V_up : V m c main_v32 = (concatenate S2048x128 1 [⟨S2048x32, fun i => -sinA i⟩, ⟨S2048x32, fun _ => 0⟩, ⟨S2048x32, fun i => -sinA i⟩, ⟨S2048x32, fun _ => 0⟩]
    concatenates_S2048x32_S2048x32_S2048x32_S2048x32_S2048x128_d1 : S2048x128.Idx → EReal) := by
  have h0 : (fun _ => 0 : S2048x32.Idx → EReal) = broadcastInDim S2048x32 ![] bcast_S_S2048x32 (constant (F := Ideal) S_ .f32 0x00000000#32) :=
    funext fun _ => Ideal.ofBits_zero_f32.symm
  rw [h0]
  after_results_simp
  rfl

theorem V_down : V m c main_v33 = (concatenate S2048x128 1 [⟨S2048x32, fun _ => 0⟩, ⟨S2048x32, sinA⟩, ⟨S2048x32, fun _ => 0⟩, ⟨S2048x32, sinA⟩]
    concatenates_S2048x32_S2048x32_S2048x32_S2048x32_S2048x128_d1 : S2048x128.Idx → EReal) := by
  have h0 : (fun _ => 0 : S2048x32.Idx → EReal) = broadcastInDim S2048x32 ![] bcast_S_S2048x32 (constant (F := Ideal) S_ .f32 0x00000000#32) :=
    funext fun _ => Ideal.ofBits_zero_f32.symm
  rw [h0]
  after_results_simp
  rfl

/-- Lane `l` of a table holds the number of pair `l % 32`. -/
theorem cos_at (s : Fin 2048) (l : Fin 128) : V m c main_v29 (ix2 s l) = cosA (ix2 s ⟨l.val % 32, by omega⟩) := by
  rw [V_cos]
  refine (shapeCast_apply _ _ (ix2 s l) (ix4 0 s ⟨l.val / 32, by omega⟩ ⟨l.val % 32, by omega⟩ : S1x2048x4x32.Idx) ?_).trans ?_
  · rw [Shape.rowMajor_val_two, Shape.rowMajor_val_four]
    show ((0 * 2048 + s.val) * 4 + l.val / 32) * 32 + l.val % 32 = s.val * 128 + l.val
    omega
  refine (broadcastInDim_apply _ _ _ _ (ix4 0 s 0 ⟨l.val % 32, by omega⟩ : S1x2048x1x32.Idx) (fun a => ?_)).trans ?_
  · match a with
    | ⟨0, _⟩ | ⟨1, _⟩ | ⟨2, _⟩ | ⟨3, _⟩ => rfl
  refine shapeCast_apply _ _ _ (ix2 s ⟨l.val % 32, by omega⟩ : S2048x32.Idx) ?_
  rw [Shape.rowMajor_val_two, Shape.rowMajor_val_four]
  show s.val * 32 + l.val % 32 = ((0 * 2048 + s.val) * 1 + 0) * 32 + l.val % 32
  omega

/-- Four pieces of 32 lanes side by side: lane `l` is of piece `l / 32`. -/
theorem cat_at (f : Fin 4 → (S2048x32.Idx → EReal)) (h) (s : Fin 2048) (l : Fin 128) :
    concatenate S2048x128 1 [⟨S2048x32, f 0⟩, ⟨S2048x32, f 1⟩, ⟨S2048x32, f 2⟩, ⟨S2048x32, f 3⟩] h (ix2 s l)
      = f ⟨l.val / 32, by omega⟩ (ix2 s ⟨l.val % 32, by omega⟩) :=
  concatenate_ofFn_apply (t := S2048x128) (s₁ := S2048x32) 1 f h rfl 32 rfl (ix2 s l) ⟨l.val / 32, by omega⟩ rfl (ix2 s ⟨l.val % 32, by omega⟩) rfl
    fun b hb => match b with
    | ⟨0, _⟩ => rfl
    | ⟨1, _⟩ => absurd rfl hb

/-- The table beside the lane above: minus the sine on the first half of each 64 lanes, zero on the second. -/
theorem up_at (s : Fin 2048) (l : Fin 128) : V m c main_v32 (ix2 s l) = if l.val % 64 < 32 then -sinA (ix2 s ⟨l.val % 32, by omega⟩) else 0 := by
  rw [V_up]
  refine (cat_at ![fun i => -sinA i, fun _ => 0, fun i => -sinA i, fun _ => 0] _ s l).trans ?_
  generalize (⟨l.val % 32, by omega⟩ : Fin 32) = p
  obtain h | h | h | h : l.val / 32 = 0 ∨ l.val / 32 = 1 ∨ l.val / 32 = 2 ∨ l.val / 32 = 3 := by omega
  all_goals simp only [h]
  · rw [if_pos (by omega)]; rfl
  · rw [if_neg (by omega)]; rfl
  · rw [if_pos (by omega)]; rfl
  · rw [if_neg (by omega)]; rfl

/-- The table beside the lane below: zero on the first half of each 64 lanes, the sine on the second. -/
theorem down_at (s : Fin 2048) (l : Fin 128) : V m c main_v33 (ix2 s l) = if l.val % 64 < 32 then 0 else sinA (ix2 s ⟨l.val % 32, by omega⟩) := by
  rw [V_down]
  refine (cat_at ![fun _ => 0, sinA, fun _ => 0, sinA] _ s l).trans ?_
  generalize (⟨l.val % 32, by omega⟩ : Fin 32) = p
  obtain h | h | h | h : l.val / 32 = 0 ∨ l.val / 32 = 1 ∨ l.val / 32 = 2 ∨ l.val / 32 = 3 := by omega
  all_goals simp only [h]
  · rw [if_pos (by omega)]; rfl
  · rw [if_neg (by omega)]; rfl
  · rw [if_pos (by omega)]; rfl
  · rw [if_neg (by omega)]; rfl

end Cert.Proof.Qkv

end
-- ==== Proof.Qkv.Rows.lean ====
/- One head of one group of rows, read at an index: the projected row, each pair of lanes turned by its angle. -/
module

public import proofs.«01_k».proof.Proof.Qkv.Block
public import proofs.«01_k».proof.Proof.Qkv.Tables
public import Idealize.ShloMosaic.Lib.KernelVsHost

@[expose] public section

set_option maxRecDepth 16384

noncomputable section

namespace Cert.Proof.Qkv

open Idealize.ShloMosaic hiding ix0 ix1 ix2 ix3 ix4 ix5 eq_ix1 eq_ix2 eq_ix3 eq_ix4 eq_ix5
open Idealize.ShloMosaic.ValueIdx Idealize.ShloMosaic.TcCoe
open Cert.QkvIdeal Cert.QkvIdeal.Gen Cert.Post
open scoped BigOperators

/-- Column `d` of a row, turned: lanes `p` and `p + 32` of each 64 by the angle of pair `p` at place `s`. -/
def rope (a : Fin 1024 → EReal) (s : Fin 2048) (d : Fin 1024) : EReal :=
  if h : d.val % 64 < 32 then a d * cosA (ix2 s ⟨d.val % 32, by omega⟩) - a ⟨d.val + 32, by omega⟩ * sinA (ix2 s ⟨d.val % 32, by omega⟩)
  else a ⟨d.val - 32, by omega⟩ * sinA (ix2 s ⟨d.val % 32, by omega⟩) + a d * cosA (ix2 s ⟨d.val % 32, by omega⟩)

/-- A row, modulated, times a column. -/
def proj (x sh sc : Fin 1024 → EReal) (w : Fin 1024 → EReal) : EReal := ∑ k : Fin 1024, modul x sh sc k * w k

theorem roll_apply (n : BitVec 32) (o : Nat) (ho : n.toNat + o = 128) (hn : n.toNat < 128) (a : FVec Ideal S256x128 .f32) (r : Fin 256) (e : Fin 128) :
    dynamicRotate 1 n none a rotates_S256x128_d1 (ix2 r e) = a (ix2 r ⟨(e.val + o) % 128, by omega⟩) :=
  dynamicRotate_apply 1 n a _ _ _ fun b => match b with
    | ⟨0, _⟩ => rfl
    | ⟨1, _⟩ => by
      show (e.val + o) % 128 = (e.val + 128 - n.toNat % 128) % 128
      rw [Nat.mod_eq_of_lt hn]
      congr 1
      omega

theorem ropeV_apply (a c u d : FVec Ideal S256x128 .f32) (r : Fin 256) (e : Fin 128) :
    ropeV a c u d (ix2 r e) = a (ix2 r e) * c (ix2 r e) + a (ix2 r ⟨(e.val + 32) % 128, by omega⟩) * u (ix2 r e)
      + a (ix2 r ⟨(e.val + 96) % 128, by omega⟩) * d (ix2 r e) := by
  have h1 := roll_apply 96#32 32 (by decide) (by decide) a r e
  have h2 := roll_apply 32#32 96 (by decide) (by decide) a r e
  rw [← h1, ← h2]
  rfl

/-- The kernel's turn by masked tables is the turn. -/
theorem turn (A : Fin 1024 → EReal) (hd : Fin 8) (s : Fin 2048) (a c u d : FVec Ideal S256x128 .f32) (r : Fin 256)
    (ha : ∀ l : Fin 128, a (ix2 r l) = A ⟨128 * hd.val + l.val, by omega⟩) (hc : ∀ l : Fin 128, c (ix2 r l) = cosA (ix2 s ⟨l.val % 32, by omega⟩))
    (hu : ∀ l : Fin 128, u (ix2 r l) = if l.val % 64 < 32 then -sinA (ix2 s ⟨l.val % 32, by omega⟩) else 0)
    (hv : ∀ l : Fin 128, d (ix2 r l) = if l.val % 64 < 32 then 0 else sinA (ix2 s ⟨l.val % 32, by omega⟩)) (e : Fin 128) :
    ropeV a c u d (ix2 r e) = rope A s ⟨128 * hd.val + e.val, by omega⟩ := by
  have e1 : (⟨(128 * hd.val + e.val) % 32, by omega⟩ : Fin 32) = ⟨e.val % 32, by omega⟩ := Fin.ext (by show (128 * hd.val + e.val) % 32 = e.val % 32; omega)
  rw [ropeV_apply, hc, hu, hv, ha, ha, ha]
  unfold rope
  by_cases h : e.val % 64 < 32
  · rw [if_pos h, if_pos h, dif_pos (by show (128 * hd.val + e.val) % 64 < 32; omega), mul_zero, add_zero, mul_neg, sub_eq_add_neg]
    simp only [e1]
    congr 4
    exact Fin.ext (by show 128 * hd.val + (e.val + 32) % 128 = 128 * hd.val + e.val + 32; omega)
  · rw [if_neg h, if_neg h, dif_neg (by show ¬ (128 * hd.val + e.val) % 64 < 32; omega), mul_zero, add_zero, add_comm]
    simp only [e1]
    congr 3
    exact Fin.ext (by show 128 * hd.val + (e.val + 96) % 128 = 128 * hd.val + e.val - 32; omega)

section
variable (x0 : Vec Ideal S1x1024x1024 .f32) (x1 x2 : Vec Ideal S1x1x1x1024 .f32) (x3 x4 x5 : Vec Ideal S1024x128 .f32) (x6 : Vec Ideal S1x1024x2048 .bf16)
  (x7 : Vec Ideal S1x1024x1024 .bf16)

theorem rowsV_apply (g : Fin 4) (r : Fin 256) (k : Fin 1024) : rowsV x0 x1 x2 g (ix2 r k)
    = modul (fun k => x0 (ix3 0 ⟨256 * g.val + r.val, by omega⟩ k)) (fun k => x1 (ix4 0 0 0 k)) (fun k => x2 (ix4 0 0 0 k)) k := by
  unfold rowsV
  rw [View.ld_unit_lit _ _ (by decide), View.ld_unit_lit _ _ (by decide)]
  refine (modulV_apply (shapeCast Tile (View.ld x0 (cut 1024 1024 256 1024 (256 * g.val) 0 (by omega)) : Vec Ideal (Slab 256 1024) .f32) shapeCasts_S1x256x1024_S256x1024) (row4 x1) (row4 x2) r k).trans ?_
  congr 1
  · exact funext fun k => (shapeCast_1ab_ab_apply _ _ r k).trans (ld_cut 1024 1024 256 1024 (256 * g.val) 0 _ x0 r k _ _ rfl (Nat.zero_add _).symm)
  · exact funext fun k => row4_apply x1 k
  · exact funext fun k => row4_apply x2 k

theorem tabV_apply (x : Vec Ideal S1024x128 .f32) (g : Fin 4) (r : Fin 256) (l : Fin 128) : tabV x g (ix2 r l) = x (ix2 ⟨256 * g.val + r.val, by omega⟩ l) := by
  unfold tabV
  refine (shapeCast_apply _ _ (ix2 r l) (ix2 r l) rfl).trans ?_
  exact View.ld_unit_apply_of x (![256 * g.val, 0] : Fin 2 → Nat) (Mat 256 128).size _ (ix2 r l) (ix2 ⟨256 * g.val + r.val, by omega⟩ l) fun i => match i with
    | ⟨0, _⟩ => rfl
    | ⟨1, _⟩ => (Nat.zero_add _).symm

/-- A row of the block times a column. -/
abbrev blockP (q : Fin 1024) (w : Fin 1024 → EReal) : EReal := proj (fun k => x0 (ix3 0 q k)) (fun k => x1 (ix4 0 0 0 k)) (fun k => x2 (ix4 0 0 0 k)) w

theorem headV_apply (o : Nat) (ho : o + 1024 ≤ 2048) (g : Fin 4) (hd : Fin 8) (s : Fin 2048) (r : Fin 256)
    (hc : ∀ l : Fin 128, x3 (ix2 ⟨256 * g.val + r.val, by omega⟩ l) = cosA (ix2 s ⟨l.val % 32, by omega⟩))
    (hu : ∀ l : Fin 128, x4 (ix2 ⟨256 * g.val + r.val, by omega⟩ l) = if l.val % 64 < 32 then -sinA (ix2 s ⟨l.val % 32, by omega⟩) else 0)
    (hv : ∀ l : Fin 128, x5 (ix2 ⟨256 * g.val + r.val, by omega⟩ l) = if l.val % 64 < 32 then 0 else sinA (ix2 s ⟨l.val % 32, by omega⟩)) (e : Fin 128) :
    headV x0 x1 x2 x3 x4 x5 x6 o ho g hd (ix3 0 r e)
      = rope (fun j => blockP x0 x1 x2 ⟨256 * g.val + r.val, by omega⟩ fun k => x6 (ix3 0 k ⟨o + j.val, by omega⟩)) s ⟨128 * hd.val + e.val, by omega⟩ := by
  unfold headV
  refine (shapeCast_ab_1ab_apply _ _ 0 r e).trans ?_
  rw [truncf_apply]
  refine turn _ hd s _ _ _ _ r (fun l => ?_) (fun l => (tabV_apply x3 g r l).trans (hc l)) (fun l => (tabV_apply x4 g r l).trans (hu l))
    (fun l => (tabV_apply x5 g r l).trans (hv l)) e
  refine (extractStridedSlice_apply _ _ _ (ix2 r l) (ix2 r ⟨128 * hd.val + l.val, by omega⟩) (fun a => ?_)).trans ?_
  · match a with
    | ⟨0, _⟩ => exact (Nat.zero_add _).symm
    | ⟨1, _⟩ => rfl
  rw [prodV_apply]
  refine Finset.sum_congr rfl fun k _ => ?_
  rw [rowsV_apply]
  exact congrArg (_ * ·) (ld_cut 1024 2048 1024 1024 0 o _ x6 k ⟨128 * hd.val + l.val, by omega⟩ _ _ (Nat.zero_add _).symm rfl)

theorem valueV_apply (g : Fin 4) (d : Fin 1024) (r : Fin 256) :
    k0_pay13 (rowsV x0 x1 x2 g) (View.ld x7 (Rect.unit (s := S1x1024x1024) ![0, 0, 0] S1x1024x1024.size (by decide))) (ix3 0 d r)
      = blockP x0 x1 x2 ⟨256 * g.val + r.val, by omega⟩ fun k => x7 (ix3 0 k d) := by
  rw [View.ld_unit_lit _ _ (by decide)]
  unfold k0_pay13
  refine (shapeCast_ab_1ab_apply _ _ 0 d r).trans ?_
  rw [truncf_apply]
  refine (transpose_ix2_apply (a := 256) (b := 1024) _ _ d r).trans ((prodV_apply (rowsV x0 x1 x2 g) x7 r d).trans ?_)
  exact Finset.sum_congr rfl fun k _ => congrArg (· * _) (rowsV_apply x0 x1 x2 g r k)

end

end Cert.Proof.Qkv

end
-- ==== Proof.Qkv.Array.lean ====
/- The queries, keys, values and copied weights after the run of the projection. -/
module

public import proofs.«01_k».proof.Proof.Qkv.Rows
public import proofs.«01_k».proof.Proof.Gen.QkvIdeal.Value

@[expose] public section

set_option maxRecDepth 16384

noncomputable section

namespace Cert.Proof.Qkv

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.QkvIdeal Cert.QkvIdeal.Gen Cert.Post
open scoped BigOperators

/-- Column `j` of the projection of row `s` of sequence `b`; the modulation is row `b`'s. -/
def qkvRow (a0 : (⟨3, ![16, 2048, 1024]⟩ : Shape).Idx → EReal) (a1 : (⟨4, ![2, 24, 1, 6144]⟩ : Shape).Idx → EReal)
    (a2 : (⟨3, ![1, 1024, 3072]⟩ : Shape).Idx → EReal) (b : Fin 16) (s : Fin 2048) (j : Fin 3072) : EReal :=
  proj (fun k => a0 (ix3 b s k)) (fun k => a1 (ix4 0 ⟨b.val, by omega⟩ 0 ⟨k.val, by omega⟩)) (fun k => a1 (ix4 0 ⟨b.val, by omega⟩ 0 ⟨1024 + k.val, by omega⟩))
    fun k => a2 (ix3 0 k j)

/-- Column `d` of the queries (`o` is 0) or of the keys (`o` is 1024). -/
def turned (a0 : (⟨3, ![16, 2048, 1024]⟩ : Shape).Idx → EReal) (a1 : (⟨4, ![2, 24, 1, 6144]⟩ : Shape).Idx → EReal)
    (a2 : (⟨3, ![1, 1024, 3072]⟩ : Shape).Idx → EReal) (o : Nat) (ho : o + 1024 ≤ 2048) (b : Fin 16) (s : Fin 2048) (d : Fin 1024) : EReal :=
  rope (fun j => qkvRow a0 a1 a2 b s ⟨o + j.val, by omega⟩) s d

/-! ## The blocks, read at an index -/

variable (m : (ℓ : Loc nD τ sig) → Buf (Elt Ideal) ℓ) (ρ : Dev nD → PrngReg) (c : Dev nD) (t : Fin cfg0.N)

/-- The sequence of a grid point, and the place of a row of its tile. -/
abbrev seqOf : Fin 16 := ⟨(grid0.coords t 0).val, (grid0.coords t 0).isLt⟩
abbrev placeOf (q : Fin 1024) : Fin 2048 := ⟨(grid0.coords t 1).val * 1024 + q.val, by have h : (grid0.coords t 1).val < 2 := (grid0.coords t 1).isLt; omega⟩

theorem blk0 (q k : Fin 1024) : iblk m c 0 t (ix3 0 q k) = V m c main_arg0 (ix3 (seqOf t) (placeOf t q) k) := by
  refine congrArg (V m c main_arg0) (funext fun a => Fin.ext ((win0_0.rect_emb_val t _ a).trans ?_))
  rw [(by decide +kernel : ∀ t : Fin grid0.N, win0_0.index t = ![(grid0.coords t 0).val, (grid0.coords t 1).val, 0]) t]
  match a with
  | ⟨0, _⟩ => exact Nat.mul_one _
  | ⟨1, _⟩ => rfl
  | ⟨2, _⟩ => exact Nat.zero_add _

theorem blk1 (k : Fin 1024) : iblk m c 1 t (ix4 0 0 0 k) = V m c main_arg1 (ix4 0 ⟨(seqOf t).val, by omega⟩ 0 ⟨k.val, by omega⟩) := by
  refine congrArg (V m c main_arg1) (funext fun a => Fin.ext ((win0_1.rect_emb_val t _ a).trans ?_))
  rw [(by decide +kernel : ∀ t : Fin grid0.N, win0_1.index t = ![0, (grid0.coords t 0).val, 0, 0]) t]
  match a with
  | ⟨0, _⟩ | ⟨2, _⟩ => rfl
  | ⟨1, _⟩ => exact Nat.mul_one _
  | ⟨3, _⟩ => exact Nat.zero_add _

theorem blk2 (k : Fin 1024) : iblk m c 2 t (ix4 0 0 0 k) = V m c main_arg1 (ix4 0 ⟨(seqOf t).val, by omega⟩ 0 ⟨1024 + k.val, by omega⟩) := by
  refine congrArg (V m c main_arg1) (funext fun a => Fin.ext ((win0_2.rect_emb_val t _ a).trans ?_))
  rw [(by decide +kernel : ∀ t : Fin grid0.N, win0_2.index t = ![0, (grid0.coords t 0).val, 0, 1]) t]
  match a with
  | ⟨0, _⟩ | ⟨2, _⟩ | ⟨3, _⟩ => rfl
  | ⟨1, _⟩ => exact Nat.mul_one _

theorem blk3 (q : Fin 1024) (l : Fin 128) : iblk m c 3 t (ix2 q l) = V m c main_v29 (ix2 (placeOf t q) l) := by
  refine congrArg (V m c main_v29) (funext fun a => Fin.ext ((win0_3.rect_emb_val t _ a).trans ?_))
  rw [(by decide +kernel : ∀ t : Fin grid0.N, win0_3.index t = ![(grid0.coords t 1).val, 0]) t]
  match a with
  | ⟨0, _⟩ => rfl
  | ⟨1, _⟩ => exact Nat.zero_add _

theorem blk4 (q : Fin 1024) (l : Fin 128) : iblk m c 4 t (ix2 q l) = V m c main_v32 (ix2 (placeOf t q) l) := by
  refine congrArg (V m c main_v32) (funext fun a => Fin.ext ((win0_4.rect_emb_val t _ a).trans ?_))
  rw [(by decide +kernel : ∀ t : Fin grid0.N, win0_4.index t = ![(grid0.coords t 1).val, 0]) t]
  match a with
  | ⟨0, _⟩ => rfl
  | ⟨1, _⟩ => exact Nat.zero_add _

theorem blk5 (q : Fin 1024) (l : Fin 128) : iblk m c 5 t (ix2 q l) = V m c main_v33 (ix2 (placeOf t q) l) := by
  refine congrArg (V m c main_v33) (funext fun a => Fin.ext ((win0_5.rect_emb_val t _ a).trans ?_))
  rw [(by decide +kernel : ∀ t : Fin grid0.N, win0_5.index t = ![(grid0.coords t 1).val, 0]) t]
  match a with
  | ⟨0, _⟩ => rfl
  | ⟨1, _⟩ => exact Nat.zero_add _

theorem blk6 (k : Fin 1024) (j : Fin 2048) : X0_6 m c t (ix3 0 k j) = V m c main_arg2 (ix3 0 k ⟨j.val, by omega⟩) := by
  unfold X0_6 Pipeline.Window.fill
  rw [dif_pos (moved0_6 t _)]
  refine congrArg (V m c main_arg2) (funext fun a => Fin.ext ((win0_6.rect_emb_val t _ a).trans ?_))
  rw [(by decide +kernel : ∀ t : Fin grid0.N, win0_6.index t = ![0, 0, 0]) t]
  match a with
  | ⟨0, _⟩ => rfl
  | ⟨1, _⟩ | ⟨2, _⟩ => exact Nat.zero_add _

theorem blk7 (k d : Fin 1024) : iblk m c 7 t (ix3 0 k d) = V m c main_arg2 (ix3 0 k ⟨2048 + d.val, by omega⟩) := by
  refine congrArg (V m c main_arg2) (funext fun a => Fin.ext ((win0_7.rect_emb_val t _ a).trans ?_))
  rw [(by decide +kernel : ∀ t : Fin grid0.N, win0_7.index t = ![0, 0, 2]) t]
  match a with
  | ⟨0, _⟩ | ⟨2, _⟩ => rfl
  | ⟨1, _⟩ => exact Nat.zero_add _

theorem emb10 (q d : Fin 1024) : ((cfg0.win 10).blk t).view.emb (ix3 0 q d) = ix3 (seqOf t) (placeOf t q) d := by
  refine funext fun a => Fin.ext ((win0_10.rect_emb_val t _ a).trans ?_)
  rw [(by decide +kernel : ∀ t : Fin grid0.N, win0_10.index t = ![(grid0.coords t 0).val, (grid0.coords t 1).val, 0]) t]
  match a with
  | ⟨0, _⟩ => exact Nat.mul_one _
  | ⟨1, _⟩ => rfl
  | ⟨2, _⟩ => exact Nat.zero_add _

theorem emb11 (q d : Fin 1024) : ((cfg0.win 11).blk t).view.emb (ix3 0 q d) = ix3 (seqOf t) (placeOf t q) d := by
  refine funext fun a => Fin.ext ((win0_11.rect_emb_val t _ a).trans ?_)
  rw [(by decide +kernel : ∀ t : Fin grid0.N, win0_11.index t = ![(grid0.coords t 0).val, (grid0.coords t 1).val, 0]) t]
  match a with
  | ⟨0, _⟩ => exact Nat.mul_one _
  | ⟨1, _⟩ => rfl
  | ⟨2, _⟩ => exact Nat.zero_add _

theorem emb12 (d q : Fin 1024) : ((cfg0.win 12).blk t).view.emb (ix3 0 d q) = ix3 (seqOf t) d (placeOf t q) := by
  refine funext fun a => Fin.ext ((win0_12.rect_emb_val t _ a).trans ?_)
  rw [(by decide +kernel : ∀ t : Fin grid0.N, win0_12.index t = ![(grid0.coords t 0).val, 0, (grid0.coords t 1).val]) t]
  match a with
  | ⟨0, _⟩ => exact Nat.mul_one _
  | ⟨1, _⟩ => exact Nat.zero_add _
  | ⟨2, _⟩ => rfl

/-! ## The results -/

theorem mem_cut {p q a b o l : Nat} (h : o + a ≤ p ∧ l + b ≤ q) (s : Fin p) (k : Fin q) (h1 : o ≤ s.val ∧ s.val < o + a) (h2 : l ≤ k.val ∧ k.val < l + b) :
    ix3 0 s k ∈ (cut p q a b o l h).set :=
  Rect.mem_set_unit.2 fun i => match i with
    | ⟨0, _⟩ => ⟨Nat.le_refl 0, Nat.one_pos⟩
    | ⟨1, _⟩ => h1
    | ⟨2, _⟩ => h2

theorem emb_cut {p q a b o l : Nat} (h : o + a ≤ p ∧ l + b ≤ q) (r : Fin a) (e : Fin b) :
    (cut p q a b o l h).emb (ix3 0 r e) = ix3 0 ⟨o + r.val, by omega⟩ ⟨l + e.val, by omega⟩ :=
  ix3_of (Rect.idx_unit_val ..) (Rect.idx_unit_val ..) (Rect.idx_unit_val ..)

/-- The rows of a point's tile times a column, of the arrays. -/
theorem blockP_eq (q : Fin 1024) (w : Fin 1024 → EReal) : blockP (iblk m c 0 t) (iblk m c 1 t) (iblk m c 2 t) q w
    = proj (fun k => V m c main_arg0 (ix3 (seqOf t) (placeOf t q) k)) (fun k => V m c main_arg1 (ix4 0 ⟨(seqOf t).val, by omega⟩ 0 ⟨k.val, by omega⟩))
      (fun k => V m c main_arg1 (ix4 0 ⟨(seqOf t).val, by omega⟩ 0 ⟨1024 + k.val, by omega⟩)) w := by
  simp only [blockP, blk0 m c t, blk1 m c t, blk2 m c t]

theorem heads_apply (o : Nat) (ho : o + 1024 ≤ 2048) (q d : Fin 1024) :
    View.canon (headPieces (iblk m c 0 t) (iblk m c 1 t) (iblk m c 2 t) (iblk m c 3 t) (iblk m c 4 t) (iblk m c 5 t) (X0_6 m c t) o ho) (ix3 0 q d)
      = turned (V m c main_arg0) (V m c main_arg1) (V m c main_arg2) o ho (seqOf t) (placeOf t q) d := by
  refine View.canon_apply_of_pieces (Val := Elt Ideal) (e := .bf16)
    (fun y : S1x1024x1024.Idx => turned (V m c main_arg0) (V m c main_arg1) (V m c main_arg2) o ho (seqOf t) (placeOf t (y 1)) (y 2))
    _ (fun p hp => ?_) (ix3 0 q d) ?_
  · unfold headPieces at hp
    obtain ⟨g, -, hp⟩ := List.mem_flatMap.1 hp
    obtain ⟨hd, -, rfl⟩ := List.mem_map.1 hp
    intro x
    obtain ⟨a, r, e, rfl⟩ : ∃ (a : Fin 1) (r : Fin 256) (e : Fin 128), x = ix3 a r e := ⟨x 0, x 1, x 2, eq_ix3 x⟩
    obtain rfl : a = 0 := Subsingleton.elim _ _
    refine (headV_apply _ _ _ _ _ _ _ o ho g hd (placeOf t ⟨256 * g.val + r.val, by omega⟩) r (fun l => (blk3 m c t _ l).trans (cos_at m c _ l))
      (fun l => (blk4 m c t _ l).trans (up_at m c _ l)) (fun l => (blk5 m c t _ l).trans (down_at m c _ l)) e).trans ?_
    have he := emb_cut (p := 1024) (q := 1024) (a := 256) (b := 128) (o := 256 * g.val) (l := 128 * hd.val) (by omega) r e
    refine Eq.trans ?_ (congrArg (fun y : S1x1024x1024.Idx => turned (V m c main_arg0) (V m c main_arg1) (V m c main_arg2) o ho (seqOf t) (placeOf t (y 1)) (y 2)) he).symm
    refine congrArg (rope · _ _) (funext fun j => ?_)
    rw [blockP_eq]
    exact congrArg (proj _ _ _) (funext fun k => blk6 m c t k _)
  · exact ⟨headPiece _ _ _ _ _ _ _ o ho ⟨q.val / 256, by omega⟩ ⟨d.val / 128, by omega⟩,
      List.mem_flatMap.2 ⟨_, (by decide : ∀ g : Fin 4, g ∈ ([3, 2, 1, 0] : List (Fin 4))) _,
        List.mem_map.2 ⟨_, (by decide : ∀ h : Fin 8, h ∈ ([7, 6, 5, 4, 3, 2, 1, 0] : List (Fin 8))) _, rfl⟩⟩,
      mem_cut (by show 256 * (q.val / 256) + 256 ≤ 1024 ∧ 128 * (d.val / 128) + 128 ≤ 1024; omega) q d
        (by show 256 * (q.val / 256) ≤ q.val ∧ q.val < 256 * (q.val / 256) + 256; omega) (by show 128 * (d.val / 128) ≤ d.val ∧ d.val < 128 * (d.val / 128) + 128; omega)⟩

theorem values_apply (d q : Fin 1024) :
    View.canon (valuePieces (iblk m c 0 t) (iblk m c 1 t) (iblk m c 2 t) (iblk m c 7 t)) (ix3 0 d q)
      = qkvRow (V m c main_arg0) (V m c main_arg1) (V m c main_arg2) (seqOf t) (placeOf t q) ⟨2048 + d.val, by omega⟩ := by
  refine View.canon_apply_of_pieces (Val := Elt Ideal) (e := .bf16)
    (fun y : S1x1024x1024.Idx => qkvRow (V m c main_arg0) (V m c main_arg1) (V m c main_arg2) (seqOf t) (placeOf t (y 2))
      ⟨2048 + (y 1).val, by have h : (y 1).val < 1024 := (y 1).isLt; omega⟩)
    _ (fun p hp => ?_) (ix3 0 d q) ?_
  · unfold valuePieces at hp
    obtain ⟨g, -, rfl⟩ := List.mem_map.1 hp
    intro x
    obtain ⟨a, e, r, rfl⟩ : ∃ (a : Fin 1) (e : Fin 1024) (r : Fin 256), x = ix3 a e r := ⟨x 0, x 1, x 2, eq_ix3 x⟩
    obtain rfl : a = 0 := Subsingleton.elim _ _
    refine (valueV_apply _ _ _ _ g e r).trans ?_
    have he := emb_cut (p := 1024) (q := 1024) (a := 1024) (b := 256) (o := 0) (l := 256 * g.val) (by omega) e r
    refine Eq.trans ?_ (congrArg (fun y : S1x1024x1024.Idx => qkvRow (V m c main_arg0) (V m c main_arg1) (V m c main_arg2) (seqOf t) (placeOf t (y 2))
      ⟨2048 + (y 1).val, by have h : (y 1).val < 1024 := (y 1).isLt; omega⟩) he).symm
    rw [blockP_eq]
    refine congrArg (proj _ _ _) (funext fun k => (blk7 m c t k e).trans (congrArg (V m c main_arg2) (congrArg (ix3 0 k) (Fin.ext ?_))))
    show 2048 + e.val = 2048 + (0 + e.val)
    omega
  · exact ⟨valuePiece _ _ _ _ ⟨q.val / 256, by omega⟩, List.mem_map.2 ⟨_, (by decide : ∀ g : Fin 4, g ∈ ([3, 2, 1, 0] : List (Fin 4))) _, rfl⟩,
      mem_cut (by show 0 + 1024 ≤ 1024 ∧ 256 * (q.val / 256) + 256 ≤ 1024; omega) d q (by omega)
        (by show 256 * (q.val / 256) ≤ q.val ∧ q.val < 256 * (q.val / 256) + 256; omega)⟩

/-- THE QUERIES after the run. -/
theorem final10 : (dats m 0 c).arrAt 10 cfg0.N = fun i : S16x2048x1024.Idx =>
    turned (V m c main_arg0) (V m c main_arg1) (V m c main_arg2) 0 (by decide) (i 0) (i 1) (i 2) := by
  refine (dats m 0 c).arrAt_eq_of_covers 10 _ (by decide +kernel) fun t hf y => ?_
  obtain ⟨a, q, d, rfl⟩ : ∃ (a : Fin 1) (q d : Fin 1024), y = ix3 a q d := ⟨y 0, y 1, y 2, eq_ix3 y⟩
  obtain rfl : a = 0 := Subsingleton.elim _ _
  rw [emb10]
  blk_simp
  rw [after0_10, queries_eq]
  exact heads_apply m c t 0 _ q d

/-- THE KEYS after the run. -/
theorem final11 : (dats m 0 c).arrAt 11 cfg0.N = fun i : S16x2048x1024.Idx =>
    turned (V m c main_arg0) (V m c main_arg1) (V m c main_arg2) 1024 (by decide) (i 0) (i 1) (i 2) := by
  refine (dats m 0 c).arrAt_eq_of_covers 11 _ (by decide +kernel) fun t hf y => ?_
  obtain ⟨a, q, d, rfl⟩ : ∃ (a : Fin 1) (q d : Fin 1024), y = ix3 a q d := ⟨y 0, y 1, y 2, eq_ix3 y⟩
  obtain rfl : a = 0 := Subsingleton.elim _ _
  rw [emb11]
  blk_simp
  rw [after0_11, keys_eq]
  exact heads_apply m c t 1024 _ q d

/-- THE VALUES after the run, by columns. -/
theorem final12 : (dats m 0 c).arrAt 12 cfg0.N = fun i : S16x1024x2048.Idx =>
    qkvRow (V m c main_arg0) (V m c main_arg1) (V m c main_arg2) (i 0) (i 2) ⟨2048 + (i 1).val, by have h : (i 1).val < 1024 := (i 1).isLt; omega⟩ := by
  refine (dats m 0 c).arrAt_eq_of_covers 12 _ (by decide +kernel) fun t hf y => ?_
  obtain ⟨a, d, q, rfl⟩ : ∃ (a : Fin 1) (d q : Fin 1024), y = ix3 a d q := ⟨y 0, y 1, y 2, eq_ix3 y⟩
  obtain rfl : a = 0 := Subsingleton.elim _ _
  rw [emb12]
  blk_simp
  rw [after0_12, values_eq]
  exact values_apply m c t d q

/-! ## The copied weights -/

theorem ins_apply (r : Fin 64) (k : Fin 5632) (x : Vec Ideal S1x64x5632 .f32) : View.canon (inPieces x) (ix3 0 r k) = x (ix3 0 r k) := by
  unfold inPieces
  rw [View.canon_cons_unit_lit _ _ _ (by decide), View.ld_unit_lit _ _ (by decide)]
  unfold k0_pay3
  exact (shapeCast_ab_1ab_apply _ _ 0 r k).trans (shapeCast_1ab_ab_apply x _ r k)

theorem outs_apply (r : Fin 176) (k : Fin 1024) (x : Vec Ideal S1x176x1024 .f32) : View.canon (outPieces x) (ix3 0 r k) = x (ix3 0 r k) := by
  unfold outPieces
  rw [View.canon_cons_unit_lit _ _ _ (by decide), View.ld_unit_lit _ _ (by decide)]
  unfold k0_pay4
  exact (shapeCast_ab_1ab_apply _ _ 0 r k).trans (shapeCast_1ab_ab_apply x _ r k)

/-- THE COPY of the first weight holds its numbers: each point's slab is read and written at one place. -/
theorem final13 : (dats m 0 c).arrAt 13 cfg0.N = fun i : S2x1024x5632.Idx => V m c main_arg3 i := by
  refine (dats m 0 c).arrAt_eq_of_covers 13 _ (by decide +kernel) fun t hf y => ?_
  obtain ⟨a, r, k, rfl⟩ : ∃ (a : Fin 1) (r : Fin 64) (k : Fin 5632), y = ix3 a r k := ⟨y 0, y 1, y 2, eq_ix3 y⟩
  obtain rfl : a = 0 := Subsingleton.elim _ _
  blk_simp
  rw [after0_13, ins_eq]
  refine (ins_apply r k _).trans ?_
  refine congrArg (V m c main_arg3) (funext fun a => Fin.ext ((win0_8.rect_emb_val t _ a).trans (Eq.trans ?_ (win0_13.rect_emb_val t _ a).symm)))
  rw [(by decide +kernel : ∀ t : Fin grid0.N, win0_8.index t = win0_13.index t) t]

/-- THE COPY of the second weight. -/
theorem final14 : (dats m 0 c).arrAt 14 cfg0.N = fun i : S2x2816x1024.Idx => V m c main_arg4 i := by
  refine (dats m 0 c).arrAt_eq_of_covers 14 _ (by decide +kernel) fun t hf y => ?_
  obtain ⟨a, r, k, rfl⟩ : ∃ (a : Fin 1) (r : Fin 176) (k : Fin 1024), y = ix3 a r k := ⟨y 0, y 1, y 2, eq_ix3 y⟩
  obtain rfl : a = 0 := Subsingleton.elim _ _
  blk_simp
  rw [after0_14, outs_eq]
  refine (outs_apply r k _).trans ?_
  refine congrArg (V m c main_arg4) (funext fun a => Fin.ext ((win0_9.rect_emb_val t _ a).trans (Eq.trans ?_ (win0_14.rect_emb_val t _ a).symm)))
  rw [(by decide +kernel : ∀ t : Fin grid0.N, win0_9.index t = win0_14.index t) t]

end Cert.Proof.Qkv

end
-- ==== Proof.Qkv.Ref.lean ====
/- What the reference of the projection computes, read at an index. -/
module

public import proofs.«01_k».proof.Proof.Attn.Ref
public import proofs.«01_k».proof.Proof.Qkv.Array
public import proofs.«01_k».proof.Proof.Gen.QkvRefIdeal.Read

@[expose] public section

set_option maxRecDepth 16384

noncomputable section

namespace Cert.Proof.Qkv.Ref

open Idealize.ShloMosaic hiding ix0 ix1 ix2 ix3 ix4 ix5 eq_ix1 eq_ix2 eq_ix3 eq_ix4 eq_ix5
open Idealize.ShloMosaic.ValueIdx
open Cert.QkvRefIdeal Cert.QkvRefIdeal.Facts₀ Cert.QkvRefIdeal.Read Cert.Post
open Cert.Proof.Attn.Ref (ix5_of)
open scoped BigOperators

/-- Equal coordinates, equal indices. -/
theorem ix2_of {A B : Nat} {i : (⟨2, ![A, B]⟩ : Shape).Idx} {a : Fin A} {b : Fin B} (h0 : (i 0).val = a.val) (h1 : (i 1).val = b.val) : i = ix2 a b :=
  funext fun q => Fin.ext (match q with
  | ⟨0, _⟩ => h0
  | ⟨1, _⟩ => h1)

/-! ## The turn -/

section
variable (y : FVec Ideal S16x2048x1024 .f32) (b : Fin 16) (s : Fin 2048)

/-- The rows as heads, halves of heads and lanes. -/
def headsV : FVec Ideal S16x2048x8x2x64 .f32 := shapeCast _ y shapeCasts_S16x2048x1024_S16x2048x8x2x64
def lowV : FVec Ideal S16x2048x8x2x32 .f32 := extractStridedSlice S16x2048x8x2x32 ![0, 0, 0, 0, 0] (headsV y) slices_S16x2048x8x2x64_S16x2048x8x2x32_0_0_0_0_0
def highV : FVec Ideal S16x2048x8x2x32 .f32 := extractStridedSlice S16x2048x8x2x32 ![0, 0, 0, 0, 32] (headsV y) slices_S16x2048x8x2x64_S16x2048x8x2x32_0_0_0_0_32

/-- The rows turned, as the reference writes it for the queries and for the keys. -/
def turnV : FVec Ideal S16x2048x8x2x64 .f32 :=
  concatenate S16x2048x8x2x64 4 [⟨S16x2048x8x2x32, subf (mulf (lowV y) (val_main_v50 (F := Ideal))) (mulf (highV y) (val_main_v53 (F := Ideal)))⟩,
    ⟨S16x2048x8x2x32, addf (mulf (lowV y) (val_main_v57 (F := Ideal))) (mulf (highV y) (val_main_v60 (F := Ideal)))⟩]
    concatenates_S16x2048x8x2x32_S16x2048x8x2x32_S16x2048x8x2x64_d4

theorem headsV_apply (h : Fin 8) (u : Fin 2) (e : Fin 64) : headsV y (ix5 b s h u e) = y (ix3 b s ⟨128 * h.val + 64 * u.val + e.val, by omega⟩) := by
  refine shapeCast_apply _ _ _ _ ?_
  rw [Shape.rowMajor_val_three, Shape.rowMajor_val_five]
  show (b.val * 2048 + s.val) * 1024 + (128 * h.val + 64 * u.val + e.val) = (((b.val * 2048 + s.val) * 8 + h.val) * 2 + u.val) * 64 + e.val
  omega

theorem lowV_apply (h : Fin 8) (u : Fin 2) (p : Fin 32) : lowV y (ix5 b s h u p) = y (ix3 b s ⟨128 * h.val + 64 * u.val + p.val, by omega⟩) :=
  (extractStridedSlice_apply _ _ _ (ix5 b s h u p) (ix5 b s h u ⟨p.val, by omega⟩) fun a => match a with
    | ⟨0, _⟩ | ⟨1, _⟩ | ⟨2, _⟩ | ⟨3, _⟩ | ⟨4, _⟩ => (Nat.zero_add _).symm).trans (headsV_apply y b s h u _)

theorem highV_apply (h : Fin 8) (u : Fin 2) (p : Fin 32) : highV y (ix5 b s h u p) = y (ix3 b s ⟨128 * h.val + 64 * u.val + (32 + p.val), by omega⟩) :=
  (extractStridedSlice_apply _ _ _ (ix5 b s h u p) (ix5 b s h u ⟨32 + p.val, by omega⟩) fun a => match a with
    | ⟨0, _⟩ | ⟨1, _⟩ | ⟨2, _⟩ | ⟨3, _⟩ => (Nat.zero_add _).symm
    | ⟨4, _⟩ => rfl).trans (headsV_apply y b s h u _)

theorem cos_low (h : Fin 8) (u : Fin 2) (p : Fin 32) : val_main_v50 (F := Ideal) (ix5 b s h u p) = cosA (ix2 s p) := by
  rw [val_main_v50_apply, val_main_v49_apply, val_main_v42_apply]
  exact congrArg cosA ((eq_ix2 _).trans rfl)

theorem sin_low (h : Fin 8) (u : Fin 2) (p : Fin 32) : val_main_v53 (F := Ideal) (ix5 b s h u p) = sinA (ix2 s p) := by
  rw [val_main_v53_apply, val_main_v52_apply, val_main_v43_apply]
  exact congrArg sinA ((eq_ix2 _).trans rfl)

theorem turnV_apply (h : Fin 8) (u : Fin 2) (e : Fin 64) (d : Fin 1024) (hd : d.val = 128 * h.val + 64 * u.val + e.val) :
    turnV y (ix5 b s h u e) = rope (fun j => y (ix3 b s j)) s d := by
  unfold turnV rope
  by_cases he : e.val < 32
  · rw [dif_pos (by omega)]
    refine (concatenate_pair_apply_left (t := S16x2048x8x2x64) (s₁ := S16x2048x8x2x32) (s₂ := S16x2048x8x2x32) 4 _ _ _ (ix5 b s h u e) rfl (ix5 b s h u ⟨e.val, he⟩) (fun a => ?_)).trans ?_
    · match a with
      | ⟨0, _⟩ | ⟨1, _⟩ | ⟨2, _⟩ | ⟨3, _⟩ | ⟨4, _⟩ => rfl
    rw [ValueIdx.subf_apply, ValueIdx.mulf_apply, ValueIdx.mulf_apply, lowV_apply, highV_apply, cos_low, sin_low]
    have e1 : (⟨e.val, he⟩ : Fin 32) = ⟨d.val % 32, by omega⟩ := Fin.ext (by show e.val = d.val % 32; omega)
    have e2 : (⟨128 * h.val + 64 * u.val + e.val, by omega⟩ : Fin 1024) = d := Fin.ext hd.symm
    have e3 : (⟨128 * h.val + 64 * u.val + (32 + e.val), by omega⟩ : Fin 1024) = ⟨d.val + 32, by omega⟩ := Fin.ext (by show 128 * h.val + 64 * u.val + (32 + e.val) = d.val + 32; omega)
    simp only [e2, e3, ← e1]
  · rw [dif_neg (by omega)]
    refine (concatenate_pair_apply_right (t := S16x2048x8x2x64) (s₁ := S16x2048x8x2x32) (s₂ := S16x2048x8x2x32) 4 _ _ _ (ix5 b s h u e) rfl rfl (ix5 b s h u ⟨e.val - 32, by omega⟩)
      (fun a ha => ?_) ?_).trans ?_
    · match a with
      | ⟨0, _⟩ | ⟨1, _⟩ | ⟨2, _⟩ | ⟨3, _⟩ => rfl
      | ⟨4, _⟩ => exact absurd rfl ha
    · show e.val - 32 + 32 = e.val
      omega
    have hs := sin_low b s h u ⟨e.val - 32, by omega⟩
    have hc := cos_low b s h u ⟨e.val - 32, by omega⟩
    rw [ValueIdx.addf_apply, ValueIdx.mulf_apply, ValueIdx.mulf_apply, lowV_apply, highV_apply, (show val_main_v57 (F := Ideal) = val_main_v53 (F := Ideal) from rfl),
      (show val_main_v60 (F := Ideal) = val_main_v50 (F := Ideal) from rfl), hs, hc]
    have e1 : (⟨e.val - 32, by omega⟩ : Fin 32) = ⟨d.val % 32, by omega⟩ := Fin.ext (by show e.val - 32 = d.val % 32; omega)
    have e2 : (⟨128 * h.val + 64 * u.val + (32 + (e.val - 32)), by omega⟩ : Fin 1024) = d := Fin.ext (by show 128 * h.val + 64 * u.val + (32 + (e.val - 32)) = d.val; omega)
    have e3 : (⟨128 * h.val + 64 * u.val + (e.val - 32), by omega⟩ : Fin 1024) = ⟨d.val - 32, by omega⟩ := Fin.ext (by show 128 * h.val + 64 * u.val + (e.val - 32) = d.val - 32; omega)
    simp only [e2, e3, ← e1]

/-- The turned rows, with the heads side by side again. -/
theorem flat_apply (d : Fin 1024) : shapeCast S16x2048x1024 (turnV y) shapeCasts_S16x2048x8x2x64_S16x2048x1024 (ix3 b s d) = rope (fun j => y (ix3 b s j)) s d := by
  refine (shapeCast_apply _ _ _ (ix5 b s ⟨d.val / 128, by omega⟩ ⟨d.val / 64 % 2, by omega⟩ ⟨d.val % 64, by omega⟩) ?_).trans
    (turnV_apply y b s _ _ _ d (by show d.val = 128 * (d.val / 128) + 64 * (d.val / 64 % 2) + d.val % 64; omega))
  rw [Shape.rowMajor_val_three, Shape.rowMajor_val_five]
  show (((b.val * 2048 + s.val) * 8 + d.val / 128) * 2 + d.val / 64 % 2) * 64 + d.val % 64 = (b.val * 2048 + s.val) * 1024 + d.val
  omega
end

/-! ## The projection -/

variable (x0 : (⟨S16x2048x1024, .f32⟩ : BufTy).Contents (Elt Ideal)) (x1 : (⟨S2x24x1x6144, .f32⟩ : BufTy).Contents (Elt Ideal))
  (x2 : (⟨S1x1024x3072, .bf16⟩ : BufTy).Contents (Elt Ideal)) (b : Fin 16) (s : Fin 2048)

theorem modulation (k : Fin 6144) : val_main_v1 x1 (ix3 b 0 k) = x1 (ix4 0 ⟨b.val, by omega⟩ 0 k) := by
  rw [val_main_v1_apply, val_main_v0_apply]
  refine congrArg x1 (ix4_of rfl ?_ rfl ?_)
  · show ((b.val * 1 + 0) * 6144 + k.val) / 6144 % 16 = b.val
    omega
  · show ((b.val * 1 + 0) * 6144 + k.val) % 6144 = k.val
    omega

theorem modulated (k : Fin 1024) : val_main_v13 x0 x1 (ix3 b s k)
    = modul (fun k => x0 (ix3 b s k)) (fun k => x1 (ix4 0 ⟨b.val, by omega⟩ 0 ⟨k.val, by omega⟩)) (fun k => x1 (ix4 0 ⟨b.val, by omega⟩ 0 ⟨1024 + k.val, by omega⟩)) k := by
  rw [val_main_v13_apply, val_main_v12_apply, val_main_v2_apply, val_main_v11_apply, val_main_v10_apply, val_main_v9_apply, val_main_v3_apply,
    (ix3_of rfl rfl rfl : idx_main_v2 (idx_main_v12 (ix3 b s k)) = ix3 b 0 ⟨k.val, by omega⟩),
    (ix3_of rfl rfl rfl : idx_main_v3 (idx_main_v10 (ix3 b s k)) = ix3 b 0 ⟨1024 + k.val, by omega⟩), modulation, modulation]
  rfl

theorem weight (k : Fin 1024) (j : Fin 3072) : val_main_v15 x2 (ix2 k j) = x2 (ix3 0 k j) := by
  rw [val_main_v15_apply, val_main_v14_apply]
  refine congrArg x2 (ix3_of rfl ?_ ?_)
  · show (k.val * 3072 + j.val) / 3072 % 1024 = k.val
    omega
  · show (k.val * 3072 + j.val) % 3072 = j.val
    omega

theorem row_q (j : Fin 1024) : val_main_v45 x0 x1 x2 (ix3 b s j) = qkvRow x0 x1 x2 b s ⟨0 + j.val, by omega⟩ := by
  rw [val_main_v45_apply]
  unfold qkvRow proj
  refine Finset.sum_congr rfl fun k _ => ?_
  rw [(ix3_of rfl rfl rfl : lidx_main_v45 (ix3 b s j) k = ix3 b s k), modulated, val_main_v44_apply,
    (ix2_of rfl (Nat.zero_add _).symm : idx_main_v44 (ridx_main_v45 (ix3 b s j) k) = ix2 k ⟨0 + j.val, by omega⟩), weight]

theorem row_k (j : Fin 1024) : val_main_v65 x0 x1 x2 (ix3 b s j) = qkvRow x0 x1 x2 b s ⟨1024 + j.val, by omega⟩ := by
  rw [val_main_v65_apply]
  unfold qkvRow proj
  refine Finset.sum_congr rfl fun k _ => ?_
  rw [(ix3_of rfl rfl rfl : lidx_main_v65 (ix3 b s j) k = ix3 b s k), modulated, val_main_v64_apply,
    (ix2_of rfl rfl : idx_main_v64 (ridx_main_v65 (ix3 b s j) k) = ix2 k ⟨1024 + j.val, by omega⟩), weight]

theorem row_v (j : Fin 1024) : val_main_v85 x0 x1 x2 (ix3 b s j) = qkvRow x0 x1 x2 b s ⟨2048 + j.val, by omega⟩ := by
  rw [val_main_v85_apply]
  unfold qkvRow proj
  refine Finset.sum_congr rfl fun k _ => ?_
  rw [(ix3_of rfl rfl rfl : lidx_main_v85 (ix3 b s j) k = ix3 b s k), modulated, val_main_v84_apply,
    (ix2_of rfl rfl : idx_main_v84 (ridx_main_v85 (ix3 b s j) k) = ix2 k ⟨2048 + j.val, by omega⟩), weight]

theorem queries (d : Fin 1024) : val_main_v87 x0 x1 x2 (ix3 b s d) = turned x0 x1 x2 0 (by decide) b s d := by
  rw [val_main_v87_apply]
  exact (flat_apply (val_main_v45 x0 x1 x2) b s d).trans (congrArg (rope · s d) (funext fun j => row_q x0 x1 x2 b s j))

theorem keys (d : Fin 1024) : val_main_v89 x0 x1 x2 (ix3 b s d) = turned x0 x1 x2 1024 (by decide) b s d := by
  rw [val_main_v89_apply]
  exact (flat_apply (val_main_v65 x0 x1 x2) b s d).trans (congrArg (rope · s d) (funext fun j => row_k x0 x1 x2 b s j))

theorem values (d : Fin 1024) : val_main_v91 x0 x1 x2 (ix3 b d s) = qkvRow x0 x1 x2 b s ⟨2048 + d.val, by omega⟩ := by
  rw [val_main_v91_apply, val_main_v90_apply]
  exact (congrArg _ (ix3_of rfl rfl rfl)).trans (row_v x0 x1 x2 b s d)

end Cert.Proof.Qkv.Ref

end
-- ==== Proof.Qkv.Claim.lean ====
/- The projection with its rotary embedding and its reference end with the same arrays. -/
module

public import proofs.«01_k».proof.Defs
public import proofs.«01_k».proof.Proof.Qkv.Ref
public import proofs.«01_k».proof.Proof.Gen.QkvRefIdeal.Run

@[expose] public section

noncomputable section

namespace Cert.Proof.Qkv

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.QkvIdeal.Gen (V_main_arg0 V_main_arg1 V_main_arg2 V_main_arg3 V_main_arg4)

/-- THE VALUE CLAIM of the projection. -/
theorem claim : Cert.algebraic_QkvIdeal_QkvRefIdeal (hQkvIdeal := Cert.QkvIdeal.Gen.facts) (hQkvRefIdeal := Cert.QkvRefIdeal.Gen.facts) := by
  intro m g m' g' _ hag
  refine ⟨fun c => (Cert.QkvIdeal.Gen.dats (F := Ideal) m 0 c).arrAt 10 Cert.QkvIdeal.cfg0.N, fun c => (Cert.QkvIdeal.Gen.dats (F := Ideal) m 0 c).arrAt 11 Cert.QkvIdeal.cfg0.N,
    fun c => (Cert.QkvIdeal.Gen.dats (F := Ideal) m 0 c).arrAt 12 Cert.QkvIdeal.cfg0.N, fun c => (Cert.QkvIdeal.Gen.dats (F := Ideal) m 0 c).arrAt 13 Cert.QkvIdeal.cfg0.N,
    fun c => (Cert.QkvIdeal.Gen.dats (F := Ideal) m 0 c).arrAt 14 Cert.QkvIdeal.cfg0.N,
    (θ_run _ _ _).mono (fun r h c => h c) (Cert.QkvIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.QkvRefIdeal.Value.run m' g')⟩
  all_goals obtain ⟨h0, h1, h2, h3, h4⟩ := hag c
  · refine (Cert.QkvRefIdeal.Read.val_main_v87_eq (F := Ideal) m' c).trans (Eq.trans ?_ (final10 m c).symm)
    rw [h0, h1, h2]
    funext i
    obtain ⟨b, s, d, rfl⟩ : ∃ b s d, i = ix3 b s d := ⟨i 0, i 1, i 2, eq_ix3 i⟩
    refine (Ref.queries _ _ _ b s d).trans ?_
    rw [V_main_arg0, V_main_arg1, V_main_arg2]
  · refine (Cert.QkvRefIdeal.Read.val_main_v89_eq (F := Ideal) m' c).trans (Eq.trans ?_ (final11 m c).symm)
    rw [h0, h1, h2]
    funext i
    obtain ⟨b, s, d, rfl⟩ : ∃ b s d, i = ix3 b s d := ⟨i 0, i 1, i 2, eq_ix3 i⟩
    refine (Ref.keys _ _ _ b s d).trans ?_
    rw [V_main_arg0, V_main_arg1, V_main_arg2]
  · refine (Cert.QkvRefIdeal.Read.val_main_v91_eq (F := Ideal) _ _ _).trans (Eq.trans ?_ (final12 m c).symm)
    rw [h0, h1, h2]
    funext i
    obtain ⟨b, d, s, rfl⟩ : ∃ b d s, i = ix3 b d s := ⟨i 0, i 1, i 2, eq_ix3 i⟩
    refine (Ref.values _ _ _ b s d).trans ?_
    rw [V_main_arg0, V_main_arg1, V_main_arg2]
  · refine Eq.trans ?_ (final13 m c).symm
    rw [h3, V_main_arg3]
    rfl
  · refine Eq.trans ?_ (final14 m c).symm
    rw [h4, V_main_arg4]
    rfl

end Cert.Proof.Qkv

end
-- ==== Proof.Mod.Array.lean ====
/- The modulation after the run: the conditioning, times its logistic, times each layer's matrix; and the projection's weights
   with the queries' columns scaled. -/
module

public import proofs.«01_k».proof.Proof.Post.Blocks
public import proofs.«01_k».proof.Proof.Gen.ModIdeal.Value

@[expose] public section

set_option maxRecDepth 16384

noncomputable section

namespace Cert.Proof.Mod

open Idealize.ShloMosaic hiding ix0 ix1 ix2 ix3 ix4 ix5 eq_ix1 eq_ix2 eq_ix3 eq_ix4 eq_ix5
open Idealize.ShloMosaic.ValueIdx Idealize.ShloMosaic.TcCoe Idealize.ShloMosaic.Tactic Idealize.SL.Sem
open Cert.ModIdeal Cert.ModIdeal.Gen Cert.Post
open scoped BigOperators

/-- Column `j` of layer `l`'s modulation for the conditioning's row `r`. -/
def modRow (a0 : (⟨2, ![24, 1024]⟩ : Shape).Idx → EReal) (a1 : (⟨3, ![2, 1024, 6144]⟩ : Shape).Idx → EReal)
    (a2 : (⟨2, ![2, 6144]⟩ : Shape).Idx → EReal) (l : Fin 2) (r : Fin 24) (j : Fin 6144) : EReal :=
  (∑ k : Fin 1024, silu (a0 (ix2 r k)) * a1 (ix3 l k j)) + a2 (ix2 l j)

/-- The projection's weights, the queries' 1024 columns scaled. -/
def scaled (a3 : (⟨3, ![1, 1024, 3072]⟩ : Shape).Idx → EReal) (k : Fin 1024) (j : Fin 3072) : EReal :=
  a3 (ix3 0 k j) * if j.val < 1024 then Ideal.ofBits .f32 0x3E38AA3B#32 else 1

/-! ## One block -/

section
variable (i : grid0.Coords) (x0 : Vec Ideal S24x1024 .f32) (x1 : Vec Ideal S1x1024x1024 .f32) (x2 : Vec Ideal S1x1x1024 .f32) (x3 : Vec Ideal S1x1024x256 .f32)

theorem mod_apply (r : Fin 24) (d : Fin 1024) :
    out0_4 i x0 x1 x2 x3 (ix3 0 r d) = (∑ k : Fin 1024, silu (x0 (ix2 r k)) * x1 (ix3 0 k d)) + x2 (ix3 0 0 d) := by
  unfold out0_4
  rw [View.canon_cons_unit_lit _ _ _ (by decide), View.ld_unit_lit _ _ (by decide), View.ld_unit_lit _ _ (by decide), View.ld_unit_lit _ _ (by decide)]
  unfold k0_pay2
  refine (shapeCast_ab_1ab_apply _ _ 0 r d).trans ?_
  rw [addf_apply]
  refine congrArg₂ (· + ·) ?_ ?_
  · refine (Ideal.matmul_plain_apply none _ _ _ r d).trans ?_
    rw [constant_apply, Ideal.ofBits_zero_f32, zero_add]
    refine Finset.sum_congr rfl fun k _ => ?_
    rw [truncf_apply, truncf_apply, shapeCast_1ab_ab_apply]
    exact congrArg (· * _) (siluV_apply x0 (ix2 r k))
  · refine (broadcastTo_apply _ _ _ (ix2 0 d) (fun a => ?_)).trans (shapeCast_1ab_ab_apply x2 _ 0 d)
    match a with
    | ⟨0, _⟩ | ⟨1, _⟩ => rfl

/-- The factor of the point's columns. -/
theorem scaled_apply (k : Fin 1024) (d : Fin 256) :
    out0_5 i x0 x1 x2 x3 (ix3 0 k d) = x3 (ix3 0 k d) * if 256 * (6 * (i 0).val + (i 1).val) + d.val < 1024 then Ideal.ofBits .f32 0x3E38AA3B#32 else 1 := by
  unfold out0_5
  rw [View.canon_cons_unit_lit _ _ _ (by decide), View.ld_unit_lit _ _ (by decide)]
  unfold k0_pay1 k0_pay3
  refine (shapeCast_ab_1ab_apply _ _ 0 k d).trans ?_
  rw [truncf_apply, mulf_apply, shapeCast_1ab_ab_apply]
  refine congrArg (_ * ·) ?_
  show Scalar.select (Scalar.cmpi .slt (Scalar.addi (Scalar.muli (BitVec.ofNat 32 (i 0).val) 6#32) (BitVec.ofNat 32 (i 1).val)) 4#32) _ _ = _
  rw [(by decide +kernel : ∀ (a : Fin 2) (b : Fin 6), Scalar.cmpi .slt (Scalar.addi (Scalar.muli (BitVec.ofNat 32 a.val) 6#32) (BitVec.ofNat 32 b.val)) 4#32
    = if 6 * a.val + b.val < 4 then 1#1 else 0#1) (i 0) (i 1)]
  by_cases h : 6 * (i 0).val + (i 1).val < 4
  · rw [if_pos h, if_pos (by omega)]
    rfl
  · rw [if_neg h, if_neg (by omega)]
    exact Ideal.ofBits_one_f32
end

/-! ## The blocks read and written -/

variable (m : (ℓ : Loc nD τ sig) → Buf (Elt Ideal) ℓ) (ρ : Dev nD → PrngReg) (c : Dev nD) (t : Fin cfg0.N)

/-- The point's layer, and its tile of columns. -/
abbrev layerOf : Fin 2 := ⟨(grid0.coords t 0).val, (grid0.coords t 0).isLt⟩
theorem tile_lt : (grid0.coords t 1).val < 6 := (grid0.coords t 1).isLt
theorem layer_lt : (grid0.coords t 0).val < 2 := (grid0.coords t 0).isLt
abbrev colOf (d : Fin 1024) : Fin 6144 := ⟨1024 * (grid0.coords t 1).val + d.val, by have := tile_lt t; omega⟩
abbrev slabOf (d : Fin 256) : Fin 3072 := ⟨256 * (6 * (grid0.coords t 0).val + (grid0.coords t 1).val) + d.val, by have := tile_lt t; have := layer_lt t; omega⟩

/-- The bias as the call is given it. -/
theorem V_bias (l : Fin 2) (j : Fin 6144) : V m c main_v0 (ix3 l 0 j) = m ((c : Thread nD τ).loc main_arg2) (ix2 l j) := by
  have h : V m c main_v0 = shapeCast S2x1x6144 (m ((c : Thread nD τ).loc main_arg2) : S2x6144.Idx → EReal) shapeCasts_S2x6144_S2x1x6144 := rfl
  rw [h]
  refine shapeCast_apply _ _ _ (ix2 l j : S2x6144.Idx) ?_
  rw [Shape.rowMajor_val_two, Shape.rowMajor_val_three]
  show l.val * 6144 + j.val = (l.val * 1 + 0) * 6144 + j.val
  omega

theorem blk0 (r : Fin 24) (k : Fin 1024) : iblk m c 0 t (ix2 r k) = V m c main_arg0 (ix2 r k) := by
  refine congrArg (V m c main_arg0) (funext fun a => Fin.ext ((win0_0.rect_emb_val t _ a).trans ?_))
  rw [(by decide +kernel : ∀ t : Fin grid0.N, win0_0.index t = ![0, 0]) t]
  match a with
  | ⟨0, _⟩ | ⟨1, _⟩ => exact Nat.zero_add _

theorem blk1 (k d : Fin 1024) : iblk m c 1 t (ix3 0 k d) = V m c main_arg1 (ix3 (layerOf t) k (colOf t d)) := by
  refine congrArg (V m c main_arg1) (funext fun a => Fin.ext ((win0_1.rect_emb_val t _ a).trans ?_))
  rw [(by decide +kernel : ∀ t : Fin grid0.N, win0_1.index t = ![(grid0.coords t 0).val, 0, (grid0.coords t 1).val]) t]
  match a with
  | ⟨0, _⟩ => exact Nat.mul_one _
  | ⟨1, _⟩ => exact Nat.zero_add _
  | ⟨2, _⟩ => exact congrArg (· + d.val) (Nat.mul_comm _ 1024)

theorem blk2 (d : Fin 1024) : iblk m c 2 t (ix3 0 0 d) = V m c main_v0 (ix3 (layerOf t) 0 (colOf t d)) := by
  refine congrArg (V m c main_v0) (funext fun a => Fin.ext ((win0_2.rect_emb_val t _ a).trans ?_))
  rw [(by decide +kernel : ∀ t : Fin grid0.N, win0_2.index t = ![(grid0.coords t 0).val, 0, (grid0.coords t 1).val]) t]
  match a with
  | ⟨0, _⟩ => exact Nat.mul_one _
  | ⟨1, _⟩ => rfl
  | ⟨2, _⟩ => exact congrArg (· + d.val) (Nat.mul_comm _ 1024)

theorem blk3 (k : Fin 1024) (d : Fin 256) : iblk m c 3 t (ix3 0 k d) = V m c main_arg3 (ix3 0 k (slabOf t d)) := by
  refine congrArg (V m c main_arg3) (funext fun a => Fin.ext ((win0_3.rect_emb_val t _ a).trans ?_))
  rw [(by decide +kernel : ∀ t : Fin grid0.N, win0_3.index t = ![0, 0, 6 * (grid0.coords t 0).val + (grid0.coords t 1).val]) t]
  match a with
  | ⟨0, _⟩ => rfl
  | ⟨1, _⟩ => exact Nat.zero_add _
  | ⟨2, _⟩ => exact congrArg (· + d.val) (Nat.mul_comm _ 256)

theorem emb4 (r : Fin 24) (d : Fin 1024) : ((cfg0.win 4).blk t).view.emb (ix3 0 r d) = ix3 (layerOf t) r (colOf t d) := by
  refine funext fun a => Fin.ext ((win0_4.rect_emb_val t _ a).trans ?_)
  rw [(by decide +kernel : ∀ t : Fin grid0.N, win0_4.index t = ![(grid0.coords t 0).val, 0, (grid0.coords t 1).val]) t]
  match a with
  | ⟨0, _⟩ => exact Nat.mul_one _
  | ⟨1, _⟩ => exact Nat.zero_add _
  | ⟨2, _⟩ => exact congrArg (· + d.val) (Nat.mul_comm _ 1024)

theorem emb5 (k : Fin 1024) (d : Fin 256) : ((cfg0.win 5).blk t).view.emb (ix3 0 k d) = ix3 0 k (slabOf t d) := by
  refine funext fun a => Fin.ext ((win0_5.rect_emb_val t _ a).trans ?_)
  rw [(by decide +kernel : ∀ t : Fin grid0.N, win0_5.index t = ![0, 0, 6 * (grid0.coords t 0).val + (grid0.coords t 1).val]) t]
  match a with
  | ⟨0, _⟩ => rfl
  | ⟨1, _⟩ => exact Nat.zero_add _
  | ⟨2, _⟩ => exact congrArg (· + d.val) (Nat.mul_comm _ 256)

/-- THE MODULATION after the run. -/
theorem final4 : (dats m 0 c).arrAt 4 cfg0.N = fun i : S2x24x6144.Idx =>
    modRow (m ((c : Thread nD τ).loc main_arg0)) (m ((c : Thread nD τ).loc main_arg1)) (m ((c : Thread nD τ).loc main_arg2)) (i 0) (i 1) (i 2) := by
  refine (dats m 0 c).arrAt_eq_of_covers 4 _ (by decide +kernel) fun t hf y => ?_
  obtain ⟨a, r, d, rfl⟩ : ∃ (a : Fin 1) (r : Fin 24) (d : Fin 1024), y = ix3 a r d := ⟨y 0, y 1, y 2, eq_ix3 y⟩
  obtain rfl : a = 0 := Subsingleton.elim _ _
  rw [emb4]
  blk_simp
  rw [after0_4]
  refine (mod_apply ..).trans ?_
  rw [blk2, V_bias]
  simp only [blk0 m c t, blk1 m c t]
  rw [V_main_arg0 m c, V_main_arg1 m c]
  rfl

/-- THE SCALED WEIGHTS after the run. -/
theorem final5 : (dats m 0 c).arrAt 5 cfg0.N = fun i : S1x1024x3072.Idx => scaled (m ((c : Thread nD τ).loc main_arg3)) (i 1) (i 2) := by
  refine (dats m 0 c).arrAt_eq_of_covers 5 _ (by decide +kernel) fun t hf y => ?_
  obtain ⟨a, k, d, rfl⟩ : ∃ (a : Fin 1) (k : Fin 1024) (d : Fin 256), y = ix3 a k d := ⟨y 0, y 1, y 2, eq_ix3 y⟩
  obtain rfl : a = 0 := Subsingleton.elim _ _
  rw [emb5]
  blk_simp
  rw [after0_5]
  refine (scaled_apply ..).trans ?_
  rw [blk3, V_main_arg3 m c]
  rfl

end Cert.Proof.Mod

end
-- ==== Proof.Mod.Ref.lean ====
/- What the reference of the modulation computes, read at an index. -/
module

public import proofs.«01_k».proof.Proof.Mod.Array
public import proofs.«01_k».proof.Proof.Gen.ModRefIdeal.Read
public import Idealize.ShloMosaic.Lib.KernelVsHost

@[expose] public section

set_option maxRecDepth 16384

noncomputable section

namespace Cert.Proof.Mod.Ref

open Idealize.ShloMosaic hiding ix0 ix1 ix2 ix3 ix4 ix5 eq_ix1 eq_ix2 eq_ix3 eq_ix4 eq_ix5
open Idealize.ShloMosaic.ValueIdx
open Cert.ModRefIdeal Cert.ModRefIdeal.Read Cert.Post
open scoped BigOperators

variable (x0 : (⟨S24x1024, .f32⟩ : BufTy).Contents (Elt Ideal)) (x1 : (⟨S2x1024x6144, .f32⟩ : BufTy).Contents (Elt Ideal))
  (x2 : (⟨S2x6144, .f32⟩ : BufTy).Contents (Elt Ideal)) (x3 : (⟨S1x1024x3072, .f32⟩ : BufTy).Contents (Elt Ideal))

/-- Equal coordinates, equal indices. -/
theorem ix2_of {A B : Nat} {i : (⟨2, ![A, B]⟩ : Shape).Idx} {a : Fin A} {b : Fin B} (h0 : (i 0).val = a.val) (h1 : (i 1).val = b.val) : i = ix2 a b :=
  funext fun q => Fin.ext (match q with
  | ⟨0, _⟩ => h0
  | ⟨1, _⟩ => h1)

theorem modulation (l : Fin 2) (r : Fin 24) (j : Fin 6144) : val_main_v5 x0 x1 x2 (ix3 l r j) = modRow x0 x1 x2 l r j := by
  rw [val_main_v5_apply, val_main_v2_apply, val_main_v4_apply, val_main_v3_apply]
  unfold modRow
  refine congrArg₂ (· + ·) ?_ (congrArg x2 (ix2_of rfl rfl))
  rw [(ix3_of rfl rfl rfl : idx_main_v2 (ix3 l r j) = ix3 r l j), val_main_v1_apply]
  refine Finset.sum_congr rfl fun k _ => congrArg₂ (· * ·) ?_ (congrArg x1 (ix3_of rfl rfl rfl))
  rw [(ix2_of rfl rfl : lidx_main_v1 (ix3 r l j) k = ix2 r k), val_main_v0_apply]
  rfl

theorem weights (k : Fin 1024) (j : Fin 3072) : val_main_v11 x3 (ix3 0 k j) = scaled x3 k j := by
  refine (show val_main_v11 x3 (ix3 0 k j) = val_main_v10 x3 (ix3 0 k j) from rfl).trans ?_
  unfold val_main_v10 scaled
  by_cases hj : j.val < 1024
  · rw [if_pos hj]
    refine (concatenate_pair_apply_left (t := S1x1024x3072) (s₁ := S1x1024x1024) (s₂ := S1x1024x2048) 2 _ _ _ (ix3 0 k j) rfl (ix3 0 k ⟨j.val, hj⟩) (fun a => ?_)).trans ?_
    · match a with
      | ⟨0, _⟩ | ⟨1, _⟩ | ⟨2, _⟩ => rfl
    rw [val_main_v8_apply, val_main_v6_apply]
    exact congrArg (· * _) (congrArg x3 (ix3_of rfl rfl rfl))
  · rw [if_neg hj, mul_one]
    refine (concatenate_pair_apply_right (t := S1x1024x3072) (s₁ := S1x1024x1024) (s₂ := S1x1024x2048) 2 _ _ _ (ix3 0 k j) rfl rfl (ix3 0 k ⟨j.val - 1024, by omega⟩)
      (fun a ha => ?_) ?_).trans ?_
    · match a with
      | ⟨0, _⟩ | ⟨1, _⟩ => rfl
      | ⟨2, _⟩ => exact absurd rfl ha
    · show j.val - 1024 + 1024 = j.val
      omega
    rw [val_main_v9_apply]
    refine congrArg x3 (ix3_of rfl rfl ?_)
    show 1024 + (j.val - 1024) = j.val
    omega

end Cert.Proof.Mod.Ref

end
-- ==== Proof.Mod.Claim.lean ====
/- The modulation and its reference end with the same arrays. -/
module

public import proofs.«01_k».proof.Defs
public import proofs.«01_k».proof.Proof.Mod.Ref
public import proofs.«01_k».proof.Proof.Gen.ModRefIdeal.Run

@[expose] public section

noncomputable section

namespace Cert.Proof.Mod

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem

/-- THE VALUE CLAIM of the modulation. -/
theorem claim : Cert.algebraic_ModIdeal_ModRefIdeal (hModIdeal := Cert.ModIdeal.Gen.facts) (hModRefIdeal := Cert.ModRefIdeal.Gen.facts) := by
  intro m g m' g' _ hag
  refine ⟨fun c => (Cert.ModIdeal.Gen.dats (F := Ideal) m 0 c).arrAt 4 Cert.ModIdeal.cfg0.N, fun c => (Cert.ModIdeal.Gen.dats (F := Ideal) m 0 c).arrAt 5 Cert.ModIdeal.cfg0.N,
    (θ_run _ _ _).mono (fun r h c => h c) (Cert.ModIdeal.Value.run_blocks m g),
    (θ_run _ _ _).mono (fun r h c => ⟨(h c).1.trans ?_, (h c).2.1.trans ?_, (h c).2.2⟩) (Cert.ModRefIdeal.Value.run m' g')⟩
  all_goals obtain ⟨h0, h1, h2, h3⟩ := hag c
  · refine (Cert.ModRefIdeal.Read.val_main_v5_eq (F := Ideal) _ _ _).trans (Eq.trans ?_ (final4 m c).symm)
    rw [h0, h1, h2]
    funext i
    obtain ⟨l, r, j, rfl⟩ : ∃ l r j, i = ix3 l r j := ⟨i 0, i 1, i 2, eq_ix3 i⟩
    exact Ref.modulation _ _ _ l r j
  · refine (Cert.ModRefIdeal.Read.val_main_v11_eq (F := Ideal) _).trans (Eq.trans ?_ (final5 m c).symm)
    rw [h3]
    funext i
    obtain ⟨a, k, j, rfl⟩ : ∃ (a : Fin 1) (k : Fin 1024) (j : Fin 3072), i = ix3 a k j := ⟨i 0, i 1, i 2, eq_ix3 i⟩
    obtain rfl : a = 0 := Subsingleton.elim _ _
    exact Ref.weights _ k j

end Cert.Proof.Mod

end
-- ==== Proof.lean ====
module

public import proofs.«01_k».proof.Proof.Frames
public import proofs.«01_k».proof.Proof.Out.Claim
public import proofs.«01_k».proof.Proof.Pool.Claim
public import proofs.«01_k».proof.Proof.Attn.Claim
public import proofs.«01_k».proof.Proof.Ctx.Claim
public import proofs.«01_k».proof.Proof.Qkv.Claim
public import proofs.«01_k».proof.Proof.Mod.Claim

@[expose] public section

noncomputable section

namespace Cert.Proof

open Idealize.ShloMosaic Idealize.SL.Sem

theorem claim : Cert.Claim :=
  ⟨Cert.Kernel.Gen.facts,
   Cert.KernelIdeal.Gen.facts,
   Cert.ReferenceIdeal.Gen.facts,
   Cert.Pool.Gen.facts,
   Cert.PoolIdeal.Gen.facts,
   Cert.PoolRefIdeal.Gen.facts,
   Cert.Out.Gen.facts,
   Cert.OutIdeal.Gen.facts,
   Cert.OutRefIdeal.Gen.facts,
   Cert.Qkv.Gen.facts,
   Cert.QkvIdeal.Gen.facts,
   Cert.QkvRefIdeal.Gen.facts,
   Cert.Ctx.Gen.facts,
   Cert.CtxIdeal.Gen.facts,
   Cert.CtxRefIdeal.Gen.facts,
   Cert.Mod.Gen.facts,
   Cert.ModIdeal.Gen.facts,
   Cert.ModRefIdeal.Gen.facts,
   Attn.preFacts,
   Pool.preFacts,
   Frames.frame_Kernel,
   Frames.frame_KernelIdeal,
   Frames.frame_KernelIdeal_pre,
   Frames.frame_ReferenceIdeal,
   Frames.frame_ReferenceIdeal_pre,
   Frames.frame_Pool,
   Frames.frame_PoolIdeal,
   Frames.frame_PoolIdeal_pre,
   Frames.frame_PoolRefIdeal,
   Frames.frame_PoolRefIdeal_pre,
   Frames.frame_Out,
   Frames.frame_OutIdeal,
   Frames.frame_OutRefIdeal,
   Frames.frame_Qkv,
   Frames.frame_QkvIdeal,
   Frames.frame_QkvRefIdeal,
   Frames.frame_Ctx,
   Frames.frame_CtxIdeal,
   Frames.frame_CtxRefIdeal,
   Frames.frame_Mod,
   Frames.frame_ModIdeal,
   Frames.frame_ModRefIdeal,
   trivial, Attn.claim, trivial, Pool.claim, trivial, Out.claim, trivial, Qkv.claim, trivial, Ctx.claim, trivial, Mod.claim⟩

end Cert.Proof

end
